-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sum (m : (ℓ : Loc Cert.Sum.nD Cert.Sum.τ Cert.Sum.sig) → Buf (Elt Bits) ℓ) : Prop :=
  True

def Pre_SumReference (m : (ℓ : Loc Cert.SumReference.nD Cert.SumReference.τ Cert.SumReference.sig) → Buf (Elt Bits) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1)
      ∧ r.2.mem ((c.tc : Thread Cert.Sum.nD Cert.Sum.τ).loc Cert.Sum.main_arg2) = m ((c.tc : Thread Cert.Sum.nD Cert.Sum.τ).loc Cert.Sum.main_arg2)
      ∧ r.2.mem ((c.tc : Thread Cert.Sum.nD Cert.Sum.τ).loc Cert.Sum.main_arg3) = m ((c.tc : Thread Cert.Sum.nD Cert.Sum.τ).loc Cert.Sum.main_arg3))
      ∧ r.2.sem = fun _ => 0)

def quiescent_SumReference [hSumReference : Cert.SumReference.Facts] : Prop :=
  ∀ (m : (ℓ : Loc Cert.SumReference.nD Cert.SumReference.τ Cert.SumReference.sig) → Buf (Elt Bits) ℓ) (g : Dev Cert.SumReference.nD → PrngReg), Pre_SumReference m →
    θ_run (Cert.SumReference.defs (F := Bits)) (onTc (τ := Cert.SumReference.τ) (Cert.SumReference.main (F := Bits))) ⟨m, fun _ => 0, g⟩ (fun r => (∀ c : Dev Cert.SumReference.nD,
      r.2.mem ((c.tc : Thread Cert.SumReference.nD Cert.SumReference.τ).loc Cert.SumReference.main_arg0) = m ((c.tc : Thread Cert.SumReference.nD Cert.SumReference.τ).loc Cert.SumReference.main_arg0)
      ∧ r.2.mem ((c.tc : Thread Cert.SumReference.nD Cert.SumReference.τ).loc Cert.SumReference.main_arg1) = m ((c.tc : Thread Cert.SumReference.nD Cert.SumReference.τ).loc Cert.SumReference.main_arg1)
      ∧ r.2.mem ((c.tc : Thread Cert.SumReference.nD Cert.SumReference.τ).loc Cert.SumReference.main_arg2) = m ((c.tc : Thread Cert.SumReference.nD Cert.SumReference.τ).loc Cert.SumReference.main_arg2)
      ∧ r.2.mem ((c.tc : Thread Cert.SumReference.nD Cert.SumReference.τ).loc Cert.SumReference.main_arg3) = m ((c.tc : Thread Cert.SumReference.nD Cert.SumReference.τ).loc Cert.SumReference.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3))
      ∧ r.2.sem = fun _ => 0)

def preserves_Kernel_KernelIdeal : Prop :=
  IdealRules.bf16_pair.PackStatement Cert.KernelIdeal.S8x128
  ∧ IdealRules.bf16_pair.Statement Cert.KernelIdeal.S1x8x2x128 Cert.KernelIdeal.S1x8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Sum_SumReference [hSum : Cert.Sum.Facts] [hSumReference : Cert.SumReference.Facts] : Prop :=
  ∀ (m : (ℓ : Loc Cert.Sum.nD Cert.Sum.τ Cert.Sum.sig) → Buf (Elt Bits) ℓ) (g : Dev Cert.Sum.nD → PrngReg)
    (m' : (ℓ : Loc Cert.SumReference.nD Cert.SumReference.τ Cert.SumReference.sig) → Buf (Elt Bits) ℓ) (g' : Dev Cert.SumReference.nD → PrngReg), Pre_Sum m →
    (∀ c : Dev Cert.Sum.nD,
      m' ((c.tc : Thread Cert.SumReference.nD Cert.SumReference.τ).loc Cert.SumReference.main_arg0) = m ((c.tc : Thread Cert.Sum.nD Cert.Sum.τ).loc Cert.Sum.main_arg0)
      ∧ m' ((c.tc : Thread Cert.SumReference.nD Cert.SumReference.τ).loc Cert.SumReference.main_arg1) = m ((c.tc : Thread Cert.Sum.nD Cert.Sum.τ).loc Cert.Sum.main_arg1)
      ∧ m' ((c.tc : Thread Cert.SumReference.nD Cert.SumReference.τ).loc Cert.SumReference.main_arg2) = m ((c.tc : Thread Cert.Sum.nD Cert.Sum.τ).loc Cert.Sum.main_arg2)
      ∧ m' ((c.tc : Thread Cert.SumReference.nD Cert.SumReference.τ).loc Cert.SumReference.main_arg3) = m ((c.tc : Thread Cert.Sum.nD Cert.Sum.τ).loc Cert.Sum.main_arg3)) →
    ∃ (v0 : (c : Dev Cert.Sum.nD) → Buf (Elt Bits) ((c.tc : Thread Cert.Sum.nD Cert.Sum.τ).loc Cert.Sum.main_v4)),
      θ_run (Cert.Sum.defs (F := Bits)) (onTc (τ := Cert.Sum.τ) (Cert.Sum.main (F := Bits))) ⟨m, fun _ => 0, g⟩ (fun r => ∀ c : Dev Cert.Sum.nD,
          r.2.mem ((c.tc : Thread Cert.Sum.nD Cert.Sum.τ).loc Cert.Sum.main_v4) = v0 c
          ∧ r.2.mem ((c.tc : Thread Cert.Sum.nD Cert.Sum.τ).loc Cert.Sum.main_arg0) = m ((c.tc : Thread Cert.Sum.nD Cert.Sum.τ).loc Cert.Sum.main_arg0)
          ∧ r.2.mem ((c.tc : Thread Cert.Sum.nD Cert.Sum.τ).loc Cert.Sum.main_arg1) = m ((c.tc : Thread Cert.Sum.nD Cert.Sum.τ).loc Cert.Sum.main_arg1)
          ∧ r.2.mem ((c.tc : Thread Cert.Sum.nD Cert.Sum.τ).loc Cert.Sum.main_arg2) = m ((c.tc : Thread Cert.Sum.nD Cert.Sum.τ).loc Cert.Sum.main_arg2)
          ∧ r.2.mem ((c.tc : Thread Cert.Sum.nD Cert.Sum.τ).loc Cert.Sum.main_arg3) = m ((c.tc : Thread Cert.Sum.nD Cert.Sum.τ).loc Cert.Sum.main_arg3))
      ∧ θ_run (Cert.SumReference.defs (F := Bits)) (onTc (τ := Cert.SumReference.τ) (Cert.SumReference.main (F := Bits))) ⟨m', fun _ => 0, g'⟩ (fun r => ∀ c : Dev Cert.SumReference.nD,
          r.2.mem ((c.tc : Thread Cert.SumReference.nD Cert.SumReference.τ).loc Cert.SumReference.main_v3) = v0 c
          ∧ r.2.mem ((c.tc : Thread Cert.SumReference.nD Cert.SumReference.τ).loc Cert.SumReference.main_arg0) = m' ((c.tc : Thread Cert.SumReference.nD Cert.SumReference.τ).loc Cert.SumReference.main_arg0)
          ∧ r.2.mem ((c.tc : Thread Cert.SumReference.nD Cert.SumReference.τ).loc Cert.SumReference.main_arg1) = m' ((c.tc : Thread Cert.SumReference.nD Cert.SumReference.τ).loc Cert.SumReference.main_arg1)
          ∧ r.2.mem ((c.tc : Thread Cert.SumReference.nD Cert.SumReference.τ).loc Cert.SumReference.main_arg2) = m' ((c.tc : Thread Cert.SumReference.nD Cert.SumReference.τ).loc Cert.SumReference.main_arg2)
          ∧ r.2.mem ((c.tc : Thread Cert.SumReference.nD Cert.SumReference.τ).loc Cert.SumReference.main_arg3) = m' ((c.tc : Thread Cert.SumReference.nD Cert.SumReference.τ).loc Cert.SumReference.main_arg3))

def preserves_Quant_QuantIdeal : Prop :=
  IdealRules.named_const.Statement Cert.QuantIdeal.κ "inv_d" .f32 0x39124925#32 ((1 / 7168 : ℝ) : EReal)
  ∧ IdealRules.named_const.Statement Cert.QuantIdeal.κ "inv_log_2" .f32 0x3FB8AA3B#32 (((Real.log 2)⁻¹ : ℝ) : EReal)

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)
      ∧ m' ((c.tc : Thread Cert.QuantReferenceIdeal.nD Cert.QuantReferenceIdeal.τ).loc Cert.QuantReferenceIdeal.main_arg3) = m ((c.tc : Thread Cert.QuantIdeal.nD Cert.QuantIdeal.τ).loc Cert.QuantIdeal.main_arg3)) →
    ∃ (v0 : (c : Dev Cert.QuantIdeal.nD) → Buf (Elt Ideal) ((c.tc : Thread Cert.QuantIdeal.nD Cert.QuantIdeal.τ).loc Cert.QuantIdeal.main_v4)) (v1 : (c : Dev Cert.QuantIdeal.nD) → Buf (Elt Ideal) ((c.tc : Thread Cert.QuantIdeal.nD Cert.QuantIdeal.τ).loc Cert.QuantIdeal.main_v5)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v4) = v0 c
          ∧ r.2.mem ((c.tc : Thread Cert.QuantIdeal.nD Cert.QuantIdeal.τ).loc Cert.QuantIdeal.main_v5) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v20) = v0 c
          ∧ r.2.mem ((c.tc : Thread Cert.QuantReferenceIdeal.nD Cert.QuantReferenceIdeal.τ).loc Cert.QuantReferenceIdeal.main_v21) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2)
          ∧ r.2.mem ((c.tc : Thread Cert.QuantReferenceIdeal.nD Cert.QuantReferenceIdeal.τ).loc Cert.QuantReferenceIdeal.main_arg3) = m' ((c.tc : Thread Cert.QuantReferenceIdeal.nD Cert.QuantReferenceIdeal.τ).loc Cert.QuantReferenceIdeal.main_arg3))

def Claim : Prop :=
  ∃ (hKernel : Cert.Kernel.Facts) (hKernelIdeal : Cert.KernelIdeal.Facts) (hReferenceIdeal : Cert.ReferenceIdeal.Facts) (hSum : Cert.Sum.Facts) (hSumReference : Cert.SumReference.Facts) (hQuant : Cert.Quant.Facts) (hQuantIdeal : Cert.QuantIdeal.Facts) (hQuantReferenceIdeal : Cert.QuantReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Sum (hSum := hSum)
    ∧ quiescent_SumReference (hSumReference := hSumReference)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal (hKernelIdeal := hKernelIdeal) (hReferenceIdeal := hReferenceIdeal)
    ∧ bitexact_Sum_SumReference (hSum := hSum) (hSumReference := hSumReference)
    ∧ preserves_Quant_QuantIdeal
    ∧ algebraic_QuantIdeal_QuantReferenceIdeal (hQuantIdeal := hQuantIdeal) (hQuantReferenceIdeal := hQuantReferenceIdeal)
-- ==== Kernel.lean ====
abbrev S1152x7168 : Shape := ⟨2, ![1152, 7168]⟩
abbrev S7168x10240 : Shape := ⟨2, ![7168, 10240]⟩
abbrev S56x80 : Shape := ⟨2, ![56, 80]⟩
abbrev S1152x128 : Shape := ⟨2, ![1152, 128]⟩
abbrev S3x384x64x128 : Shape := ⟨4, ![3, 384, 64, 128]⟩
abbrev S3x384x8x128 : Shape := ⟨4, ![3, 384, 8, 128]⟩
abbrev S7168x1024 : Shape := ⟨2, ![7168, 1024]⟩
abbrev S7168x512 : Shape := ⟨2, ![7168, 512]⟩
abbrev S1x1 : Shape := ⟨2, ![1, 1]⟩
abbrev S128x128 : Shape := ⟨2, ![128, 128]⟩
abbrev S384x7168 : Shape := ⟨2, ![384, 7168]⟩
abbrev S384x512 : Shape := ⟨2, ![384, 512]⟩
abbrev S8x128 : Shape := ⟨2, ![8, 128]⟩
abbrev S3x384x4x128 : Shape := ⟨4, ![3, 384, 4, 128]⟩
abbrev S1x8x1x128 : Shape := ⟨4, ![1, 8, 1, 128]⟩
abbrev S1x8x2x128 : Shape := ⟨4, ![1, 8, 2, 128]⟩

abbrev nBuf : Space → Nat
  | .hbm => 8
  | .vmem => 10
  | .smem => 1
  | _ => 0

abbrev bufTy : (tb : Table) → Fin (tcTables nBuf tb) → BufTy
  | .hbm, ⟨0, _⟩ => ⟨S1152x7168, .bf16⟩
  | .hbm, ⟨1, _⟩ => ⟨S7168x10240, .fp8e4m3⟩
  | .hbm, ⟨2, _⟩ => ⟨S56x80, .f32⟩
  | .hbm, ⟨3, _⟩ => ⟨S1152x128, .f32⟩
  | .hbm, ⟨4, _⟩ => ⟨S1152x128, .f32⟩
  | .hbm, ⟨5, _⟩ => ⟨S3x384x64x128, .bf16⟩
  | .hbm, ⟨6, _⟩ => ⟨S3x384x8x128, .bf16⟩
  | .hbm, ⟨7, _⟩ => ⟨S3x384x8x128, .bf16⟩
  | .local _ .vmem, ⟨0, _⟩ => ⟨S1152x7168, .bf16⟩
  | .local _ .vmem, ⟨1, _⟩ => ⟨S7168x1024, .fp8e4m3⟩
  | .local _ .vmem, ⟨2, _⟩ => ⟨S7168x1024, .fp8e4m3⟩
  | .local _ .vmem, ⟨3, _⟩ => ⟨S1152x128, .f32⟩
  | .local _ .vmem, ⟨4, _⟩ => ⟨S1152x128, .f32⟩
  | .local _ .vmem, ⟨5, _⟩ => ⟨S3x384x8x128, .bf16⟩
  | .local _ .vmem, ⟨6, _⟩ => ⟨S3x384x8x128, .bf16⟩
  | .local _ .vmem, ⟨7, _⟩ => ⟨S3x384x8x128, .bf16⟩
  | .local _ .vmem, ⟨8, _⟩ => ⟨S3x384x8x128, .bf16⟩
  | .local _ .vmem, ⟨9, _⟩ => ⟨S7168x512, .bf16⟩
  | .local _ .smem, ⟨0, _⟩ => ⟨S56x80, .f32⟩
  | _, _ => ⟨S1152x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [BitOps F]

abbrev grid0 : Pipeline.Grid := ⟨1, ![10], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) (c0_i32_5 : BitVec 32) (c0_i32_6 : BitVec 32) : Fin 2 → Nat :=
  let c0 : Index := 0#32
  let arg0 : BitVec 32 := BitVec.ofNat 32 (i 0).val
  let c8_i32_4 : BitVec 32 := 8#32
  let v9 : BitVec 32 := Scalar.muli arg0 c8_i32_4
  let v10 : BitVec 32 := Scalar.addi v9 c0_i32_5
  let v11 : BitVec 32 := Scalar.addi v10 c0_i32_6
  let v12 : Index := Scalar.indexCast v11
  ![0, v12.toNat]
def k0_off2 (i : grid0.Coords) (c0_i32_30 : BitVec 32) (c0_i32_31 : BitVec 32) : Fin 2 → Nat :=
  let c1 : Index := 1#32
  let arg0 : BitVec 32 := BitVec.ofNat 32 (i 0).val
  let c8_i32_29 : BitVec 32 := 8#32
  let v61 : BitVec 32 := Scalar.muli arg0 c8_i32_29
  let v62 : BitVec 32 := Scalar.addi v61 c0_i32_30
  let v63 : BitVec 32 := Scalar.addi v62 c0_i32_31
  let v64 : Index := Scalar.indexCast v63
  ![1, v64.toNat]
def k0_off3 (i : grid0.Coords) (c0_i32_61 : BitVec 32) (c0_i32_62 : BitVec 32) : Fin 2 → Nat :=
  let c2 : Index := 2#32
  let arg0 : BitVec 32 := BitVec.ofNat 32 (i 0).val
  let c8_i32_60 : BitVec 32 := 8#32
  let v113 : BitVec 32 := Scalar.muli arg0 c8_i32_60
  let v114 : BitVec 32 := Scalar.addi v113 c0_i32_61
  let v115 : BitVec 32 := Scalar.addi v114 c0_i32_62
  let v116 : Index := Scalar.indexCast v115
  ![2, v116.toNat]
def k0_off4 (i : grid0.Coords) (c0_i32_92 : BitVec 32) (c0_i32_93 : BitVec 32) : Fin 2 → Nat :=
  let c3 : Index := 3#32
  let arg0 : BitVec 32 := BitVec.ofNat 32 (i 0).val
  let c8_i32_91 : BitVec 32 := 8#32
  let v165 : BitVec 32 := Scalar.muli arg0 c8_i32_91
  let v166 : BitVec 32 := Scalar.addi v165 c0_i32_92
  let v167 : BitVec 32 := Scalar.addi v166 c0_i32_93
  let v168 : Index := Scalar.indexCast v167
  ![3, v168.toNat]
def k0_off5 (i : grid0.Coords) (c0_i32_123 : BitVec 32) (c0_i32_124 : BitVec 32) : Fin 2 → Nat :=
  let c4 : Index := 4#32
  let arg0 : BitVec 32 := BitVec.ofNat 32 (i 0).val
  let c8_i32_122 : BitVec 32 := 8#32
  let v217 : BitVec 32 := Scalar.muli arg0 c8_i32_122
  let v218 : BitVec 32 := Scalar.addi v217 c0_i32_123
  let v219 : BitVec 32 := Scalar.addi v218 c0_i32_124
  let v220 : Index := Scalar.indexCast v219
  ![4, v220.toNat]
def k0_off6 (i : grid0.Coords) (c0_i32_153 : BitVec 32) (c0_i32_154 : BitVec 32) : Fin 2 → Nat :=
  let c5 : Index := 5#32
  let arg0 : BitVec 32 := BitVec.ofNat 32 (i 0).val
  let c8_i32_152 : BitVec 32 := 8#32
  let v269 : BitVec 32 := Scalar.muli arg0 c8_i32_152
  let v270 : BitVec 32 := Scalar.addi v269 c0_i32_153
  let v271 : BitVec 32 := Scalar.addi v270 c0_i32_154
  let v272 : Index := Scalar.indexCast v271
  ![5, v272.toNat]
def k0_off7 (i : grid0.Coords) (c0_i32_183 : BitVec 32) (c0_i32_184 : BitVec 32) : Fin 2 → Nat :=
  let c6 : Index := 6#32
  let arg0 : BitVec 32 := BitVec.ofNat 32 (i 0).val
  let c8_i32_182 : BitVec 32 := 8#32
  let v321 : BitVec 32 := Scalar.muli arg0 c8_i32_182
  let v322 : BitVec 32 := Scalar.addi v321 c0_i32_183
  let v323 : BitVec 32 := Scalar.addi v322 c0_i32_184
  let v324 : Index := Scalar.indexCast v323
  ![6, v324.toNat]
def k0_off8 (i : grid0.Coords) (c0_i32_213 : BitVec 32) (c0_i32_214 : BitVec 32) : Fin 2 → Nat :=
  let c7 : Index := 7#32
  let arg0 : BitVec 32 := BitVec.ofNat 32 (i 0).val
  let c8_i32_212 : BitVec 32 := 8#32
  let v373 : BitVec 32 := Scalar.muli arg0 c8_i32_212
  let v374 : BitVec 32 := Scalar.addi v373 c0_i32_213
  let v375 : BitVec 32 := Scalar.addi v374 c0_i32_214
  let v376 : Index := Scalar.indexCast v375
  ![7, v376.toNat]
def k0_off9 (i : grid0.Coords) (c0_i32_243 : BitVec 32) (c0_i32_244 : BitVec 32) : Fin 2 → Nat :=
  let c8 : Index := 8#32
  let arg0 : BitVec 32 := BitVec.ofNat 32 (i 0).val
  let c8_i32_242 : BitVec 32 := 8#32
  let v425 : BitVec 32 := Scalar.muli arg0 c8_i32_242
  let v426 : BitVec 32 := Scalar.addi v425 c0_i32_243
  let v427 : BitVec 32 := Scalar.addi v426 c0_i32_244
  let v428 : Index := Scalar.indexCast v427
  ![8, v428.toNat]
def k0_off10 (i : grid0.Coords) (c0_i32_273 : BitVec 32) (c0_i32_274 : BitVec 32) : Fin 2 → Nat :=
  let c9 : Index := 9#32
  let arg0 : BitVec 32 := BitVec.ofNat 32 (i 0).val
  let c8_i32_272 : BitVec 32 := 8#32
  let v477 : BitVec 32 := Scalar.muli arg0 c8_i32_272
  let v478 : BitVec 32 := Scalar.addi v477 c0_i32_273
  let v479 : BitVec 32 := Scalar.addi v478 c0_i32_274
  let v480 : Index := Scalar.indexCast v479
  ![9, v480.toNat]
def k0_off11 (i : grid0.Coords) (c0_i32_303 : BitVec 32) (c0_i32_304 : BitVec 32) : Fin 2 → Nat :=
  let c10 : Index := 10#32
  let arg0 : BitVec 32 := BitVec.ofNat 32 (i 0).val
  let c8_i32_302 : BitVec 32 := 8#32
  let v529 : BitVec 32 := Scalar.muli arg0 c8_i32_302
  let v530 : BitVec 32 := Scalar.addi v529 c0_i32_303
  let v531 : BitVec 32 := Scalar.addi v530 c0_i32_304
  let v532 : Index := Scalar.indexCast v531
  ![10, v532.toNat]
def k0_off12 (i : grid0.Coords) (c0_i32_333 : BitVec 32) (c0_i32_334 : BitVec 32) : Fin 2 → Nat :=
  let c11 : Index := 11#32
  let arg0 : BitVec 32 := BitVec.ofNat 32 (i 0).val
  let c8_i32_332 : BitVec 32 := 8#32
  let v581 : BitVec 32 := Scalar.muli arg0 c8_i32_332
  let v582 : BitVec 32 := Scalar.addi v581 c0_i32_333
  let v583 : BitVec 32 := Scalar.addi v582 c0_i32_334
  let v584 : Index := Scalar.indexCast v583
  ![11, v584.toNat]
def k0_off13 (i : grid0.Coords) (c0_i32_363 : BitVec 32) (c0_i32_364 : BitVec 32) : Fin 2 → Nat :=
  let c12 : Index := 12#32
  let arg0 : BitVec 32 := BitVec.ofNat 32 (i 0).val
  let c8_i32_362 : BitVec 32 := 8#32
  let v633 : BitVec 32 := Scalar.muli arg0 c8_i32_362
  let v634 : BitVec 32 := Scalar.addi v633 c0_i32_363
  let v635 : BitVec 32 := Scalar.addi v634 c0_i32_364
  let v636 : Index := Scalar.indexCast v635
  ![12, v636.toNat]
def k0_off14 (i : grid0.Coords) (c0_i32_393 : BitVec 32) (c0_i32_394 : BitVec 32) : Fin 2 → Nat :=
  let c13 : Index := 13#32
  let arg0 : BitVec 32 := BitVec.ofNat 32 (i 0).val
  let c8_i32_392 : BitVec 32 := 8#32
  let v685 : BitVec 32 := Scalar.muli arg0 c8_i32_392
  let v686 : BitVec 32 := Scalar.addi v685 c0_i32_393
  let v687 : BitVec 32 := Scalar.addi v686 c0_i32_394
  let v688 : Index := Scalar.indexCast v687
  ![13, v688.toNat]
def k0_off15 (i : grid0.Coords) (c0_i32_423 : BitVec 32) (c0_i32_424 : BitVec 32) : Fin 2 → Nat :=
  let c14 : Index := 14#32
  let arg0 : BitVec 32 := BitVec.ofNat 32 (i 0).val
  let c8_i32_422 : BitVec 32 := 8#32
  let v737 : BitVec 32 := Scalar.muli arg0 c8_i32_422
  let v738 : BitVec 32 := Scalar.addi v737 c0_i32_423
  let v739 : BitVec 32 := Scalar.addi v738 c0_i32_424
  let v740 : Index := Scalar.indexCast v739
  ![14, v740.toNat]
def k0_off16 (i : grid0.Coords) (c0_i32_453 : BitVec 32) (c0_i32_454 : BitVec 32) : Fin 2 → Nat :=
  let c15 : Index := 15#32
  let arg0 : BitVec 32 := BitVec.ofNat 32 (i 0).val
  let c8_i32_452 : BitVec 32 := 8#32
  let v789 : BitVec 32 := Scalar.muli arg0 c8_i32_452
  let v790 : BitVec 32 := Scalar.addi v789 c0_i32_453
  let v791 : BitVec 32 := Scalar.addi v790 c0_i32_454
  let v792 : Index := Scalar.indexCast v791
  ![15, v792.toNat]
def k0_off17 (i : grid0.Coords) (c0_i32_483 : BitVec 32) (c0_i32_484 : BitVec 32) : Fin 2 → Nat :=
  let c16 : Index := 16#32
  let arg0 : BitVec 32 := BitVec.ofNat 32 (i 0).val
  let c8_i32_482 : BitVec 32 := 8#32
  let v841 : BitVec 32 := Scalar.muli arg0 c8_i32_482
  let v842 : BitVec 32 := Scalar.addi v841 c0_i32_483
  let v843 : BitVec 32 := Scalar.addi v842 c0_i32_484
  let v844 : Index := Scalar.indexCast v843
  ![16, v844.toNat]
def k0_off18 (i : grid0.Coords) (c0_i32_513 : BitVec 32) (c0_i32_514 : BitVec 32) : Fin 2 → Nat :=
  let c17 : Index := 17#32
  let arg0 : BitVec 32 := BitVec.ofNat 32 (i 0).val
  let c8_i32_512 : BitVec 32 := 8#32
  let v893 : BitVec 32 := Scalar.muli arg0 c8_i32_512
  let v894 : BitVec 32 := Scalar.addi v893 c0_i32_513
  let v895 : BitVec 32 := Scalar.addi v894 c0_i32_514
  let v896 : Index := Scalar.indexCast v895
  ![17, v896.toNat]
def k0_off19 (i : grid0.Coords) (c0_i32_543 : BitVec 32) (c0_i32_544 : BitVec 32) : Fin 2 → Nat :=
  let c18 : Index := 18#32
  let arg0 : BitVec 32 := BitVec.ofNat 32 (i 0).val
  let c8_i32_542 : BitVec 32 := 8#32
  let v945 : BitVec 32 := Scalar.muli arg0 c8_i32_542
  let v946 : BitVec 32 := Scalar.addi v945 c0_i32_543
  let v947 : BitVec 32 := Scalar.addi v946 c0_i32_544
  let v948 : Index := Scalar.indexCast v947
  ![18, v948.toNat]
def k0_off20 (i : grid0.Coords) (c0_i32_573 : BitVec 32) (c0_i32_574 : BitVec 32) : Fin 2 → Nat :=
  let c19 : Index := 19#32
  let arg0 : BitVec 32 := BitVec.ofNat 32 (i 0).val
  let c8_i32_572 : BitVec 32 := 8#32
  let v997 : BitVec 32 := Scalar.muli arg0 c8_i32_572
  let v998 : BitVec 32 := Scalar.addi v997 c0_i32_573
  let v999 : BitVec 32 := Scalar.addi v998 c0_i32_574
  let v1000 : Index := Scalar.indexCast v999
  ![19, v1000.toNat]
def k0_off21 (i : grid0.Coords) (c0_i32_603 : BitVec 32) (c0_i32_604 : BitVec 32) : Fin 2 → Nat :=
  let c20 : Index := 20#32
  let arg0 : BitVec 32 := BitVec.ofNat 32 (i 0).val
  let c8_i32_602 : BitVec 32 := 8#32
  let v1049 : BitVec 32 := Scalar.muli arg0 c8_i32_602
  let v1050 : BitVec 32 := Scalar.addi v1049 c0_i32_603
  let v1051 : BitVec 32 := Scalar.addi v1050 c0_i32_604
  let v1052 : Index := Scalar.indexCast v1051
  ![20, v1052.toNat]
def k0_off22 (i : grid0.Coords) (c0_i32_633 : BitVec 32) (c0_i32_634 : BitVec 32) : Fin 2 → Nat :=
  let c21 : Index := 21#32
  let arg0 : BitVec 32 := BitVec.ofNat 32 (i 0).val
  let c8_i32_632 : BitVec 32 := 8#32
  let v1101 : BitVec 32 := Scalar.muli arg0 c8_i32_632
  let v1102 : BitVec 32 := Scalar.addi v1101 c0_i32_633
  let v1103 : BitVec 32 := Scalar.addi v1102 c0_i32_634
  let v1104 : Index := Scalar.indexCast v1103
  ![21, v1104.toNat]
def k0_off23 (i : grid0.Coords) (c0_i32_663 : BitVec 32) (c0_i32_664 : BitVec 32) : Fin 2 → Nat :=
  let c22 : Index := 22#32
  let arg0 : BitVec 32 := BitVec.ofNat 32 (i 0).val
  let c8_i32_662 : BitVec 32 := 8#32
  let v1153 : BitVec 32 := Scalar.muli arg0 c8_i32_662
  let v1154 : BitVec 32 := Scalar.addi v1153 c0_i32_663
  let v1155 : BitVec 32 := Scalar.addi v1154 c0_i32_664
  let v1156 : Index := Scalar.indexCast v1155
  ![22, v1156.toNat]
def k0_off24 (i : grid0.Coords) (c0_i32_693 : BitVec 32) (c0_i32_694 : BitVec 32) : Fin 2 → Nat :=
  let c23 : Index := 23#32
  let arg0 : BitVec 32 := BitVec.ofNat 32 (i 0).val
  let c8_i32_692 : BitVec 32 := 8#32
  let v1205 : BitVec 32 := Scalar.muli arg0 c8_i32_692
  let v1206 : BitVec 32 := Scalar.addi v1205 c0_i32_693
  let v1207 : BitVec 32 := Scalar.addi v1206 c0_i32_694
  let v1208 : Index := Scalar.indexCast v1207
  ![23, v1208.toNat]
def k0_off25 (i : grid0.Coords) (c0_i32_723 : BitVec 32) (c0_i32_724 : BitVec 32) : Fin 2 → Nat :=
  let c24 : Index := 24#32
  let arg0 : BitVec 32 := BitVec.ofNat 32 (i 0).val
  let c8_i32_722 : BitVec 32 := 8#32
  let v1257 : BitVec 32 := Scalar.muli arg0 c8_i32_722
  let v1258 : BitVec 32 := Scalar.addi v1257 c0_i32_723
  let v1259 : BitVec 32 := Scalar.addi v1258 c0_i32_724
  let v1260 : Index := Scalar.indexCast v1259
  ![24, v1260.toNat]
def k0_off26 (i : grid0.Coords) (c0_i32_753 : BitVec 32) (c0_i32_754 : BitVec 32) : Fin 2 → Nat :=
  let c25 : Index := 25#32
  let arg0 : BitVec 32 := BitVec.ofNat 32 (i 0).val
  let c8_i32_752 : BitVec 32 := 8#32
  let v1309 : BitVec 32 := Scalar.muli arg0 c8_i32_752
  let v1310 : BitVec 32 := Scalar.addi v1309 c0_i32_753
  let v1311 : BitVec 32 := Scalar.addi v1310 c0_i32_754
  let v1312 : Index := Scalar.indexCast v1311
  ![25, v1312.toNat]
def k0_off27 (i : grid0.Coords) (c0_i32_783 : BitVec 32) (c0_i32_784 : BitVec 32) : Fin 2 → Nat :=
  let c26 : Index := 26#32
  let arg0 : BitVec 32 := BitVec.ofNat 32 (i 0).val
  let c8_i32_782 : BitVec 32 := 8#32
  let v1361 : BitVec 32 := Scalar.muli arg0 c8_i32_782
  let v1362 : BitVec 32 := Scalar.addi v1361 c0_i32_783
  let v1363 : BitVec 32 := Scalar.addi v1362 c0_i32_784
  let v1364 : Index := Scalar.indexCast v1363
  ![26, v1364.toNat]
def k0_off28 (i : grid0.Coords) (c0_i32_813 : BitVec 32) (c0_i32_814 : BitVec 32) : Fin 2 → Nat :=
  let c27 : Index := 27#32
  let arg0 : BitVec 32 := BitVec.ofNat 32 (i 0).val
  let c8_i32_812 : BitVec 32 := 8#32
  let v1413 : BitVec 32 := Scalar.muli arg0 c8_i32_812
  let v1414 : BitVec 32 := Scalar.addi v1413 c0_i32_813
  let v1415 : BitVec 32 := Scalar.addi v1414 c0_i32_814
  let v1416 : Index := Scalar.indexCast v1415
  ![27, v1416.toNat]
def k0_off29 (i : grid0.Coords) (c0_i32_843 : BitVec 32) (c0_i32_844 : BitVec 32) : Fin 2 → Nat :=
  let c28 : Index := 28#32
  let arg0 : BitVec 32 := BitVec.ofNat 32 (i 0).val
  let c8_i32_842 : BitVec 32 := 8#32
  let v1465 : BitVec 32 := Scalar.muli arg0 c8_i32_842
  let v1466 : BitVec 32 := Scalar.addi v1465 c0_i32_843
  let v1467 : BitVec 32 := Scalar.addi v1466 c0_i32_844
  let v1468 : Index := Scalar.indexCast v1467
  ![28, v1468.toNat]
def k0_off30 (i : grid0.Coords) (c0_i32_873 : BitVec 32) (c0_i32_874 : BitVec 32) : Fin 2 → Nat :=
  let c29 : Index := 29#32
  let arg0 : BitVec 32 := BitVec.ofNat 32 (i 0).val
  let c8_i32_872 : BitVec 32 := 8#32
  let v1517 : BitVec 32 := Scalar.muli arg0 c8_i32_872
  let v1518 : BitVec 32 := Scalar.addi v1517 c0_i32_873
  let v1519 : BitVec 32 := Scalar.addi v1518 c0_i32_874
  let v1520 : Index := Scalar.indexCast v1519
  ![29, v1520.toNat]
def k0_off31 (i : grid0.Coords) (c0_i32_903 : BitVec 32) (c0_i32_904 : BitVec 32) : Fin 2 → Nat :=
  let c30 : Index := 30#32
  let arg0 : BitVec 32 := BitVec.ofNat 32 (i 0).val
  let c8_i32_902 : BitVec 32 := 8#32
  let v1569 : BitVec 32 := Scalar.muli arg0 c8_i32_902
  let v1570 : BitVec 32 := Scalar.addi v1569 c0_i32_903
  let v1571 : BitVec 32 := Scalar.addi v1570 c0_i32_904
  let v1572 : Index := Scalar.indexCast v1571
  ![30, v1572.toNat]
def k0_off32 (i : grid0.Coords) (c0_i32_933 : BitVec 32) (c0_i32_934 : BitVec 32) : Fin 2 → Nat :=
  let c31 : Index := 31#32
  let arg0 : BitVec 32 := BitVec.ofNat 32 (i 0).val
  let c8_i32_932 : BitVec 32 := 8#32
  let v1621 : BitVec 32 := Scalar.muli arg0 c8_i32_932
  let v1622 : BitVec 32 := Scalar.addi v1621 c0_i32_933
  let v1623 : BitVec 32 := Scalar.addi v1622 c0_i32_934
  let v1624 : Index := Scalar.indexCast v1623
  ![31, v1624.toNat]
def k0_off33 (i : grid0.Coords) (c0_i32_963 : BitVec 32) (c0_i32_964 : BitVec 32) : Fin 2 → Nat :=
  let c32 : Index := 32#32
  let arg0 : BitVec 32 := BitVec.ofNat 32 (i 0).val
  let c8_i32_962 : BitVec 32 := 8#32
  let v1673 : BitVec 32 := Scalar.muli arg0 c8_i32_962
  let v1674 : BitVec 32 := Scalar.addi v1673 c0_i32_963
  let v1675 : BitVec 32 := Scalar.addi v1674 c0_i32_964
  let v1676 : Index := Scalar.indexCast v1675
  ![32, v1676.toNat]
def k0_off34 (i : grid0.Coords) (c0_i32_993 : BitVec 32) (c0_i32_994 : BitVec 32) : Fin 2 → Nat :=
  let c33 : Index := 33#32
  let arg0 : BitVec 32 := BitVec.ofNat 32 (i 0).val
  let c8_i32_992 : BitVec 32 := 8#32
  let v1725 : BitVec 32 := Scalar.muli arg0 c8_i32_992
  let v1726 : BitVec 32 := Scalar.addi v1725 c0_i32_993
  let v1727 : BitVec 32 := Scalar.addi v1726 c0_i32_994
  let v1728 : Index := Scalar.indexCast v1727
  ![33, v1728.toNat]
def k0_off35 (i : grid0.Coords) (c0_i32_1023 : BitVec 32) (c0_i32_1024 : BitVec 32) : Fin 2 → Nat :=
  let c34 : Index := 34#32
  let arg0 : BitVec 32 := BitVec.ofNat 32 (i 0).val
  let c8_i32_1022 : BitVec 32 := 8#32
  let v1777 : BitVec 32 := Scalar.muli arg0 c8_i32_1022
  let v1778 : BitVec 32 := Scalar.addi v1777 c0_i32_1023
  let v1779 : BitVec 32 := Scalar.addi v1778 c0_i32_1024
  let v1780 : Index := Scalar.indexCast v1779
  ![34, v1780.toNat]
def k0_off36 (i : grid0.Coords) (c0_i32_1053 : BitVec 32) (c0_i32_1054 : BitVec 32) : Fin 2 → Nat :=
  let c35 : Index := 35#32
  let arg0 : BitVec 32 := BitVec.ofNat 32 (i 0).val
  let c8_i32_1052 : BitVec 32 := 8#32
  let v1829 : BitVec 32 := Scalar.muli arg0 c8_i32_1052
  let v1830 : BitVec 32 := Scalar.addi v1829 c0_i32_1053
  let v1831 : BitVec 32 := Scalar.addi v1830 c0_i32_1054
  let v1832 : Index := Scalar.indexCast v1831
  ![35, v1832.toNat]
def k0_off37 (i : grid0.Coords) (c0_i32_1083 : BitVec 32) (c0_i32_1084 : BitVec 32) : Fin 2 → Nat :=
  let c36 : Index := 36#32
  let arg0 : BitVec 32 := BitVec.ofNat 32 (i 0).val
  let c8_i32_1082 : BitVec 32 := 8#32
  let v1881 : BitVec 32 := Scalar.muli arg0 c8_i32_1082
  let v1882 : BitVec 32 := Scalar.addi v1881 c0_i32_1083
  let v1883 : BitVec 32 := Scalar.addi v1882 c0_i32_1084
  let v1884 : Index := Scalar.indexCast v1883
  ![36, v1884.toNat]
def k0_off38 (i : grid0.Coords) (c0_i32_1113 : BitVec 32) (c0_i32_1114 : BitVec 32) : Fin 2 → Nat :=
  let c37 : Index := 37#32
  let arg0 : BitVec 32 := BitVec.ofNat 32 (i 0).val
  let c8_i32_1112 : BitVec 32 := 8#32
  let v1933 : BitVec 32 := Scalar.muli arg0 c8_i32_1112
  let v1934 : BitVec 32 := Scalar.addi v1933 c0_i32_1113
  let v1935 : BitVec 32 := Scalar.addi v1934 c0_i32_1114
  let v1936 : Index := Scalar.indexCast v1935
  ![37, v1936.toNat]
def k0_off39 (i : grid0.Coords) (c0_i32_1143 : BitVec 32) (c0_i32_1144 : BitVec 32) : Fin 2 → Nat :=
  let c38 : Index := 38#32
  let arg0 : BitVec 32 := BitVec.ofNat 32 (i 0).val
  let c8_i32_1142 : BitVec 32 := 8#32
  let v1985 : BitVec 32 := Scalar.muli arg0 c8_i32_1142
  let v1986 : BitVec 32 := Scalar.addi v1985 c0_i32_1143
  let v1987 : BitVec 32 := Scalar.addi v1986 c0_i32_1144
  let v1988 : Index := Scalar.indexCast v1987
  ![38, v1988.toNat]
def k0_off40 (i : grid0.Coords) (c0_i32_1173 : BitVec 32) (c0_i32_1174 : BitVec 32) : Fin 2 → Nat :=
  let c39 : Index := 39#32
  let arg0 : BitVec 32 := BitVec.ofNat 32 (i 0).val
  let c8_i32_1172 : BitVec 32 := 8#32
  let v2037 : BitVec 32 := Scalar.muli arg0 c8_i32_1172
  let v2038 : BitVec 32 := Scalar.addi v2037 c0_i32_1173
  let v2039 : BitVec 32 := Scalar.addi v2038 c0_i32_1174
  let v2040 : Index := Scalar.indexCast v2039
  ![39, v2040.toNat]
def k0_off41 (i : grid0.Coords) (c0_i32_1203 : BitVec 32) (c0_i32_1204 : BitVec 32) : Fin 2 → Nat :=
  let c40 : Index := 40#32
  let arg0 : BitVec 32 := BitVec.ofNat 32 (i 0).val
  let c8_i32_1202 : BitVec 32 := 8#32
  let v2089 : BitVec 32 := Scalar.muli arg0 c8_i32_1202
  let v2090 : BitVec 32 := Scalar.addi v2089 c0_i32_1203
  let v2091 : BitVec 32 := Scalar.addi v2090 c0_i32_1204
  let v2092 : Index := Scalar.indexCast v2091
  ![40, v2092.toNat]
def k0_off42 (i : grid0.Coords) (c0_i32_1233 : BitVec 32) (c0_i32_1234 : BitVec 32) : Fin 2 → Nat :=
  let c41 : Index := 41#32
  let arg0 : BitVec 32 := BitVec.ofNat 32 (i 0).val
  let c8_i32_1232 : BitVec 32 := 8#32
  let v2141 : BitVec 32 := Scalar.muli arg0 c8_i32_1232
  let v2142 : BitVec 32 := Scalar.addi v2141 c0_i32_1233
  let v2143 : BitVec 32 := Scalar.addi v2142 c0_i32_1234
  let v2144 : Index := Scalar.indexCast v2143
  ![41, v2144.toNat]
def k0_off43 (i : grid0.Coords) (c0_i32_1263 : BitVec 32) (c0_i32_1264 : BitVec 32) : Fin 2 → Nat :=
  let c42 : Index := 42#32
  let arg0 : BitVec 32 := BitVec.ofNat 32 (i 0).val
  let c8_i32_1262 : BitVec 32 := 8#32
  let v2193 : BitVec 32 := Scalar.muli arg0 c8_i32_1262
  let v2194 : BitVec 32 := Scalar.addi v2193 c0_i32_1263
  let v2195 : BitVec 32 := Scalar.addi v2194 c0_i32_1264
  let v2196 : Index := Scalar.indexCast v2195
  ![42, v2196.toNat]
def k0_off44 (i : grid0.Coords) (c0_i32_1293 : BitVec 32) (c0_i32_1294 : BitVec 32) : Fin 2 → Nat :=
  let c43 : Index := 43#32
  let arg0 : BitVec 32 := BitVec.ofNat 32 (i 0).val
  let c8_i32_1292 : BitVec 32 := 8#32
  let v2245 : BitVec 32 := Scalar.muli arg0 c8_i32_1292
  let v2246 : BitVec 32 := Scalar.addi v2245 c0_i32_1293
  let v2247 : BitVec 32 := Scalar.addi v2246 c0_i32_1294
  let v2248 : Index := Scalar.indexCast v2247
  ![43, v2248.toNat]
def k0_off45 (i : grid0.Coords) (c0_i32_1323 : BitVec 32) (c0_i32_1324 : BitVec 32) : Fin 2 → Nat :=
  let c44 : Index := 44#32
  let arg0 : BitVec 32 := BitVec.ofNat 32 (i 0).val
  let c8_i32_1322 : BitVec 32 := 8#32
  let v2297 : BitVec 32 := Scalar.muli arg0 c8_i32_1322
  let v2298 : BitVec 32 := Scalar.addi v2297 c0_i32_1323
  let v2299 : BitVec 32 := Scalar.addi v2298 c0_i32_1324
  let v2300 : Index := Scalar.indexCast v2299
  ![44, v2300.toNat]
def k0_off46 (i : grid0.Coords) (c0_i32_1353 : BitVec 32) (c0_i32_1354 : BitVec 32) : Fin 2 → Nat :=
  let c45 : Index := 45#32
  let arg0 : BitVec 32 := BitVec.ofNat 32 (i 0).val
  let c8_i32_1352 : BitVec 32 := 8#32
  let v2349 : BitVec 32 := Scalar.muli arg0 c8_i32_1352
  let v2350 : BitVec 32 := Scalar.addi v2349 c0_i32_1353
  let v2351 : BitVec 32 := Scalar.addi v2350 c0_i32_1354
  let v2352 : Index := Scalar.indexCast v2351
  ![45, v2352.toNat]
def k0_off47 (i : grid0.Coords) (c0_i32_1383 : BitVec 32) (c0_i32_1384 : BitVec 32) : Fin 2 → Nat :=
  let c46 : Index := 46#32
  let arg0 : BitVec 32 := BitVec.ofNat 32 (i 0).val
  let c8_i32_1382 : BitVec 32 := 8#32
  let v2401 : BitVec 32 := Scalar.muli arg0 c8_i32_1382
  let v2402 : BitVec 32 := Scalar.addi v2401 c0_i32_1383
  let v2403 : BitVec 32 := Scalar.addi v2402 c0_i32_1384
  let v2404 : Index := Scalar.indexCast v2403
  ![46, v2404.toNat]
def k0_off48 (i : grid0.Coords) (c0_i32_1413 : BitVec 32) (c0_i32_1414 : BitVec 32) : Fin 2 → Nat :=
  let c47 : Index := 47#32
  let arg0 : BitVec 32 := BitVec.ofNat 32 (i 0).val
  let c8_i32_1412 : BitVec 32 := 8#32
  let v2453 : BitVec 32 := Scalar.muli arg0 c8_i32_1412
  let v2454 : BitVec 32 := Scalar.addi v2453 c0_i32_1413
  let v2455 : BitVec 32 := Scalar.addi v2454 c0_i32_1414
  let v2456 : Index := Scalar.indexCast v2455
  ![47, v2456.toNat]
def k0_off49 (i : grid0.Coords) (c0_i32_1443 : BitVec 32) (c0_i32_1444 : BitVec 32) : Fin 2 → Nat :=
  let c48 : Index := 48#32
  let arg0 : BitVec 32 := BitVec.ofNat 32 (i 0).val
  let c8_i32_1442 : BitVec 32 := 8#32
  let v2505 : BitVec 32 := Scalar.muli arg0 c8_i32_1442
  let v2506 : BitVec 32 := Scalar.addi v2505 c0_i32_1443
  let v2507 : BitVec 32 := Scalar.addi v2506 c0_i32_1444
  let v2508 : Index := Scalar.indexCast v2507
  ![48, v2508.toNat]
def k0_off50 (i : grid0.Coords) (c0_i32_1473 : BitVec 32) (c0_i32_1474 : BitVec 32) : Fin 2 → Nat :=
  let c49 : Index := 49#32
  let arg0 : BitVec 32 := BitVec.ofNat 32 (i 0).val
  let c8_i32_1472 : BitVec 32 := 8#32
  let v2557 : BitVec 32 := Scalar.muli arg0 c8_i32_1472
  let v2558 : BitVec 32 := Scalar.addi v2557 c0_i32_1473
  let v2559 : BitVec 32 := Scalar.addi v2558 c0_i32_1474
  let v2560 : Index := Scalar.indexCast v2559
  ![49, v2560.toNat]
def k0_off51 (i : grid0.Coords) (c0_i32_1503 : BitVec 32) (c0_i32_1504 : BitVec 32) : Fin 2 → Nat :=
  let c50 : Index := 50#32
  let arg0 : BitVec 32 := BitVec.ofNat 32 (i 0).val
  let c8_i32_1502 : BitVec 32 := 8#32
  let v2609 : BitVec 32 := Scalar.muli arg0 c8_i32_1502
  let v2610 : BitVec 32 := Scalar.addi v2609 c0_i32_1503
  let v2611 : BitVec 32 := Scalar.addi v2610 c0_i32_1504
  let v2612 : Index := Scalar.indexCast v2611
  ![50, v2612.toNat]
def k0_off52 (i : grid0.Coords) (c0_i32_1533 : BitVec 32) (c0_i32_1534 : BitVec 32) : Fin 2 → Nat :=
  let c51 : Index := 51#32
  let arg0 : BitVec 32 := BitVec.ofNat 32 (i 0).val
  let c8_i32_1532 : BitVec 32 := 8#32
  let v2661 : BitVec 32 := Scalar.muli arg0 c8_i32_1532
  let v2662 : BitVec 32 := Scalar.addi v2661 c0_i32_1533
  let v2663 : BitVec 32 := Scalar.addi v2662 c0_i32_1534
  let v2664 : Index := Scalar.indexCast v2663
  ![51, v2664.toNat]
def k0_off53 (i : grid0.Coords) (c0_i32_1563 : BitVec 32) (c0_i32_1564 : BitVec 32) : Fin 2 → Nat :=
  let c52 : Index := 52#32
  let arg0 : BitVec 32 := BitVec.ofNat 32 (i 0).val
  let c8_i32_1562 : BitVec 32 := 8#32
  let v2713 : BitVec 32 := Scalar.muli arg0 c8_i32_1562
  let v2714 : BitVec 32 := Scalar.addi v2713 c0_i32_1563
  let v2715 : BitVec 32 := Scalar.addi v2714 c0_i32_1564
  let v2716 : Index := Scalar.indexCast v2715
  ![52, v2716.toNat]
def k0_off54 (i : grid0.Coords) (c0_i32_1593 : BitVec 32) (c0_i32_1594 : BitVec 32) : Fin 2 → Nat :=
  let c53 : Index := 53#32
  let arg0 : BitVec 32 := BitVec.ofNat 32 (i 0).val
  let c8_i32_1592 : BitVec 32 := 8#32
  let v2765 : BitVec 32 := Scalar.muli arg0 c8_i32_1592
  let v2766 : BitVec 32 := Scalar.addi v2765 c0_i32_1593
  let v2767 : BitVec 32 := Scalar.addi v2766 c0_i32_1594
  let v2768 : Index := Scalar.indexCast v2767
  ![53, v2768.toNat]
def k0_off55 (i : grid0.Coords) (c0_i32_1623 : BitVec 32) (c0_i32_1624 : BitVec 32) : Fin 2 → Nat :=
  let c54 : Index := 54#32
  let arg0 : BitVec 32 := BitVec.ofNat 32 (i 0).val
  let c8_i32_1622 : BitVec 32 := 8#32
  let v2817 : BitVec 32 := Scalar.muli arg0 c8_i32_1622
  let v2818 : BitVec 32 := Scalar.addi v2817 c0_i32_1623
  let v2819 : BitVec 32 := Scalar.addi v2818 c0_i32_1624
  let v2820 : Index := Scalar.indexCast v2819
  ![54, v2820.toNat]
def k0_off56 (i : grid0.Coords) (c0_i32_1653 : BitVec 32) (c0_i32_1654 : BitVec 32) : Fin 2 → Nat :=
  let c55 : Index := 55#32
  let arg0 : BitVec 32 := BitVec.ofNat 32 (i 0).val
  let c8_i32_1652 : BitVec 32 := 8#32
  let v2869 : BitVec 32 := Scalar.muli arg0 c8_i32_1652
  let v2870 : BitVec 32 := Scalar.addi v2869 c0_i32_1653
  let v2871 : BitVec 32 := Scalar.addi v2870 c0_i32_1654
  let v2872 : Index := Scalar.indexCast v2871
  ![55, v2872.toNat]
@[reducible] def k0_t1_loop : Scf.Loop 32 :=
  let c0_i32_1682 : BitVec 32 := 0#32
  let c3_i32_1683 : BitVec 32 := 3#32
  let v2921 : BitVec 32 := Scalar.addi c0_i32_1682 c3_i32_1683
  let c1_i32_1684 : BitVec 32 := 1#32
  ⟨c0_i32_1682, v2921, c1_i32_1684⟩
def k0_mult1 (k0_t1 : Fin k0_t1_loop.trips) : BitVec 32 :=
  let c0_i32_1682 : BitVec 32 := 0#32
  let c1_i32_1684 : BitVec 32 := 1#32
  let arg10 : BitVec 32 := Scf.iv c0_i32_1682 c1_i32_1684 k0_t1
  let c384_i32 : BitVec 32 := 384#32
  let v5835 : BitVec 32 := Scalar.muli arg10 c384_i32
  v5835
def k0_off57 (k0_t1 : Fin k0_t1_loop.trips) : Fin 2 → Nat :=
  let c0_i32_1682 : BitVec 32 := 0#32
  let c1_i32_1684 : BitVec 32 := 1#32
  let arg10 : BitVec 32 := Scf.iv c0_i32_1682 c1_i32_1684 k0_t1
  let c384_i32 : BitVec 32 := 384#32
  let v5835 : BitVec 32 := Scalar.muli arg10 c384_i32
  let v5836 : BitVec 32 := v5835
  let v5837 : Index := Scalar.indexCast v5836
  let c0_3481 : Index := 0#32
  ![v5837.toNat, 0]
def k0_off58 (k0_t1 : Fin k0_t1_loop.trips) (c0_i32_3484 : BitVec 32) : Fin 2 → Nat :=
  let c0_i32_1682 : BitVec 32 := 0#32
  let c1_i32_1684 : BitVec 32 := 1#32
  let arg10 : BitVec 32 := Scf.iv c0_i32_1682 c1_i32_1684 k0_t1
  let c384_i32 : BitVec 32 := 384#32
  let v5835 : BitVec 32 := Scalar.muli arg10 c384_i32
  let v5836 : BitVec 32 := v5835
  let v5842 : BitVec 32 := Scalar.addi v5836 c0_i32_3484
  let v5843 : Index := Scalar.indexCast v5842
  let c0_3485 : Index := 0#32
  ![v5843.toNat, 0]
def k0_off59 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v5887 : Index := Scalar.indexCast arg10
  let c0_3503 : Index := 0#32
  let c0_3505 : Index := 0#32
  ![v5887.toNat, 0, 0, 0]
def k0_off60 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v5893 : Index := Scalar.indexCast arg10
  let c0_3506 : Index := 0#32
  let c0_3508 : Index := 0#32
  ![v5893.toNat, 0, 2, 0]
def k0_off61 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v5943 : Index := Scalar.indexCast arg10
  let c8_3529 : Index := 8#32
  let c0_3531 : Index := 0#32
  ![v5943.toNat, 8, 0, 0]
def k0_off62 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v5949 : Index := Scalar.indexCast arg10
  let c8_3532 : Index := 8#32
  let c0_3534 : Index := 0#32
  ![v5949.toNat, 8, 2, 0]
def k0_off63 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v5999 : Index := Scalar.indexCast arg10
  let c16_3554 : Index := 16#32
  let c0_3556 : Index := 0#32
  ![v5999.toNat, 16, 0, 0]
def k0_off64 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6005 : Index := Scalar.indexCast arg10
  let c16_3557 : Index := 16#32
  let c0_3559 : Index := 0#32
  ![v6005.toNat, 16, 2, 0]
def k0_off65 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6055 : Index := Scalar.indexCast arg10
  let c24_3579 : Index := 24#32
  let c0_3581 : Index := 0#32
  ![v6055.toNat, 24, 0, 0]
def k0_off66 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6061 : Index := Scalar.indexCast arg10
  let c24_3582 : Index := 24#32
  let c0_3584 : Index := 0#32
  ![v6061.toNat, 24, 2, 0]
def k0_off67 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6111 : Index := Scalar.indexCast arg10
  let c32_3604 : Index := 32#32
  let c0_3606 : Index := 0#32
  ![v6111.toNat, 32, 0, 0]
def k0_off68 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6117 : Index := Scalar.indexCast arg10
  let c32_3607 : Index := 32#32
  let c0_3609 : Index := 0#32
  ![v6117.toNat, 32, 2, 0]
def k0_off69 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6167 : Index := Scalar.indexCast arg10
  let c40_3629 : Index := 40#32
  let c0_3631 : Index := 0#32
  ![v6167.toNat, 40, 0, 0]
def k0_off70 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6173 : Index := Scalar.indexCast arg10
  let c40_3632 : Index := 40#32
  let c0_3634 : Index := 0#32
  ![v6173.toNat, 40, 2, 0]
def k0_off71 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6223 : Index := Scalar.indexCast arg10
  let c48_3654 : Index := 48#32
  let c0_3656 : Index := 0#32
  ![v6223.toNat, 48, 0, 0]
def k0_off72 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6229 : Index := Scalar.indexCast arg10
  let c48_3657 : Index := 48#32
  let c0_3659 : Index := 0#32
  ![v6229.toNat, 48, 2, 0]
def k0_off73 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6279 : Index := Scalar.indexCast arg10
  let c56 : Index := 56#32
  let c0_3680 : Index := 0#32
  ![v6279.toNat, 56, 0, 0]
def k0_off74 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6285 : Index := Scalar.indexCast arg10
  let c56_3681 : Index := 56#32
  let c0_3683 : Index := 0#32
  ![v6285.toNat, 56, 2, 0]
def k0_off75 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6335 : Index := Scalar.indexCast arg10
  let c64 : Index := 64#32
  let c0_3705 : Index := 0#32
  ![v6335.toNat, 64, 0, 0]
def k0_off76 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6341 : Index := Scalar.indexCast arg10
  let c64_3706 : Index := 64#32
  let c0_3708 : Index := 0#32
  ![v6341.toNat, 64, 2, 0]
def k0_off77 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6391 : Index := Scalar.indexCast arg10
  let c72 : Index := 72#32
  let c0_3729 : Index := 0#32
  ![v6391.toNat, 72, 0, 0]
def k0_off78 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6397 : Index := Scalar.indexCast arg10
  let c72_3730 : Index := 72#32
  let c0_3732 : Index := 0#32
  ![v6397.toNat, 72, 2, 0]
def k0_off79 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6447 : Index := Scalar.indexCast arg10
  let c80 : Index := 80#32
  let c0_3753 : Index := 0#32
  ![v6447.toNat, 80, 0, 0]
def k0_off80 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6453 : Index := Scalar.indexCast arg10
  let c80_3754 : Index := 80#32
  let c0_3756 : Index := 0#32
  ![v6453.toNat, 80, 2, 0]
def k0_off81 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6503 : Index := Scalar.indexCast arg10
  let c88 : Index := 88#32
  let c0_3777 : Index := 0#32
  ![v6503.toNat, 88, 0, 0]
def k0_off82 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6509 : Index := Scalar.indexCast arg10
  let c88_3778 : Index := 88#32
  let c0_3780 : Index := 0#32
  ![v6509.toNat, 88, 2, 0]
def k0_off83 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6559 : Index := Scalar.indexCast arg10
  let c96 : Index := 96#32
  let c0_3801 : Index := 0#32
  ![v6559.toNat, 96, 0, 0]
def k0_off84 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6565 : Index := Scalar.indexCast arg10
  let c96_3802 : Index := 96#32
  let c0_3804 : Index := 0#32
  ![v6565.toNat, 96, 2, 0]
def k0_off85 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6615 : Index := Scalar.indexCast arg10
  let c104 : Index := 104#32
  let c0_3825 : Index := 0#32
  ![v6615.toNat, 104, 0, 0]
def k0_off86 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6621 : Index := Scalar.indexCast arg10
  let c104_3826 : Index := 104#32
  let c0_3828 : Index := 0#32
  ![v6621.toNat, 104, 2, 0]
def k0_off87 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6671 : Index := Scalar.indexCast arg10
  let c112 : Index := 112#32
  let c0_3849 : Index := 0#32
  ![v6671.toNat, 112, 0, 0]
def k0_off88 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6677 : Index := Scalar.indexCast arg10
  let c112_3850 : Index := 112#32
  let c0_3852 : Index := 0#32
  ![v6677.toNat, 112, 2, 0]
def k0_off89 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6727 : Index := Scalar.indexCast arg10
  let c120 : Index := 120#32
  let c0_3873 : Index := 0#32
  ![v6727.toNat, 120, 0, 0]
def k0_off90 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6733 : Index := Scalar.indexCast arg10
  let c120_3874 : Index := 120#32
  let c0_3876 : Index := 0#32
  ![v6733.toNat, 120, 2, 0]
def k0_off91 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6783 : Index := Scalar.indexCast arg10
  let c128_3896 : Index := 128#32
  let c0_3898 : Index := 0#32
  ![v6783.toNat, 128, 0, 0]
def k0_off92 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6789 : Index := Scalar.indexCast arg10
  let c128_3899 : Index := 128#32
  let c0_3901 : Index := 0#32
  ![v6789.toNat, 128, 2, 0]
def k0_off93 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6839 : Index := Scalar.indexCast arg10
  let c136 : Index := 136#32
  let c0_3922 : Index := 0#32
  ![v6839.toNat, 136, 0, 0]
def k0_off94 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6845 : Index := Scalar.indexCast arg10
  let c136_3923 : Index := 136#32
  let c0_3925 : Index := 0#32
  ![v6845.toNat, 136, 2, 0]
def k0_off95 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6895 : Index := Scalar.indexCast arg10
  let c144 : Index := 144#32
  let c0_3946 : Index := 0#32
  ![v6895.toNat, 144, 0, 0]
def k0_off96 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6901 : Index := Scalar.indexCast arg10
  let c144_3947 : Index := 144#32
  let c0_3949 : Index := 0#32
  ![v6901.toNat, 144, 2, 0]
def k0_off97 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6951 : Index := Scalar.indexCast arg10
  let c152 : Index := 152#32
  let c0_3970 : Index := 0#32
  ![v6951.toNat, 152, 0, 0]
def k0_off98 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v6957 : Index := Scalar.indexCast arg10
  let c152_3971 : Index := 152#32
  let c0_3973 : Index := 0#32
  ![v6957.toNat, 152, 2, 0]
def k0_off99 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7007 : Index := Scalar.indexCast arg10
  let c160 : Index := 160#32
  let c0_3994 : Index := 0#32
  ![v7007.toNat, 160, 0, 0]
def k0_off100 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7013 : Index := Scalar.indexCast arg10
  let c160_3995 : Index := 160#32
  let c0_3997 : Index := 0#32
  ![v7013.toNat, 160, 2, 0]
def k0_off101 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7063 : Index := Scalar.indexCast arg10
  let c168 : Index := 168#32
  let c0_4018 : Index := 0#32
  ![v7063.toNat, 168, 0, 0]
def k0_off102 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7069 : Index := Scalar.indexCast arg10
  let c168_4019 : Index := 168#32
  let c0_4021 : Index := 0#32
  ![v7069.toNat, 168, 2, 0]
def k0_off103 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7119 : Index := Scalar.indexCast arg10
  let c176 : Index := 176#32
  let c0_4042 : Index := 0#32
  ![v7119.toNat, 176, 0, 0]
def k0_off104 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7125 : Index := Scalar.indexCast arg10
  let c176_4043 : Index := 176#32
  let c0_4045 : Index := 0#32
  ![v7125.toNat, 176, 2, 0]
def k0_off105 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7175 : Index := Scalar.indexCast arg10
  let c184 : Index := 184#32
  let c0_4066 : Index := 0#32
  ![v7175.toNat, 184, 0, 0]
def k0_off106 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7181 : Index := Scalar.indexCast arg10
  let c184_4067 : Index := 184#32
  let c0_4069 : Index := 0#32
  ![v7181.toNat, 184, 2, 0]
def k0_off107 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7231 : Index := Scalar.indexCast arg10
  let c192 : Index := 192#32
  let c0_4090 : Index := 0#32
  ![v7231.toNat, 192, 0, 0]
def k0_off108 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7237 : Index := Scalar.indexCast arg10
  let c192_4091 : Index := 192#32
  let c0_4093 : Index := 0#32
  ![v7237.toNat, 192, 2, 0]
def k0_off109 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7287 : Index := Scalar.indexCast arg10
  let c200 : Index := 200#32
  let c0_4114 : Index := 0#32
  ![v7287.toNat, 200, 0, 0]
def k0_off110 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7293 : Index := Scalar.indexCast arg10
  let c200_4115 : Index := 200#32
  let c0_4117 : Index := 0#32
  ![v7293.toNat, 200, 2, 0]
def k0_off111 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7343 : Index := Scalar.indexCast arg10
  let c208 : Index := 208#32
  let c0_4138 : Index := 0#32
  ![v7343.toNat, 208, 0, 0]
def k0_off112 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7349 : Index := Scalar.indexCast arg10
  let c208_4139 : Index := 208#32
  let c0_4141 : Index := 0#32
  ![v7349.toNat, 208, 2, 0]
def k0_off113 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7399 : Index := Scalar.indexCast arg10
  let c216 : Index := 216#32
  let c0_4162 : Index := 0#32
  ![v7399.toNat, 216, 0, 0]
def k0_off114 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7405 : Index := Scalar.indexCast arg10
  let c216_4163 : Index := 216#32
  let c0_4165 : Index := 0#32
  ![v7405.toNat, 216, 2, 0]
def k0_off115 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7455 : Index := Scalar.indexCast arg10
  let c224 : Index := 224#32
  let c0_4186 : Index := 0#32
  ![v7455.toNat, 224, 0, 0]
def k0_off116 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7461 : Index := Scalar.indexCast arg10
  let c224_4187 : Index := 224#32
  let c0_4189 : Index := 0#32
  ![v7461.toNat, 224, 2, 0]
def k0_off117 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7511 : Index := Scalar.indexCast arg10
  let c232 : Index := 232#32
  let c0_4210 : Index := 0#32
  ![v7511.toNat, 232, 0, 0]
def k0_off118 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7517 : Index := Scalar.indexCast arg10
  let c232_4211 : Index := 232#32
  let c0_4213 : Index := 0#32
  ![v7517.toNat, 232, 2, 0]
def k0_off119 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7567 : Index := Scalar.indexCast arg10
  let c240 : Index := 240#32
  let c0_4234 : Index := 0#32
  ![v7567.toNat, 240, 0, 0]
def k0_off120 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7573 : Index := Scalar.indexCast arg10
  let c240_4235 : Index := 240#32
  let c0_4237 : Index := 0#32
  ![v7573.toNat, 240, 2, 0]
def k0_off121 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7623 : Index := Scalar.indexCast arg10
  let c248 : Index := 248#32
  let c0_4258 : Index := 0#32
  ![v7623.toNat, 248, 0, 0]
def k0_off122 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7629 : Index := Scalar.indexCast arg10
  let c248_4259 : Index := 248#32
  let c0_4261 : Index := 0#32
  ![v7629.toNat, 248, 2, 0]
def k0_off123 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7679 : Index := Scalar.indexCast arg10
  let c256_4281 : Index := 256#32
  let c0_4283 : Index := 0#32
  ![v7679.toNat, 256, 0, 0]
def k0_off124 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7685 : Index := Scalar.indexCast arg10
  let c256_4284 : Index := 256#32
  let c0_4286 : Index := 0#32
  ![v7685.toNat, 256, 2, 0]
def k0_off125 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7735 : Index := Scalar.indexCast arg10
  let c264 : Index := 264#32
  let c0_4307 : Index := 0#32
  ![v7735.toNat, 264, 0, 0]
def k0_off126 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7741 : Index := Scalar.indexCast arg10
  let c264_4308 : Index := 264#32
  let c0_4310 : Index := 0#32
  ![v7741.toNat, 264, 2, 0]
def k0_off127 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7791 : Index := Scalar.indexCast arg10
  let c272 : Index := 272#32
  let c0_4331 : Index := 0#32
  ![v7791.toNat, 272, 0, 0]
def k0_off128 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7797 : Index := Scalar.indexCast arg10
  let c272_4332 : Index := 272#32
  let c0_4334 : Index := 0#32
  ![v7797.toNat, 272, 2, 0]
def k0_off129 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7847 : Index := Scalar.indexCast arg10
  let c280 : Index := 280#32
  let c0_4355 : Index := 0#32
  ![v7847.toNat, 280, 0, 0]
def k0_off130 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7853 : Index := Scalar.indexCast arg10
  let c280_4356 : Index := 280#32
  let c0_4358 : Index := 0#32
  ![v7853.toNat, 280, 2, 0]
def k0_off131 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7903 : Index := Scalar.indexCast arg10
  let c288 : Index := 288#32
  let c0_4379 : Index := 0#32
  ![v7903.toNat, 288, 0, 0]
def k0_off132 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7909 : Index := Scalar.indexCast arg10
  let c288_4380 : Index := 288#32
  let c0_4382 : Index := 0#32
  ![v7909.toNat, 288, 2, 0]
def k0_off133 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7959 : Index := Scalar.indexCast arg10
  let c296 : Index := 296#32
  let c0_4403 : Index := 0#32
  ![v7959.toNat, 296, 0, 0]
def k0_off134 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v7965 : Index := Scalar.indexCast arg10
  let c296_4404 : Index := 296#32
  let c0_4406 : Index := 0#32
  ![v7965.toNat, 296, 2, 0]
def k0_off135 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8015 : Index := Scalar.indexCast arg10
  let c304 : Index := 304#32
  let c0_4427 : Index := 0#32
  ![v8015.toNat, 304, 0, 0]
def k0_off136 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8021 : Index := Scalar.indexCast arg10
  let c304_4428 : Index := 304#32
  let c0_4430 : Index := 0#32
  ![v8021.toNat, 304, 2, 0]
def k0_off137 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8071 : Index := Scalar.indexCast arg10
  let c312 : Index := 312#32
  let c0_4451 : Index := 0#32
  ![v8071.toNat, 312, 0, 0]
def k0_off138 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8077 : Index := Scalar.indexCast arg10
  let c312_4452 : Index := 312#32
  let c0_4454 : Index := 0#32
  ![v8077.toNat, 312, 2, 0]
def k0_off139 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8127 : Index := Scalar.indexCast arg10
  let c320 : Index := 320#32
  let c0_4475 : Index := 0#32
  ![v8127.toNat, 320, 0, 0]
def k0_off140 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8133 : Index := Scalar.indexCast arg10
  let c320_4476 : Index := 320#32
  let c0_4478 : Index := 0#32
  ![v8133.toNat, 320, 2, 0]
def k0_off141 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8183 : Index := Scalar.indexCast arg10
  let c328 : Index := 328#32
  let c0_4499 : Index := 0#32
  ![v8183.toNat, 328, 0, 0]
def k0_off142 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8189 : Index := Scalar.indexCast arg10
  let c328_4500 : Index := 328#32
  let c0_4502 : Index := 0#32
  ![v8189.toNat, 328, 2, 0]
def k0_off143 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8239 : Index := Scalar.indexCast arg10
  let c336 : Index := 336#32
  let c0_4523 : Index := 0#32
  ![v8239.toNat, 336, 0, 0]
def k0_off144 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8245 : Index := Scalar.indexCast arg10
  let c336_4524 : Index := 336#32
  let c0_4526 : Index := 0#32
  ![v8245.toNat, 336, 2, 0]
def k0_off145 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8295 : Index := Scalar.indexCast arg10
  let c344 : Index := 344#32
  let c0_4547 : Index := 0#32
  ![v8295.toNat, 344, 0, 0]
def k0_off146 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8301 : Index := Scalar.indexCast arg10
  let c344_4548 : Index := 344#32
  let c0_4550 : Index := 0#32
  ![v8301.toNat, 344, 2, 0]
def k0_off147 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8351 : Index := Scalar.indexCast arg10
  let c352 : Index := 352#32
  let c0_4571 : Index := 0#32
  ![v8351.toNat, 352, 0, 0]
def k0_off148 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8357 : Index := Scalar.indexCast arg10
  let c352_4572 : Index := 352#32
  let c0_4574 : Index := 0#32
  ![v8357.toNat, 352, 2, 0]
def k0_off149 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8407 : Index := Scalar.indexCast arg10
  let c360 : Index := 360#32
  let c0_4595 : Index := 0#32
  ![v8407.toNat, 360, 0, 0]
def k0_off150 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8413 : Index := Scalar.indexCast arg10
  let c360_4596 : Index := 360#32
  let c0_4598 : Index := 0#32
  ![v8413.toNat, 360, 2, 0]
def k0_off151 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8463 : Index := Scalar.indexCast arg10
  let c368 : Index := 368#32
  let c0_4619 : Index := 0#32
  ![v8463.toNat, 368, 0, 0]
def k0_off152 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8469 : Index := Scalar.indexCast arg10
  let c368_4620 : Index := 368#32
  let c0_4622 : Index := 0#32
  ![v8469.toNat, 368, 2, 0]
def k0_off153 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8519 : Index := Scalar.indexCast arg10
  let c376 : Index := 376#32
  let c0_4643 : Index := 0#32
  ![v8519.toNat, 376, 0, 0]
def k0_off154 (k0_t1 : Fin k0_t1_loop.trips) : Fin 4 → Nat :=
  let c0_i32_1682 : BitVec 32 := 0#32
  let c1_i32_1684 : BitVec 32 := 1#32
  let arg10 : BitVec 32 := Scf.iv c0_i32_1682 c1_i32_1684 k0_t1
  let v8525 : Index := Scalar.indexCast arg10
  let c376_4644 : Index := 376#32
  let c0_4646 : Index := 0#32
  ![v8525.toNat, 376, 2, 0]
@[reducible] def k0_t2_loop : Scf.Loop 32 :=
  let c0_i32_3477 : BitVec 32 := 0#32
  let c3_i32_3478 : BitVec 32 := 3#32
  let v5834 : BitVec 32 := Scalar.addi c0_i32_3477 c3_i32_3478
  let c1_i32_3479 : BitVec 32 := 1#32
  ⟨c0_i32_3477, v5834, c1_i32_3479⟩
def k0_mult2 (k0_t2 : Fin k0_t2_loop.trips) : BitVec 32 :=
  let c0_i32_3477 : BitVec 32 := 0#32
  let c1_i32_3479 : BitVec 32 := 1#32
  let arg10 : BitVec 32 := Scf.iv c0_i32_3477 c1_i32_3479 k0_t2
  let c384_i32 : BitVec 32 := 384#32
  let v5835 : BitVec 32 := Scalar.muli arg10 c384_i32
  v5835
def k0_off155 (k0_t2 : Fin k0_t2_loop.trips) : Fin 2 → Nat :=
  let c0_i32_3477 : BitVec 32 := 0#32
  let c1_i32_3479 : BitVec 32 := 1#32
  let arg10 : BitVec 32 := Scf.iv c0_i32_3477 c1_i32_3479 k0_t2
  let c384_i32 : BitVec 32 := 384#32
  let v5835 : BitVec 32 := Scalar.muli arg10 c384_i32
  let v5836 : BitVec 32 := v5835
  let v5837 : Index := Scalar.indexCast v5836
  let c0_3481 : Index := 0#32
  ![v5837.toNat, 0]
def k0_off156 (k0_t2 : Fin k0_t2_loop.trips) (c0_i32_3484 : BitVec 32) : Fin 2 → Nat :=
  let c0_i32_3477 : BitVec 32 := 0#32
  let c1_i32_3479 : BitVec 32 := 1#32
  let arg10 : BitVec 32 := Scf.iv c0_i32_3477 c1_i32_3479 k0_t2
  let c384_i32 : BitVec 32 := 384#32
  let v5835 : BitVec 32 := Scalar.muli arg10 c384_i32
  let v5836 : BitVec 32 := v5835
  let v5842 : BitVec 32 := Scalar.addi v5836 c0_i32_3484
  let v5843 : Index := Scalar.indexCast v5842
  let c0_3485 : Index := 0#32
  ![v5843.toNat, 0]
def k0_off157 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v5887 : Index := Scalar.indexCast arg10
  let c0_3503 : Index := 0#32
  let c0_3505 : Index := 0#32
  ![v5887.toNat, 0, 4, 0]
def k0_off158 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v5893 : Index := Scalar.indexCast arg10
  let c0_3506 : Index := 0#32
  let c0_3508 : Index := 0#32
  ![v5893.toNat, 0, 6, 0]
def k0_off159 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v5943 : Index := Scalar.indexCast arg10
  let c8_3529 : Index := 8#32
  let c0_3531 : Index := 0#32
  ![v5943.toNat, 8, 4, 0]
def k0_off160 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v5949 : Index := Scalar.indexCast arg10
  let c8_3532 : Index := 8#32
  let c0_3534 : Index := 0#32
  ![v5949.toNat, 8, 6, 0]
def k0_off161 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v5999 : Index := Scalar.indexCast arg10
  let c16_3554 : Index := 16#32
  let c0_3556 : Index := 0#32
  ![v5999.toNat, 16, 4, 0]
def k0_off162 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6005 : Index := Scalar.indexCast arg10
  let c16_3557 : Index := 16#32
  let c0_3559 : Index := 0#32
  ![v6005.toNat, 16, 6, 0]
def k0_off163 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6055 : Index := Scalar.indexCast arg10
  let c24_3579 : Index := 24#32
  let c0_3581 : Index := 0#32
  ![v6055.toNat, 24, 4, 0]
def k0_off164 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6061 : Index := Scalar.indexCast arg10
  let c24_3582 : Index := 24#32
  let c0_3584 : Index := 0#32
  ![v6061.toNat, 24, 6, 0]
def k0_off165 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6111 : Index := Scalar.indexCast arg10
  let c32_3604 : Index := 32#32
  let c0_3606 : Index := 0#32
  ![v6111.toNat, 32, 4, 0]
def k0_off166 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6117 : Index := Scalar.indexCast arg10
  let c32_3607 : Index := 32#32
  let c0_3609 : Index := 0#32
  ![v6117.toNat, 32, 6, 0]
def k0_off167 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6167 : Index := Scalar.indexCast arg10
  let c40_3629 : Index := 40#32
  let c0_3631 : Index := 0#32
  ![v6167.toNat, 40, 4, 0]
def k0_off168 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6173 : Index := Scalar.indexCast arg10
  let c40_3632 : Index := 40#32
  let c0_3634 : Index := 0#32
  ![v6173.toNat, 40, 6, 0]
def k0_off169 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6223 : Index := Scalar.indexCast arg10
  let c48_3654 : Index := 48#32
  let c0_3656 : Index := 0#32
  ![v6223.toNat, 48, 4, 0]
def k0_off170 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6229 : Index := Scalar.indexCast arg10
  let c48_3657 : Index := 48#32
  let c0_3659 : Index := 0#32
  ![v6229.toNat, 48, 6, 0]
def k0_off171 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6279 : Index := Scalar.indexCast arg10
  let c56 : Index := 56#32
  let c0_3680 : Index := 0#32
  ![v6279.toNat, 56, 4, 0]
def k0_off172 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6285 : Index := Scalar.indexCast arg10
  let c56_3681 : Index := 56#32
  let c0_3683 : Index := 0#32
  ![v6285.toNat, 56, 6, 0]
def k0_off173 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6335 : Index := Scalar.indexCast arg10
  let c64 : Index := 64#32
  let c0_3705 : Index := 0#32
  ![v6335.toNat, 64, 4, 0]
def k0_off174 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6341 : Index := Scalar.indexCast arg10
  let c64_3706 : Index := 64#32
  let c0_3708 : Index := 0#32
  ![v6341.toNat, 64, 6, 0]
def k0_off175 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6391 : Index := Scalar.indexCast arg10
  let c72 : Index := 72#32
  let c0_3729 : Index := 0#32
  ![v6391.toNat, 72, 4, 0]
def k0_off176 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6397 : Index := Scalar.indexCast arg10
  let c72_3730 : Index := 72#32
  let c0_3732 : Index := 0#32
  ![v6397.toNat, 72, 6, 0]
def k0_off177 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6447 : Index := Scalar.indexCast arg10
  let c80 : Index := 80#32
  let c0_3753 : Index := 0#32
  ![v6447.toNat, 80, 4, 0]
def k0_off178 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6453 : Index := Scalar.indexCast arg10
  let c80_3754 : Index := 80#32
  let c0_3756 : Index := 0#32
  ![v6453.toNat, 80, 6, 0]
def k0_off179 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6503 : Index := Scalar.indexCast arg10
  let c88 : Index := 88#32
  let c0_3777 : Index := 0#32
  ![v6503.toNat, 88, 4, 0]
def k0_off180 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6509 : Index := Scalar.indexCast arg10
  let c88_3778 : Index := 88#32
  let c0_3780 : Index := 0#32
  ![v6509.toNat, 88, 6, 0]
def k0_off181 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6559 : Index := Scalar.indexCast arg10
  let c96 : Index := 96#32
  let c0_3801 : Index := 0#32
  ![v6559.toNat, 96, 4, 0]
def k0_off182 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6565 : Index := Scalar.indexCast arg10
  let c96_3802 : Index := 96#32
  let c0_3804 : Index := 0#32
  ![v6565.toNat, 96, 6, 0]
def k0_off183 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6615 : Index := Scalar.indexCast arg10
  let c104 : Index := 104#32
  let c0_3825 : Index := 0#32
  ![v6615.toNat, 104, 4, 0]
def k0_off184 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6621 : Index := Scalar.indexCast arg10
  let c104_3826 : Index := 104#32
  let c0_3828 : Index := 0#32
  ![v6621.toNat, 104, 6, 0]
def k0_off185 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6671 : Index := Scalar.indexCast arg10
  let c112 : Index := 112#32
  let c0_3849 : Index := 0#32
  ![v6671.toNat, 112, 4, 0]
def k0_off186 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6677 : Index := Scalar.indexCast arg10
  let c112_3850 : Index := 112#32
  let c0_3852 : Index := 0#32
  ![v6677.toNat, 112, 6, 0]
def k0_off187 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6727 : Index := Scalar.indexCast arg10
  let c120 : Index := 120#32
  let c0_3873 : Index := 0#32
  ![v6727.toNat, 120, 4, 0]
def k0_off188 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6733 : Index := Scalar.indexCast arg10
  let c120_3874 : Index := 120#32
  let c0_3876 : Index := 0#32
  ![v6733.toNat, 120, 6, 0]
def k0_off189 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6783 : Index := Scalar.indexCast arg10
  let c128_3896 : Index := 128#32
  let c0_3898 : Index := 0#32
  ![v6783.toNat, 128, 4, 0]
def k0_off190 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6789 : Index := Scalar.indexCast arg10
  let c128_3899 : Index := 128#32
  let c0_3901 : Index := 0#32
  ![v6789.toNat, 128, 6, 0]
def k0_off191 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6839 : Index := Scalar.indexCast arg10
  let c136 : Index := 136#32
  let c0_3922 : Index := 0#32
  ![v6839.toNat, 136, 4, 0]
def k0_off192 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6845 : Index := Scalar.indexCast arg10
  let c136_3923 : Index := 136#32
  let c0_3925 : Index := 0#32
  ![v6845.toNat, 136, 6, 0]
def k0_off193 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6895 : Index := Scalar.indexCast arg10
  let c144 : Index := 144#32
  let c0_3946 : Index := 0#32
  ![v6895.toNat, 144, 4, 0]
def k0_off194 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6901 : Index := Scalar.indexCast arg10
  let c144_3947 : Index := 144#32
  let c0_3949 : Index := 0#32
  ![v6901.toNat, 144, 6, 0]
def k0_off195 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6951 : Index := Scalar.indexCast arg10
  let c152 : Index := 152#32
  let c0_3970 : Index := 0#32
  ![v6951.toNat, 152, 4, 0]
def k0_off196 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v6957 : Index := Scalar.indexCast arg10
  let c152_3971 : Index := 152#32
  let c0_3973 : Index := 0#32
  ![v6957.toNat, 152, 6, 0]
def k0_off197 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7007 : Index := Scalar.indexCast arg10
  let c160 : Index := 160#32
  let c0_3994 : Index := 0#32
  ![v7007.toNat, 160, 4, 0]
def k0_off198 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7013 : Index := Scalar.indexCast arg10
  let c160_3995 : Index := 160#32
  let c0_3997 : Index := 0#32
  ![v7013.toNat, 160, 6, 0]
def k0_off199 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7063 : Index := Scalar.indexCast arg10
  let c168 : Index := 168#32
  let c0_4018 : Index := 0#32
  ![v7063.toNat, 168, 4, 0]
def k0_off200 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7069 : Index := Scalar.indexCast arg10
  let c168_4019 : Index := 168#32
  let c0_4021 : Index := 0#32
  ![v7069.toNat, 168, 6, 0]
def k0_off201 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7119 : Index := Scalar.indexCast arg10
  let c176 : Index := 176#32
  let c0_4042 : Index := 0#32
  ![v7119.toNat, 176, 4, 0]
def k0_off202 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7125 : Index := Scalar.indexCast arg10
  let c176_4043 : Index := 176#32
  let c0_4045 : Index := 0#32
  ![v7125.toNat, 176, 6, 0]
def k0_off203 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7175 : Index := Scalar.indexCast arg10
  let c184 : Index := 184#32
  let c0_4066 : Index := 0#32
  ![v7175.toNat, 184, 4, 0]
def k0_off204 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7181 : Index := Scalar.indexCast arg10
  let c184_4067 : Index := 184#32
  let c0_4069 : Index := 0#32
  ![v7181.toNat, 184, 6, 0]
def k0_off205 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7231 : Index := Scalar.indexCast arg10
  let c192 : Index := 192#32
  let c0_4090 : Index := 0#32
  ![v7231.toNat, 192, 4, 0]
def k0_off206 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7237 : Index := Scalar.indexCast arg10
  let c192_4091 : Index := 192#32
  let c0_4093 : Index := 0#32
  ![v7237.toNat, 192, 6, 0]
def k0_off207 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7287 : Index := Scalar.indexCast arg10
  let c200 : Index := 200#32
  let c0_4114 : Index := 0#32
  ![v7287.toNat, 200, 4, 0]
def k0_off208 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7293 : Index := Scalar.indexCast arg10
  let c200_4115 : Index := 200#32
  let c0_4117 : Index := 0#32
  ![v7293.toNat, 200, 6, 0]
def k0_off209 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7343 : Index := Scalar.indexCast arg10
  let c208 : Index := 208#32
  let c0_4138 : Index := 0#32
  ![v7343.toNat, 208, 4, 0]
def k0_off210 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7349 : Index := Scalar.indexCast arg10
  let c208_4139 : Index := 208#32
  let c0_4141 : Index := 0#32
  ![v7349.toNat, 208, 6, 0]
def k0_off211 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7399 : Index := Scalar.indexCast arg10
  let c216 : Index := 216#32
  let c0_4162 : Index := 0#32
  ![v7399.toNat, 216, 4, 0]
def k0_off212 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7405 : Index := Scalar.indexCast arg10
  let c216_4163 : Index := 216#32
  let c0_4165 : Index := 0#32
  ![v7405.toNat, 216, 6, 0]
def k0_off213 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7455 : Index := Scalar.indexCast arg10
  let c224 : Index := 224#32
  let c0_4186 : Index := 0#32
  ![v7455.toNat, 224, 4, 0]
def k0_off214 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7461 : Index := Scalar.indexCast arg10
  let c224_4187 : Index := 224#32
  let c0_4189 : Index := 0#32
  ![v7461.toNat, 224, 6, 0]
def k0_off215 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7511 : Index := Scalar.indexCast arg10
  let c232 : Index := 232#32
  let c0_4210 : Index := 0#32
  ![v7511.toNat, 232, 4, 0]
def k0_off216 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7517 : Index := Scalar.indexCast arg10
  let c232_4211 : Index := 232#32
  let c0_4213 : Index := 0#32
  ![v7517.toNat, 232, 6, 0]
def k0_off217 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7567 : Index := Scalar.indexCast arg10
  let c240 : Index := 240#32
  let c0_4234 : Index := 0#32
  ![v7567.toNat, 240, 4, 0]
def k0_off218 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7573 : Index := Scalar.indexCast arg10
  let c240_4235 : Index := 240#32
  let c0_4237 : Index := 0#32
  ![v7573.toNat, 240, 6, 0]
def k0_off219 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7623 : Index := Scalar.indexCast arg10
  let c248 : Index := 248#32
  let c0_4258 : Index := 0#32
  ![v7623.toNat, 248, 4, 0]
def k0_off220 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7629 : Index := Scalar.indexCast arg10
  let c248_4259 : Index := 248#32
  let c0_4261 : Index := 0#32
  ![v7629.toNat, 248, 6, 0]
def k0_off221 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7679 : Index := Scalar.indexCast arg10
  let c256_4281 : Index := 256#32
  let c0_4283 : Index := 0#32
  ![v7679.toNat, 256, 4, 0]
def k0_off222 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7685 : Index := Scalar.indexCast arg10
  let c256_4284 : Index := 256#32
  let c0_4286 : Index := 0#32
  ![v7685.toNat, 256, 6, 0]
def k0_off223 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7735 : Index := Scalar.indexCast arg10
  let c264 : Index := 264#32
  let c0_4307 : Index := 0#32
  ![v7735.toNat, 264, 4, 0]
def k0_off224 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7741 : Index := Scalar.indexCast arg10
  let c264_4308 : Index := 264#32
  let c0_4310 : Index := 0#32
  ![v7741.toNat, 264, 6, 0]
def k0_off225 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7791 : Index := Scalar.indexCast arg10
  let c272 : Index := 272#32
  let c0_4331 : Index := 0#32
  ![v7791.toNat, 272, 4, 0]
def k0_off226 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7797 : Index := Scalar.indexCast arg10
  let c272_4332 : Index := 272#32
  let c0_4334 : Index := 0#32
  ![v7797.toNat, 272, 6, 0]
def k0_off227 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7847 : Index := Scalar.indexCast arg10
  let c280 : Index := 280#32
  let c0_4355 : Index := 0#32
  ![v7847.toNat, 280, 4, 0]
def k0_off228 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7853 : Index := Scalar.indexCast arg10
  let c280_4356 : Index := 280#32
  let c0_4358 : Index := 0#32
  ![v7853.toNat, 280, 6, 0]
def k0_off229 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7903 : Index := Scalar.indexCast arg10
  let c288 : Index := 288#32
  let c0_4379 : Index := 0#32
  ![v7903.toNat, 288, 4, 0]
def k0_off230 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7909 : Index := Scalar.indexCast arg10
  let c288_4380 : Index := 288#32
  let c0_4382 : Index := 0#32
  ![v7909.toNat, 288, 6, 0]
def k0_off231 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7959 : Index := Scalar.indexCast arg10
  let c296 : Index := 296#32
  let c0_4403 : Index := 0#32
  ![v7959.toNat, 296, 4, 0]
def k0_off232 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v7965 : Index := Scalar.indexCast arg10
  let c296_4404 : Index := 296#32
  let c0_4406 : Index := 0#32
  ![v7965.toNat, 296, 6, 0]
def k0_off233 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8015 : Index := Scalar.indexCast arg10
  let c304 : Index := 304#32
  let c0_4427 : Index := 0#32
  ![v8015.toNat, 304, 4, 0]
def k0_off234 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8021 : Index := Scalar.indexCast arg10
  let c304_4428 : Index := 304#32
  let c0_4430 : Index := 0#32
  ![v8021.toNat, 304, 6, 0]
def k0_off235 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8071 : Index := Scalar.indexCast arg10
  let c312 : Index := 312#32
  let c0_4451 : Index := 0#32
  ![v8071.toNat, 312, 4, 0]
def k0_off236 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8077 : Index := Scalar.indexCast arg10
  let c312_4452 : Index := 312#32
  let c0_4454 : Index := 0#32
  ![v8077.toNat, 312, 6, 0]
def k0_off237 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8127 : Index := Scalar.indexCast arg10
  let c320 : Index := 320#32
  let c0_4475 : Index := 0#32
  ![v8127.toNat, 320, 4, 0]
def k0_off238 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8133 : Index := Scalar.indexCast arg10
  let c320_4476 : Index := 320#32
  let c0_4478 : Index := 0#32
  ![v8133.toNat, 320, 6, 0]
def k0_off239 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8183 : Index := Scalar.indexCast arg10
  let c328 : Index := 328#32
  let c0_4499 : Index := 0#32
  ![v8183.toNat, 328, 4, 0]
def k0_off240 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8189 : Index := Scalar.indexCast arg10
  let c328_4500 : Index := 328#32
  let c0_4502 : Index := 0#32
  ![v8189.toNat, 328, 6, 0]
def k0_off241 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8239 : Index := Scalar.indexCast arg10
  let c336 : Index := 336#32
  let c0_4523 : Index := 0#32
  ![v8239.toNat, 336, 4, 0]
def k0_off242 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8245 : Index := Scalar.indexCast arg10
  let c336_4524 : Index := 336#32
  let c0_4526 : Index := 0#32
  ![v8245.toNat, 336, 6, 0]
def k0_off243 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8295 : Index := Scalar.indexCast arg10
  let c344 : Index := 344#32
  let c0_4547 : Index := 0#32
  ![v8295.toNat, 344, 4, 0]
def k0_off244 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8301 : Index := Scalar.indexCast arg10
  let c344_4548 : Index := 344#32
  let c0_4550 : Index := 0#32
  ![v8301.toNat, 344, 6, 0]
def k0_off245 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8351 : Index := Scalar.indexCast arg10
  let c352 : Index := 352#32
  let c0_4571 : Index := 0#32
  ![v8351.toNat, 352, 4, 0]
def k0_off246 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8357 : Index := Scalar.indexCast arg10
  let c352_4572 : Index := 352#32
  let c0_4574 : Index := 0#32
  ![v8357.toNat, 352, 6, 0]
def k0_off247 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8407 : Index := Scalar.indexCast arg10
  let c360 : Index := 360#32
  let c0_4595 : Index := 0#32
  ![v8407.toNat, 360, 4, 0]
def k0_off248 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8413 : Index := Scalar.indexCast arg10
  let c360_4596 : Index := 360#32
  let c0_4598 : Index := 0#32
  ![v8413.toNat, 360, 6, 0]
def k0_off249 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8463 : Index := Scalar.indexCast arg10
  let c368 : Index := 368#32
  let c0_4619 : Index := 0#32
  ![v8463.toNat, 368, 4, 0]
def k0_off250 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8469 : Index := Scalar.indexCast arg10
  let c368_4620 : Index := 368#32
  let c0_4622 : Index := 0#32
  ![v8469.toNat, 368, 6, 0]
def k0_off251 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8519 : Index := Scalar.indexCast arg10
  let c376 : Index := 376#32
  let c0_4643 : Index := 0#32
  ![v8519.toNat, 376, 4, 0]
def k0_off252 (k0_t2 : Fin k0_t2_loop.trips) : Fin 4 → Nat :=
  let c0_i32_3477 : BitVec 32 := 0#32
  let c1_i32_3479 : BitVec 32 := 1#32
  let arg10 : BitVec 32 := Scf.iv c0_i32_3477 c1_i32_3479 k0_t2
  let v8525 : Index := Scalar.indexCast arg10
  let c376_4644 : Index := 376#32
  let c0_4646 : Index := 0#32
  ![v8525.toNat, 376, 6, 0]
def k0_cond2 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

def k0_off253 (i : grid0.Coords) (c0_i32_5 : BitVec 32) (c0_i32_6 : BitVec 32) : Fin 2 → Nat :=
  let c0 : Index := 0#32
  let arg0 : BitVec 32 := BitVec.ofNat 32 (i 0).val
  let c8_i32_4 : BitVec 32 := 8#32
  let v9 : BitVec 32 := Scalar.muli arg0 c8_i32_4
  let v10 : BitVec 32 := Scalar.addi v9 c0_i32_5
  let v11 : BitVec 32 := Scalar.addi v10 c0_i32_6
  let v12 : Index := Scalar.indexCast v11
  ![0, v12.toNat]
def k0_off254 (i : grid0.Coords) (c0_i32_30 : BitVec 32) (c0_i32_31 : BitVec 32) : Fin 2 → Nat :=
  let c1 : Index := 1#32
  let arg0 : BitVec 32 := BitVec.ofNat 32 (i 0).val
  let c8_i32_29 : BitVec 32 := 8#32
  let v61 : BitVec 32 := Scalar.muli arg0 c8_i32_29
  let v62 : BitVec 32 := Scalar.addi v61 c0_i32_30
  let v63 : BitVec 32 := Scalar.addi v62 c0_i32_31
  let v64 : Index := Scalar.indexCast v63
  ![1, v64.toNat]
def k0_off255 (i : grid0.Coords) (c0_i32_61 : BitVec 32) (c0_i32_62 : BitVec 32) : Fin 2 → Nat :=
  let c2 : Index := 2#32
  let arg0 : BitVec 32 := BitVec.ofNat 32 (i 0).val
  let c8_i32_60 : BitVec 32 := 8#32
  let v113 : BitVec 32 := Scalar.muli arg0 c8_i32_60
  let v114 : BitVec 32 := Scalar.addi v113 c0_i32_61
  let v115 : BitVec 32 := Scalar.addi v114 c0_i32_62
  let v116 : Index := Scalar.indexCast v115
  ![2, v116.toNat]
def k0_off256 (i : grid0.Coords) (c0_i32_92 : BitVec 32) (c0_i32_93 : BitVec 32) : Fin 2 → Nat :=
  let c3 : Index := 3#32
  let arg0 : BitVec 32 := BitVec.ofNat 32 (i 0).val
  let c8_i32_91 : BitVec 32 := 8#32
  let v165 : BitVec 32 := Scalar.muli arg0 c8_i32_91
  let v166 : BitVec 32 := Scalar.addi v165 c0_i32_92
  let v167 : BitVec 32 := Scalar.addi v166 c0_i32_93
  let v168 : Index := Scalar.indexCast v167
  ![3, v168.toNat]
def k0_off257 (i : grid0.Coords) (c0_i32_123 : BitVec 32) (c0_i32_124 : BitVec 32) : Fin 2 → Nat :=
  let c4 : Index := 4#32
  let arg0 : BitVec 32 := BitVec.ofNat 32 (i 0).val
  let c8_i32_122 : BitVec 32 := 8#32
  let v217 : BitVec 32 := Scalar.muli arg0 c8_i32_122
  let v218 : BitVec 32 := Scalar.addi v217 c0_i32_123
  let v219 : BitVec 32 := Scalar.addi v218 c0_i32_124
  let v220 : Index := Scalar.indexCast v219
  ![4, v220.toNat]
def k0_off258 (i : grid0.Coords) (c0_i32_153 : BitVec 32) (c0_i32_154 : BitVec 32) : Fin 2 → Nat :=
  let c5 : Index := 5#32
  let arg0 : BitVec 32 := BitVec.ofNat 32 (i 0).val
  let c8_i32_152 : BitVec 32 := 8#32
  let v269 : BitVec 32 := Scalar.muli arg0 c8_i32_152
  let v270 : BitVec 32 := Scalar.addi v269 c0_i32_153
  let v271 : BitVec 32 := Scalar.addi v270 c0_i32_154
  let v272 : Index := Scalar.indexCast v271
  ![5, v272.toNat]
def k0_off259 (i : grid0.Coords) (c0_i32_183 : BitVec 32) (c0_i32_184 : BitVec 32) : Fin 2 → Nat :=
  let c6 : Index := 6#32
  let arg0 : BitVec 32 := BitVec.ofNat 32 (i 0).val
  let c8_i32_182 : BitVec 32 := 8#32
  let v321 : BitVec 32 := Scalar.muli arg0 c8_i32_182
  let v322 : BitVec 32 := Scalar.addi v321 c0_i32_183
  let v323 : BitVec 32 := Scalar.addi v322 c0_i32_184
  let v324 : Index := Scalar.indexCast v323
  ![6, v324.toNat]
def k0_off260 (i : grid0.Coords) (c0_i32_213 : BitVec 32) (c0_i32_214 : BitVec 32) : Fin 2 → Nat :=
  let c7 : Index := 7#32
  let arg0 : BitVec 32 := BitVec.ofNat 32 (i 0).val
  let c8_i32_212 : BitVec 32 := 8#32
  let v373 : BitVec 32 := Scalar.muli arg0 c8_i32_212
  let v374 : BitVec 32 := Scalar.addi v373 c0_i32_213
  let v375 : BitVec 32 := Scalar.addi v374 c0_i32_214
  let v376 : Index := Scalar.indexCast v375
  ![7, v376.toNat]
def k0_off261 (i : grid0.Coords) (c0_i32_243 : BitVec 32) (c0_i32_244 : BitVec 32) : Fin 2 → Nat :=
  let c8 : Index := 8#32
  let arg0 : BitVec 32 := BitVec.ofNat 32 (i 0).val
  let c8_i32_242 : BitVec 32 := 8#32
  let v425 : BitVec 32 := Scalar.muli arg0 c8_i32_242
  let v426 : BitVec 32 := Scalar.addi v425 c0_i32_243
  let v427 : BitVec 32 := Scalar.addi v426 c0_i32_244
  let v428 : Index := Scalar.indexCast v427
  ![8, v428.toNat]
def k0_off262 (i : grid0.Coords) (c0_i32_273 : BitVec 32) (c0_i32_274 : BitVec 32) : Fin 2 → Nat :=
  let c9 : Index := 9#32
  let arg0 : BitVec 32 := BitVec.ofNat 32 (i 0).val
  let c8_i32_272 : BitVec 32 := 8#32
  let v477 : BitVec 32 := Scalar.muli arg0 c8_i32_272
  let v478 : BitVec 32 := Scalar.addi v477 c0_i32_273
  let v479 : BitVec 32 := Scalar.addi v478 c0_i32_274
  let v480 : Index := Scalar.indexCast v479
  ![9, v480.toNat]
def k0_off263 (i : grid0.Coords) (c0_i32_303 : BitVec 32) (c0_i32_304 : BitVec 32) : Fin 2 → Nat :=
  let c10 : Index := 10#32
  let arg0 : BitVec 32 := BitVec.ofNat 32 (i 0).val
  let c8_i32_302 : BitVec 32 := 8#32
  let v529 : BitVec 32 := Scalar.muli arg0 c8_i32_302
  let v530 : BitVec 32 := Scalar.addi v529 c0_i32_303
  let v531 : BitVec 32 := Scalar.addi v530 c0_i32_304
  let v532 : Index := Scalar.indexCast v531
  ![10, v532.toNat]
def k0_off264 (i : grid0.Coords) (c0_i32_333 : BitVec 32) (c0_i32_334 : BitVec 32) : Fin 2 → Nat :=
  let c11 : Index := 11#32
  let arg0 : BitVec 32 := BitVec.ofNat 32 (i 0).val
  let c8_i32_332 : BitVec 32 := 8#32
  let v581 : BitVec 32 := Scalar.muli arg0 c8_i32_332
  let v582 : BitVec 32 := Scalar.addi v581 c0_i32_333
  let v583 : BitVec 32 := Scalar.addi v582 c0_i32_334
  let v584 : Index := Scalar.indexCast v583
  ![11, v584.toNat]
def k0_off265 (i : grid0.Coords) (c0_i32_363 : BitVec 32) (c0_i32_364 : BitVec 32) : Fin 2 → Nat :=
  let c12 : Index := 12#32
  let arg0 : BitVec 32 := BitVec.ofNat 32 (i 0).val
  let c8_i32_362 : BitVec 32 := 8#32
  let v633 : BitVec 32 := Scalar.muli arg0 c8_i32_362
  let v634 : BitVec 32 := Scalar.addi v633 c0_i32_363
  let v635 : BitVec 32 := Scalar.addi v634 c0_i32_364
  let v636 : Index := Scalar.indexCast v635
  ![12, v636.toNat]
def k0_off266 (i : grid0.Coords) (c0_i32_393 : BitVec 32) (c0_i32_394 : BitVec 32) : Fin 2 → Nat :=
  let c13 : Index := 13#32
  let arg0 : BitVec 32 := BitVec.ofNat 32 (i 0).val
  let c8_i32_392 : BitVec 32 := 8#32
  let v685 : BitVec 32 := Scalar.muli arg0 c8_i32_392
  let v686 : BitVec 32 := Scalar.addi v685 c0_i32_393
  let v687 : BitVec 32 := Scalar.addi v686 c0_i32_394
  let v688 : Index := Scalar.indexCast v687
  ![13, v688.toNat]
def k0_off267 (i : grid0.Coords) (c0_i32_423 : BitVec 32) (c0_i32_424 : BitVec 32) : Fin 2 → Nat :=
  let c14 : Index := 14#32
  let arg0 : BitVec 32 := BitVec.ofNat 32 (i 0).val
  let c8_i32_422 : BitVec 32 := 8#32
  let v737 : BitVec 32 := Scalar.muli arg0 c8_i32_422
  let v738 : BitVec 32 := Scalar.addi v737 c0_i32_423
  let v739 : BitVec 32 := Scalar.addi v738 c0_i32_424
  let v740 : Index := Scalar.indexCast v739
  ![14, v740.toNat]
def k0_off268 (i : grid0.Coords) (c0_i32_453 : BitVec 32) (c0_i32_454 : BitVec 32) : Fin 2 → Nat :=
  let c15 : Index := 15#32
  let arg0 : BitVec 32 := BitVec.ofNat 32 (i 0).val
  let c8_i32_452 : BitVec 32 := 8#32
  let v789 : BitVec 32 := Scalar.muli arg0 c8_i32_452
  let v790 : BitVec 32 := Scalar.addi v789 c0_i32_453
  let v791 : BitVec 32 := Scalar.addi v790 c0_i32_454
  let v792 : Index := Scalar.indexCast v791
  ![15, v792.toNat]
def k0_off269 (i : grid0.Coords) (c0_i32_483 : BitVec 32) (c0_i32_484 : BitVec 32) : Fin 2 → Nat :=
  let c16 : Index := 16#32
  let arg0 : BitVec 32 := BitVec.ofNat 32 (i 0).val
  let c8_i32_482 : BitVec 32 := 8#32
  let v841 : BitVec 32 := Scalar.muli arg0 c8_i32_482
  let v842 : BitVec 32 := Scalar.addi v841 c0_i32_483
  let v843 : BitVec 32 := Scalar.addi v842 c0_i32_484
  let v844 : Index := Scalar.indexCast v843
  ![16, v844.toNat]
def k0_off270 (i : grid0.Coords) (c0_i32_513 : BitVec 32) (c0_i32_514 : BitVec 32) : Fin 2 → Nat :=
  let c17 : Index := 17#32
  let arg0 : BitVec 32 := BitVec.ofNat 32 (i 0).val
  let c8_i32_512 : BitVec 32 := 8#32
  let v893 : BitVec 32 := Scalar.muli arg0 c8_i32_512
  let v894 : BitVec 32 := Scalar.addi v893 c0_i32_513
  let v895 : BitVec 32 := Scalar.addi v894 c0_i32_514
  let v896 : Index := Scalar.indexCast v895
  ![17, v896.toNat]
def k0_off271 (i : grid0.Coords) (c0_i32_543 : BitVec 32) (c0_i32_544 : BitVec 32) : Fin 2 → Nat :=
  let c18 : Index := 18#32
  let arg0 : BitVec 32 := BitVec.ofNat 32 (i 0).val
  let c8_i32_542 : BitVec 32 := 8#32
  let v945 : BitVec 32 := Scalar.muli arg0 c8_i32_542
  let v946 : BitVec 32 := Scalar.addi v945 c0_i32_543
  let v947 : BitVec 32 := Scalar.addi v946 c0_i32_544
  let v948 : Index := Scalar.indexCast v947
  ![18, v948.toNat]
def k0_off272 (i : grid0.Coords) (c0_i32_573 : BitVec 32) (c0_i32_574 : BitVec 32) : Fin 2 → Nat :=
  let c19 : Index := 19#32
  let arg0 : BitVec 32 := BitVec.ofNat 32 (i 0).val
  let c8_i32_572 : BitVec 32 := 8#32
  let v997 : BitVec 32 := Scalar.muli arg0 c8_i32_572
  let v998 : BitVec 32 := Scalar.addi v997 c0_i32_573
  let v999 : BitVec 32 := Scalar.addi v998 c0_i32_574
  let v1000 : Index := Scalar.indexCast v999
  ![19, v1000.toNat]
def k0_off273 (i : grid0.Coords) (c0_i32_603 : BitVec 32) (c0_i32_604 : BitVec 32) : Fin 2 → Nat :=
  let c20 : Index := 20#32
  let arg0 : BitVec 32 := BitVec.ofNat 32 (i 0).val
  let c8_i32_602 : BitVec 32 := 8#32
  let v1049 : BitVec 32 := Scalar.muli arg0 c8_i32_602
  let v1050 : BitVec 32 := Scalar.addi v1049 c0_i32_603
  let v1051 : BitVec 32 := Scalar.addi v1050 c0_i32_604
  let v1052 : Index := Scalar.indexCast v1051
  ![20, v1052.toNat]
def k0_off274 (i : grid0.Coords) (c0_i32_633 : BitVec 32) (c0_i32_634 : BitVec 32) : Fin 2 → Nat :=
  let c21 : Index := 21#32
  let arg0 : BitVec 32 := BitVec.ofNat 32 (i 0).val
  let c8_i32_632 : BitVec 32 := 8#32
  let v1101 : BitVec 32 := Scalar.muli arg0 c8_i32_632
  let v1102 : BitVec 32 := Scalar.addi v1101 c0_i32_633
  let v1103 : BitVec 32 := Scalar.addi v1102 c0_i32_634
  let v1104 : Index := Scalar.indexCast v1103
  ![21, v1104.toNat]
def k0_off275 (i : grid0.Coords) (c0_i32_663 : BitVec 32) (c0_i32_664 : BitVec 32) : Fin 2 → Nat :=
  let c22 : Index := 22#32
  let arg0 : BitVec 32 := BitVec.ofNat 32 (i 0).val
  let c8_i32_662 : BitVec 32 := 8#32
  let v1153 : BitVec 32 := Scalar.muli arg0 c8_i32_662
  let v1154 : BitVec 32 := Scalar.addi v1153 c0_i32_663
  let v1155 : BitVec 32 := Scalar.addi v1154 c0_i32_664
  let v1156 : Index := Scalar.indexCast v1155
  ![22, v1156.toNat]
def k0_off276 (i : grid0.Coords) (c0_i32_693 : BitVec 32) (c0_i32_694 : BitVec 32) : Fin 2 → Nat :=
  let c23 : Index := 23#32
  let arg0 : BitVec 32 := BitVec.ofNat 32 (i 0).val
  let c8_i32_692 : BitVec 32 := 8#32
  let v1205 : BitVec 32 := Scalar.muli arg0 c8_i32_692
  let v1206 : BitVec 32 := Scalar.addi v1205 c0_i32_693
  let v1207 : BitVec 32 := Scalar.addi v1206 c0_i32_694
  let v1208 : Index := Scalar.indexCast v1207
  ![23, v1208.toNat]
def k0_off277 (i : grid0.Coords) (c0_i32_723 : BitVec 32) (c0_i32_724 : BitVec 32) : Fin 2 → Nat :=
  let c24 : Index := 24#32
  let arg0 : BitVec 32 := BitVec.ofNat 32 (i 0).val
  let c8_i32_722 : BitVec 32 := 8#32
  let v1257 : BitVec 32 := Scalar.muli arg0 c8_i32_722
  let v1258 : BitVec 32 := Scalar.addi v1257 c0_i32_723
  let v1259 : BitVec 32 := Scalar.addi v1258 c0_i32_724
  let v1260 : Index := Scalar.indexCast v1259
  ![24, v1260.toNat]
def k0_off278 (i : grid0.Coords) (c0_i32_753 : BitVec 32) (c0_i32_754 : BitVec 32) : Fin 2 → Nat :=
  let c25 : Index := 25#32
  let arg0 : BitVec 32 := BitVec.ofNat 32 (i 0).val
  let c8_i32_752 : BitVec 32 := 8#32
  let v1309 : BitVec 32 := Scalar.muli arg0 c8_i32_752
  let v1310 : BitVec 32 := Scalar.addi v1309 c0_i32_753
  let v1311 : BitVec 32 := Scalar.addi v1310 c0_i32_754
  let v1312 : Index := Scalar.indexCast v1311
  ![25, v1312.toNat]
def k0_off279 (i : grid0.Coords) (c0_i32_783 : BitVec 32) (c0_i32_784 : BitVec 32) : Fin 2 → Nat :=
  let c26 : Index := 26#32
  let arg0 : BitVec 32 := BitVec.ofNat 32 (i 0).val
  let c8_i32_782 : BitVec 32 := 8#32
  let v1361 : BitVec 32 := Scalar.muli arg0 c8_i32_782
  let v1362 : BitVec 32 := Scalar.addi v1361 c0_i32_783
  let v1363 : BitVec 32 := Scalar.addi v1362 c0_i32_784
  let v1364 : Index := Scalar.indexCast v1363
  ![26, v1364.toNat]
def k0_off280 (i : grid0.Coords) (c0_i32_813 : BitVec 32) (c0_i32_814 : BitVec 32) : Fin 2 → Nat :=
  let c27 : Index := 27#32
  let arg0 : BitVec 32 := BitVec.ofNat 32 (i 0).val
  let c8_i32_812 : BitVec 32 := 8#32
  let v1413 : BitVec 32 := Scalar.muli arg0 c8_i32_812
  let v1414 : BitVec 32 := Scalar.addi v1413 c0_i32_813
  let v1415 : BitVec 32 := Scalar.addi v1414 c0_i32_814
  let v1416 : Index := Scalar.indexCast v1415
  ![27, v1416.toNat]
def k0_off281 (i : grid0.Coords) (c0_i32_843 : BitVec 32) (c0_i32_844 : BitVec 32) : Fin 2 → Nat :=
  let c28 : Index := 28#32
  let arg0 : BitVec 32 := BitVec.ofNat 32 (i 0).val
  let c8_i32_842 : BitVec 32 := 8#32
  let v1465 : BitVec 32 := Scalar.muli arg0 c8_i32_842
  let v1466 : BitVec 32 := Scalar.addi v1465 c0_i32_843
  let v1467 : BitVec 32 := Scalar.addi v1466 c0_i32_844
  let v1468 : Index := Scalar.indexCast v1467
  ![28, v1468.toNat]
def k0_off282 (i : grid0.Coords) (c0_i32_873 : BitVec 32) (c0_i32_874 : BitVec 32) : Fin 2 → Nat :=
  let c29 : Index := 29#32
  let arg0 : BitVec 32 := BitVec.ofNat 32 (i 0).val
  let c8_i32_872 : BitVec 32 := 8#32
  let v1517 : BitVec 32 := Scalar.muli arg0 c8_i32_872
  let v1518 : BitVec 32 := Scalar.addi v1517 c0_i32_873
  let v1519 : BitVec 32 := Scalar.addi v1518 c0_i32_874
  let v1520 : Index := Scalar.indexCast v1519
  ![29, v1520.toNat]
def k0_off283 (i : grid0.Coords) (c0_i32_903 : BitVec 32) (c0_i32_904 : BitVec 32) : Fin 2 → Nat :=
  let c30 : Index := 30#32
  let arg0 : BitVec 32 := BitVec.ofNat 32 (i 0).val
  let c8_i32_902 : BitVec 32 := 8#32
  let v1569 : BitVec 32 := Scalar.muli arg0 c8_i32_902
  let v1570 : BitVec 32 := Scalar.addi v1569 c0_i32_903
  let v1571 : BitVec 32 := Scalar.addi v1570 c0_i32_904
  let v1572 : Index := Scalar.indexCast v1571
  ![30, v1572.toNat]
def k0_off284 (i : grid0.Coords) (c0_i32_933 : BitVec 32) (c0_i32_934 : BitVec 32) : Fin 2 → Nat :=
  let c31 : Index := 31#32
  let arg0 : BitVec 32 := BitVec.ofNat 32 (i 0).val
  let c8_i32_932 : BitVec 32 := 8#32
  let v1621 : BitVec 32 := Scalar.muli arg0 c8_i32_932
  let v1622 : BitVec 32 := Scalar.addi v1621 c0_i32_933
  let v1623 : BitVec 32 := Scalar.addi v1622 c0_i32_934
  let v1624 : Index := Scalar.indexCast v1623
  ![31, v1624.toNat]
def k0_off285 (i : grid0.Coords) (c0_i32_963 : BitVec 32) (c0_i32_964 : BitVec 32) : Fin 2 → Nat :=
  let c32 : Index := 32#32
  let arg0 : BitVec 32 := BitVec.ofNat 32 (i 0).val
  let c8_i32_962 : BitVec 32 := 8#32
  let v1673 : BitVec 32 := Scalar.muli arg0 c8_i32_962
  let v1674 : BitVec 32 := Scalar.addi v1673 c0_i32_963
  let v1675 : BitVec 32 := Scalar.addi v1674 c0_i32_964
  let v1676 : Index := Scalar.indexCast v1675
  ![32, v1676.toNat]
def k0_off286 (i : grid0.Coords) (c0_i32_993 : BitVec 32) (c0_i32_994 : BitVec 32) : Fin 2 → Nat :=
  let c33 : Index := 33#32
  let arg0 : BitVec 32 := BitVec.ofNat 32 (i 0).val
  let c8_i32_992 : BitVec 32 := 8#32
  let v1725 : BitVec 32 := Scalar.muli arg0 c8_i32_992
  let v1726 : BitVec 32 := Scalar.addi v1725 c0_i32_993
  let v1727 : BitVec 32 := Scalar.addi v1726 c0_i32_994
  let v1728 : Index := Scalar.indexCast v1727
  ![33, v1728.toNat]
def k0_off287 (i : grid0.Coords) (c0_i32_1023 : BitVec 32) (c0_i32_1024 : BitVec 32) : Fin 2 → Nat :=
  let c34 : Index := 34#32
  let arg0 : BitVec 32 := BitVec.ofNat 32 (i 0).val
  let c8_i32_1022 : BitVec 32 := 8#32
  let v1777 : BitVec 32 := Scalar.muli arg0 c8_i32_1022
  let v1778 : BitVec 32 := Scalar.addi v1777 c0_i32_1023
  let v1779 : BitVec 32 := Scalar.addi v1778 c0_i32_1024
  let v1780 : Index := Scalar.indexCast v1779
  ![34, v1780.toNat]
def k0_off288 (i : grid0.Coords) (c0_i32_1053 : BitVec 32) (c0_i32_1054 : BitVec 32) : Fin 2 → Nat :=
  let c35 : Index := 35#32
  let arg0 : BitVec 32 := BitVec.ofNat 32 (i 0).val
  let c8_i32_1052 : BitVec 32 := 8#32
  let v1829 : BitVec 32 := Scalar.muli arg0 c8_i32_1052
  let v1830 : BitVec 32 := Scalar.addi v1829 c0_i32_1053
  let v1831 : BitVec 32 := Scalar.addi v1830 c0_i32_1054
  let v1832 : Index := Scalar.indexCast v1831
  ![35, v1832.toNat]
def k0_off289 (i : grid0.Coords) (c0_i32_1083 : BitVec 32) (c0_i32_1084 : BitVec 32) : Fin 2 → Nat :=
  let c36 : Index := 36#32
  let arg0 : BitVec 32 := BitVec.ofNat 32 (i 0).val
  let c8_i32_1082 : BitVec 32 := 8#32
  let v1881 : BitVec 32 := Scalar.muli arg0 c8_i32_1082
  let v1882 : BitVec 32 := Scalar.addi v1881 c0_i32_1083
  let v1883 : BitVec 32 := Scalar.addi v1882 c0_i32_1084
  let v1884 : Index := Scalar.indexCast v1883
  ![36, v1884.toNat]
def k0_off290 (i : grid0.Coords) (c0_i32_1113 : BitVec 32) (c0_i32_1114 : BitVec 32) : Fin 2 → Nat :=
  let c37 : Index := 37#32
  let arg0 : BitVec 32 := BitVec.ofNat 32 (i 0).val
  let c8_i32_1112 : BitVec 32 := 8#32
  let v1933 : BitVec 32 := Scalar.muli arg0 c8_i32_1112
  let v1934 : BitVec 32 := Scalar.addi v1933 c0_i32_1113
  let v1935 : BitVec 32 := Scalar.addi v1934 c0_i32_1114
  let v1936 : Index := Scalar.indexCast v1935
  ![37, v1936.toNat]
def k0_off291 (i : grid0.Coords) (c0_i32_1143 : BitVec 32) (c0_i32_1144 : BitVec 32) : Fin 2 → Nat :=
  let c38 : Index := 38#32
  let arg0 : BitVec 32 := BitVec.ofNat 32 (i 0).val
  let c8_i32_1142 : BitVec 32 := 8#32
  let v1985 : BitVec 32 := Scalar.muli arg0 c8_i32_1142
  let v1986 : BitVec 32 := Scalar.addi v1985 c0_i32_1143
  let v1987 : BitVec 32 := Scalar.addi v1986 c0_i32_1144
  let v1988 : Index := Scalar.indexCast v1987
  ![38, v1988.toNat]
def k0_off292 (i : grid0.Coords) (c0_i32_1173 : BitVec 32) (c0_i32_1174 : BitVec 32) : Fin 2 → Nat :=
  let c39 : Index := 39#32
  let arg0 : BitVec 32 := BitVec.ofNat 32 (i 0).val
  let c8_i32_1172 : BitVec 32 := 8#32
  let v2037 : BitVec 32 := Scalar.muli arg0 c8_i32_1172
  let v2038 : BitVec 32 := Scalar.addi v2037 c0_i32_1173
  let v2039 : BitVec 32 := Scalar.addi v2038 c0_i32_1174
  let v2040 : Index := Scalar.indexCast v2039
  ![39, v2040.toNat]
def k0_off293 (i : grid0.Coords) (c0_i32_1203 : BitVec 32) (c0_i32_1204 : BitVec 32) : Fin 2 → Nat :=
  let c40 : Index := 40#32
  let arg0 : BitVec 32 := BitVec.ofNat 32 (i 0).val
  let c8_i32_1202 : BitVec 32 := 8#32
  let v2089 : BitVec 32 := Scalar.muli arg0 c8_i32_1202
  let v2090 : BitVec 32 := Scalar.addi v2089 c0_i32_1203
  let v2091 : BitVec 32 := Scalar.addi v2090 c0_i32_1204
  let v2092 : Index := Scalar.indexCast v2091
  ![40, v2092.toNat]
def k0_off294 (i : grid0.Coords) (c0_i32_1233 : BitVec 32) (c0_i32_1234 : BitVec 32) : Fin 2 → Nat :=
  let c41 : Index := 41#32
  let arg0 : BitVec 32 := BitVec.ofNat 32 (i 0).val
  let c8_i32_1232 : BitVec 32 := 8#32
  let v2141 : BitVec 32 := Scalar.muli arg0 c8_i32_1232
  let v2142 : BitVec 32 := Scalar.addi v2141 c0_i32_1233
  let v2143 : BitVec 32 := Scalar.addi v2142 c0_i32_1234
  let v2144 : Index := Scalar.indexCast v2143
  ![41, v2144.toNat]
def k0_off295 (i : grid0.Coords) (c0_i32_1263 : BitVec 32) (c0_i32_1264 : BitVec 32) : Fin 2 → Nat :=
  let c42 : Index := 42#32
  let arg0 : BitVec 32 := BitVec.ofNat 32 (i 0).val
  let c8_i32_1262 : BitVec 32 := 8#32
  let v2193 : BitVec 32 := Scalar.muli arg0 c8_i32_1262
  let v2194 : BitVec 32 := Scalar.addi v2193 c0_i32_1263
  let v2195 : BitVec 32 := Scalar.addi v2194 c0_i32_1264
  let v2196 : Index := Scalar.indexCast v2195
  ![42, v2196.toNat]
def k0_off296 (i : grid0.Coords) (c0_i32_1293 : BitVec 32) (c0_i32_1294 : BitVec 32) : Fin 2 → Nat :=
  let c43 : Index := 43#32
  let arg0 : BitVec 32 := BitVec.ofNat 32 (i 0).val
  let c8_i32_1292 : BitVec 32 := 8#32
  let v2245 : BitVec 32 := Scalar.muli arg0 c8_i32_1292
  let v2246 : BitVec 32 := Scalar.addi v2245 c0_i32_1293
  let v2247 : BitVec 32 := Scalar.addi v2246 c0_i32_1294
  let v2248 : Index := Scalar.indexCast v2247
  ![43, v2248.toNat]
def k0_off297 (i : grid0.Coords) (c0_i32_1323 : BitVec 32) (c0_i32_1324 : BitVec 32) : Fin 2 → Nat :=
  let c44 : Index := 44#32
  let arg0 : BitVec 32 := BitVec.ofNat 32 (i 0).val
  let c8_i32_1322 : BitVec 32 := 8#32
  let v2297 : BitVec 32 := Scalar.muli arg0 c8_i32_1322
  let v2298 : BitVec 32 := Scalar.addi v2297 c0_i32_1323
  let v2299 : BitVec 32 := Scalar.addi v2298 c0_i32_1324
  let v2300 : Index := Scalar.indexCast v2299
  ![44, v2300.toNat]
def k0_off298 (i : grid0.Coords) (c0_i32_1353 : BitVec 32) (c0_i32_1354 : BitVec 32) : Fin 2 → Nat :=
  let c45 : Index := 45#32
  let arg0 : BitVec 32 := BitVec.ofNat 32 (i 0).val
  let c8_i32_1352 : BitVec 32 := 8#32
  let v2349 : BitVec 32 := Scalar.muli arg0 c8_i32_1352
  let v2350 : BitVec 32 := Scalar.addi v2349 c0_i32_1353
  let v2351 : BitVec 32 := Scalar.addi v2350 c0_i32_1354
  let v2352 : Index := Scalar.indexCast v2351
  ![45, v2352.toNat]
def k0_off299 (i : grid0.Coords) (c0_i32_1383 : BitVec 32) (c0_i32_1384 : BitVec 32) : Fin 2 → Nat :=
  let c46 : Index := 46#32
  let arg0 : BitVec 32 := BitVec.ofNat 32 (i 0).val
  let c8_i32_1382 : BitVec 32 := 8#32
  let v2401 : BitVec 32 := Scalar.muli arg0 c8_i32_1382
  let v2402 : BitVec 32 := Scalar.addi v2401 c0_i32_1383
  let v2403 : BitVec 32 := Scalar.addi v2402 c0_i32_1384
  let v2404 : Index := Scalar.indexCast v2403
  ![46, v2404.toNat]
def k0_off300 (i : grid0.Coords) (c0_i32_1413 : BitVec 32) (c0_i32_1414 : BitVec 32) : Fin 2 → Nat :=
  let c47 : Index := 47#32
  let arg0 : BitVec 32 := BitVec.ofNat 32 (i 0).val
  let c8_i32_1412 : BitVec 32 := 8#32
  let v2453 : BitVec 32 := Scalar.muli arg0 c8_i32_1412
  let v2454 : BitVec 32 := Scalar.addi v2453 c0_i32_1413
  let v2455 : BitVec 32 := Scalar.addi v2454 c0_i32_1414
  let v2456 : Index := Scalar.indexCast v2455
  ![47, v2456.toNat]
def k0_off301 (i : grid0.Coords) (c0_i32_1443 : BitVec 32) (c0_i32_1444 : BitVec 32) : Fin 2 → Nat :=
  let c48 : Index := 48#32
  let arg0 : BitVec 32 := BitVec.ofNat 32 (i 0).val
  let c8_i32_1442 : BitVec 32 := 8#32
  let v2505 : BitVec 32 := Scalar.muli arg0 c8_i32_1442
  let v2506 : BitVec 32 := Scalar.addi v2505 c0_i32_1443
  let v2507 : BitVec 32 := Scalar.addi v2506 c0_i32_1444
  let v2508 : Index := Scalar.indexCast v2507
  ![48, v2508.toNat]
def k0_off302 (i : grid0.Coords) (c0_i32_1473 : BitVec 32) (c0_i32_1474 : BitVec 32) : Fin 2 → Nat :=
  let c49 : Index := 49#32
  let arg0 : BitVec 32 := BitVec.ofNat 32 (i 0).val
  let c8_i32_1472 : BitVec 32 := 8#32
  let v2557 : BitVec 32 := Scalar.muli arg0 c8_i32_1472
  let v2558 : BitVec 32 := Scalar.addi v2557 c0_i32_1473
  let v2559 : BitVec 32 := Scalar.addi v2558 c0_i32_1474
  let v2560 : Index := Scalar.indexCast v2559
  ![49, v2560.toNat]
def k0_off303 (i : grid0.Coords) (c0_i32_1503 : BitVec 32) (c0_i32_1504 : BitVec 32) : Fin 2 → Nat :=
  let c50 : Index := 50#32
  let arg0 : BitVec 32 := BitVec.ofNat 32 (i 0).val
  let c8_i32_1502 : BitVec 32 := 8#32
  let v2609 : BitVec 32 := Scalar.muli arg0 c8_i32_1502
  let v2610 : BitVec 32 := Scalar.addi v2609 c0_i32_1503
  let v2611 : BitVec 32 := Scalar.addi v2610 c0_i32_1504
  let v2612 : Index := Scalar.indexCast v2611
  ![50, v2612.toNat]
def k0_off304 (i : grid0.Coords) (c0_i32_1533 : BitVec 32) (c0_i32_1534 : BitVec 32) : Fin 2 → Nat :=
  let c51 : Index := 51#32
  let arg0 : BitVec 32 := BitVec.ofNat 32 (i 0).val
  let c8_i32_1532 : BitVec 32 := 8#32
  let v2661 : BitVec 32 := Scalar.muli arg0 c8_i32_1532
  let v2662 : BitVec 32 := Scalar.addi v2661 c0_i32_1533
  let v2663 : BitVec 32 := Scalar.addi v2662 c0_i32_1534
  let v2664 : Index := Scalar.indexCast v2663
  ![51, v2664.toNat]
def k0_off305 (i : grid0.Coords) (c0_i32_1563 : BitVec 32) (c0_i32_1564 : BitVec 32) : Fin 2 → Nat :=
  let c52 : Index := 52#32
  let arg0 : BitVec 32 := BitVec.ofNat 32 (i 0).val
  let c8_i32_1562 : BitVec 32 := 8#32
  let v2713 : BitVec 32 := Scalar.muli arg0 c8_i32_1562
  let v2714 : BitVec 32 := Scalar.addi v2713 c0_i32_1563
  let v2715 : BitVec 32 := Scalar.addi v2714 c0_i32_1564
  let v2716 : Index := Scalar.indexCast v2715
  ![52, v2716.toNat]
def k0_off306 (i : grid0.Coords) (c0_i32_1593 : BitVec 32) (c0_i32_1594 : BitVec 32) : Fin 2 → Nat :=
  let c53 : Index := 53#32
  let arg0 : BitVec 32 := BitVec.ofNat 32 (i 0).val
  let c8_i32_1592 : BitVec 32 := 8#32
  let v2765 : BitVec 32 := Scalar.muli arg0 c8_i32_1592
  let v2766 : BitVec 32 := Scalar.addi v2765 c0_i32_1593
  let v2767 : BitVec 32 := Scalar.addi v2766 c0_i32_1594
  let v2768 : Index := Scalar.indexCast v2767
  ![53, v2768.toNat]
def k0_off307 (i : grid0.Coords) (c0_i32_1623 : BitVec 32) (c0_i32_1624 : BitVec 32) : Fin 2 → Nat :=
  let c54 : Index := 54#32
  let arg0 : BitVec 32 := BitVec.ofNat 32 (i 0).val
  let c8_i32_1622 : BitVec 32 := 8#32
  let v2817 : BitVec 32 := Scalar.muli arg0 c8_i32_1622
  let v2818 : BitVec 32 := Scalar.addi v2817 c0_i32_1623
  let v2819 : BitVec 32 := Scalar.addi v2818 c0_i32_1624
  let v2820 : Index := Scalar.indexCast v2819
  ![54, v2820.toNat]
def k0_off308 (i : grid0.Coords) (c0_i32_1653 : BitVec 32) (c0_i32_1654 : BitVec 32) : Fin 2 → Nat :=
  let c55 : Index := 55#32
  let arg0 : BitVec 32 := BitVec.ofNat 32 (i 0).val
  let c8_i32_1652 : BitVec 32 := 8#32
  let v2869 : BitVec 32 := Scalar.muli arg0 c8_i32_1652
  let v2870 : BitVec 32 := Scalar.addi v2869 c0_i32_1653
  let v2871 : BitVec 32 := Scalar.addi v2870 c0_i32_1654
  let v2872 : Index := Scalar.indexCast v2871
  ![55, v2872.toNat]
@[reducible] def k0_t3_loop : Scf.Loop 32 :=
  let c0_i32_1682 : BitVec 32 := 0#32
  let c3_i32_1683 : BitVec 32 := 3#32
  let v2921 : BitVec 32 := Scalar.addi c0_i32_1682 c3_i32_1683
  let c1_i32_1684 : BitVec 32 := 1#32
  ⟨c0_i32_1682, v2921, c1_i32_1684⟩
def k0_mult3 (k0_t3 : Fin k0_t3_loop.trips) : BitVec 32 :=
  let c0_i32_1682 : BitVec 32 := 0#32
  let c1_i32_1684 : BitVec 32 := 1#32
  let arg10 : BitVec 32 := Scf.iv c0_i32_1682 c1_i32_1684 k0_t3
  let c384_i32 : BitVec 32 := 384#32
  let v5835 : BitVec 32 := Scalar.muli arg10 c384_i32
  v5835
def k0_off309 (k0_t3 : Fin k0_t3_loop.trips) : Fin 2 → Nat :=
  let c0_i32_1682 : BitVec 32 := 0#32
  let c1_i32_1684 : BitVec 32 := 1#32
  let arg10 : BitVec 32 := Scf.iv c0_i32_1682 c1_i32_1684 k0_t3
  let c384_i32 : BitVec 32 := 384#32
  let v5835 : BitVec 32 := Scalar.muli arg10 c384_i32
  let v5836 : BitVec 32 := v5835
  let v5837 : Index := Scalar.indexCast v5836
  let c0_3481 : Index := 0#32
  ![v5837.toNat, 0]
def k0_off310 (k0_t3 : Fin k0_t3_loop.trips) (c0_i32_3484 : BitVec 32) : Fin 2 → Nat :=
  let c0_i32_1682 : BitVec 32 := 0#32
  let c1_i32_1684 : BitVec 32 := 1#32
  let arg10 : BitVec 32 := Scf.iv c0_i32_1682 c1_i32_1684 k0_t3
  let c384_i32 : BitVec 32 := 384#32
  let v5835 : BitVec 32 := Scalar.muli arg10 c384_i32
  let v5836 : BitVec 32 := v5835
  let v5842 : BitVec 32 := Scalar.addi v5836 c0_i32_3484
  let v5843 : Index := Scalar.indexCast v5842
  let c0_3485 : Index := 0#32
  ![v5843.toNat, 0]
def k0_off311 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v5887 : Index := Scalar.indexCast arg10
  let c0_3503 : Index := 0#32
  let c0_3505 : Index := 0#32
  ![v5887.toNat, 0, 0, 0]
def k0_off312 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v5893 : Index := Scalar.indexCast arg10
  let c0_3506 : Index := 0#32
  let c0_3508 : Index := 0#32
  ![v5893.toNat, 0, 2, 0]
def k0_off313 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v5943 : Index := Scalar.indexCast arg10
  let c8_3529 : Index := 8#32
  let c0_3531 : Index := 0#32
  ![v5943.toNat, 8, 0, 0]
def k0_off314 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v5949 : Index := Scalar.indexCast arg10
  let c8_3532 : Index := 8#32
  let c0_3534 : Index := 0#32
  ![v5949.toNat, 8, 2, 0]
def k0_off315 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v5999 : Index := Scalar.indexCast arg10
  let c16_3554 : Index := 16#32
  let c0_3556 : Index := 0#32
  ![v5999.toNat, 16, 0, 0]
def k0_off316 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6005 : Index := Scalar.indexCast arg10
  let c16_3557 : Index := 16#32
  let c0_3559 : Index := 0#32
  ![v6005.toNat, 16, 2, 0]
def k0_off317 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6055 : Index := Scalar.indexCast arg10
  let c24_3579 : Index := 24#32
  let c0_3581 : Index := 0#32
  ![v6055.toNat, 24, 0, 0]
def k0_off318 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6061 : Index := Scalar.indexCast arg10
  let c24_3582 : Index := 24#32
  let c0_3584 : Index := 0#32
  ![v6061.toNat, 24, 2, 0]
def k0_off319 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6111 : Index := Scalar.indexCast arg10
  let c32_3604 : Index := 32#32
  let c0_3606 : Index := 0#32
  ![v6111.toNat, 32, 0, 0]
def k0_off320 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6117 : Index := Scalar.indexCast arg10
  let c32_3607 : Index := 32#32
  let c0_3609 : Index := 0#32
  ![v6117.toNat, 32, 2, 0]
def k0_off321 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6167 : Index := Scalar.indexCast arg10
  let c40_3629 : Index := 40#32
  let c0_3631 : Index := 0#32
  ![v6167.toNat, 40, 0, 0]
def k0_off322 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6173 : Index := Scalar.indexCast arg10
  let c40_3632 : Index := 40#32
  let c0_3634 : Index := 0#32
  ![v6173.toNat, 40, 2, 0]
def k0_off323 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6223 : Index := Scalar.indexCast arg10
  let c48_3654 : Index := 48#32
  let c0_3656 : Index := 0#32
  ![v6223.toNat, 48, 0, 0]
def k0_off324 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6229 : Index := Scalar.indexCast arg10
  let c48_3657 : Index := 48#32
  let c0_3659 : Index := 0#32
  ![v6229.toNat, 48, 2, 0]
def k0_off325 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6279 : Index := Scalar.indexCast arg10
  let c56 : Index := 56#32
  let c0_3680 : Index := 0#32
  ![v6279.toNat, 56, 0, 0]
def k0_off326 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6285 : Index := Scalar.indexCast arg10
  let c56_3681 : Index := 56#32
  let c0_3683 : Index := 0#32
  ![v6285.toNat, 56, 2, 0]
def k0_off327 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6335 : Index := Scalar.indexCast arg10
  let c64 : Index := 64#32
  let c0_3705 : Index := 0#32
  ![v6335.toNat, 64, 0, 0]
def k0_off328 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6341 : Index := Scalar.indexCast arg10
  let c64_3706 : Index := 64#32
  let c0_3708 : Index := 0#32
  ![v6341.toNat, 64, 2, 0]
def k0_off329 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6391 : Index := Scalar.indexCast arg10
  let c72 : Index := 72#32
  let c0_3729 : Index := 0#32
  ![v6391.toNat, 72, 0, 0]
def k0_off330 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6397 : Index := Scalar.indexCast arg10
  let c72_3730 : Index := 72#32
  let c0_3732 : Index := 0#32
  ![v6397.toNat, 72, 2, 0]
def k0_off331 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6447 : Index := Scalar.indexCast arg10
  let c80 : Index := 80#32
  let c0_3753 : Index := 0#32
  ![v6447.toNat, 80, 0, 0]
def k0_off332 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6453 : Index := Scalar.indexCast arg10
  let c80_3754 : Index := 80#32
  let c0_3756 : Index := 0#32
  ![v6453.toNat, 80, 2, 0]
def k0_off333 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6503 : Index := Scalar.indexCast arg10
  let c88 : Index := 88#32
  let c0_3777 : Index := 0#32
  ![v6503.toNat, 88, 0, 0]
def k0_off334 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6509 : Index := Scalar.indexCast arg10
  let c88_3778 : Index := 88#32
  let c0_3780 : Index := 0#32
  ![v6509.toNat, 88, 2, 0]
def k0_off335 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6559 : Index := Scalar.indexCast arg10
  let c96 : Index := 96#32
  let c0_3801 : Index := 0#32
  ![v6559.toNat, 96, 0, 0]
def k0_off336 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6565 : Index := Scalar.indexCast arg10
  let c96_3802 : Index := 96#32
  let c0_3804 : Index := 0#32
  ![v6565.toNat, 96, 2, 0]
def k0_off337 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6615 : Index := Scalar.indexCast arg10
  let c104 : Index := 104#32
  let c0_3825 : Index := 0#32
  ![v6615.toNat, 104, 0, 0]
def k0_off338 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6621 : Index := Scalar.indexCast arg10
  let c104_3826 : Index := 104#32
  let c0_3828 : Index := 0#32
  ![v6621.toNat, 104, 2, 0]
def k0_off339 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6671 : Index := Scalar.indexCast arg10
  let c112 : Index := 112#32
  let c0_3849 : Index := 0#32
  ![v6671.toNat, 112, 0, 0]
def k0_off340 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6677 : Index := Scalar.indexCast arg10
  let c112_3850 : Index := 112#32
  let c0_3852 : Index := 0#32
  ![v6677.toNat, 112, 2, 0]
def k0_off341 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6727 : Index := Scalar.indexCast arg10
  let c120 : Index := 120#32
  let c0_3873 : Index := 0#32
  ![v6727.toNat, 120, 0, 0]
def k0_off342 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6733 : Index := Scalar.indexCast arg10
  let c120_3874 : Index := 120#32
  let c0_3876 : Index := 0#32
  ![v6733.toNat, 120, 2, 0]
def k0_off343 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6783 : Index := Scalar.indexCast arg10
  let c128_3896 : Index := 128#32
  let c0_3898 : Index := 0#32
  ![v6783.toNat, 128, 0, 0]
def k0_off344 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6789 : Index := Scalar.indexCast arg10
  let c128_3899 : Index := 128#32
  let c0_3901 : Index := 0#32
  ![v6789.toNat, 128, 2, 0]
def k0_off345 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6839 : Index := Scalar.indexCast arg10
  let c136 : Index := 136#32
  let c0_3922 : Index := 0#32
  ![v6839.toNat, 136, 0, 0]
def k0_off346 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6845 : Index := Scalar.indexCast arg10
  let c136_3923 : Index := 136#32
  let c0_3925 : Index := 0#32
  ![v6845.toNat, 136, 2, 0]
def k0_off347 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6895 : Index := Scalar.indexCast arg10
  let c144 : Index := 144#32
  let c0_3946 : Index := 0#32
  ![v6895.toNat, 144, 0, 0]
def k0_off348 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6901 : Index := Scalar.indexCast arg10
  let c144_3947 : Index := 144#32
  let c0_3949 : Index := 0#32
  ![v6901.toNat, 144, 2, 0]
def k0_off349 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6951 : Index := Scalar.indexCast arg10
  let c152 : Index := 152#32
  let c0_3970 : Index := 0#32
  ![v6951.toNat, 152, 0, 0]
def k0_off350 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v6957 : Index := Scalar.indexCast arg10
  let c152_3971 : Index := 152#32
  let c0_3973 : Index := 0#32
  ![v6957.toNat, 152, 2, 0]
def k0_off351 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7007 : Index := Scalar.indexCast arg10
  let c160 : Index := 160#32
  let c0_3994 : Index := 0#32
  ![v7007.toNat, 160, 0, 0]
def k0_off352 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7013 : Index := Scalar.indexCast arg10
  let c160_3995 : Index := 160#32
  let c0_3997 : Index := 0#32
  ![v7013.toNat, 160, 2, 0]
def k0_off353 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7063 : Index := Scalar.indexCast arg10
  let c168 : Index := 168#32
  let c0_4018 : Index := 0#32
  ![v7063.toNat, 168, 0, 0]
def k0_off354 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7069 : Index := Scalar.indexCast arg10
  let c168_4019 : Index := 168#32
  let c0_4021 : Index := 0#32
  ![v7069.toNat, 168, 2, 0]
def k0_off355 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7119 : Index := Scalar.indexCast arg10
  let c176 : Index := 176#32
  let c0_4042 : Index := 0#32
  ![v7119.toNat, 176, 0, 0]
def k0_off356 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7125 : Index := Scalar.indexCast arg10
  let c176_4043 : Index := 176#32
  let c0_4045 : Index := 0#32
  ![v7125.toNat, 176, 2, 0]
def k0_off357 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7175 : Index := Scalar.indexCast arg10
  let c184 : Index := 184#32
  let c0_4066 : Index := 0#32
  ![v7175.toNat, 184, 0, 0]
def k0_off358 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7181 : Index := Scalar.indexCast arg10
  let c184_4067 : Index := 184#32
  let c0_4069 : Index := 0#32
  ![v7181.toNat, 184, 2, 0]
def k0_off359 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7231 : Index := Scalar.indexCast arg10
  let c192 : Index := 192#32
  let c0_4090 : Index := 0#32
  ![v7231.toNat, 192, 0, 0]
def k0_off360 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7237 : Index := Scalar.indexCast arg10
  let c192_4091 : Index := 192#32
  let c0_4093 : Index := 0#32
  ![v7237.toNat, 192, 2, 0]
def k0_off361 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7287 : Index := Scalar.indexCast arg10
  let c200 : Index := 200#32
  let c0_4114 : Index := 0#32
  ![v7287.toNat, 200, 0, 0]
def k0_off362 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7293 : Index := Scalar.indexCast arg10
  let c200_4115 : Index := 200#32
  let c0_4117 : Index := 0#32
  ![v7293.toNat, 200, 2, 0]
def k0_off363 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7343 : Index := Scalar.indexCast arg10
  let c208 : Index := 208#32
  let c0_4138 : Index := 0#32
  ![v7343.toNat, 208, 0, 0]
def k0_off364 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7349 : Index := Scalar.indexCast arg10
  let c208_4139 : Index := 208#32
  let c0_4141 : Index := 0#32
  ![v7349.toNat, 208, 2, 0]
def k0_off365 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7399 : Index := Scalar.indexCast arg10
  let c216 : Index := 216#32
  let c0_4162 : Index := 0#32
  ![v7399.toNat, 216, 0, 0]
def k0_off366 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7405 : Index := Scalar.indexCast arg10
  let c216_4163 : Index := 216#32
  let c0_4165 : Index := 0#32
  ![v7405.toNat, 216, 2, 0]
def k0_off367 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7455 : Index := Scalar.indexCast arg10
  let c224 : Index := 224#32
  let c0_4186 : Index := 0#32
  ![v7455.toNat, 224, 0, 0]
def k0_off368 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7461 : Index := Scalar.indexCast arg10
  let c224_4187 : Index := 224#32
  let c0_4189 : Index := 0#32
  ![v7461.toNat, 224, 2, 0]
def k0_off369 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7511 : Index := Scalar.indexCast arg10
  let c232 : Index := 232#32
  let c0_4210 : Index := 0#32
  ![v7511.toNat, 232, 0, 0]
def k0_off370 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7517 : Index := Scalar.indexCast arg10
  let c232_4211 : Index := 232#32
  let c0_4213 : Index := 0#32
  ![v7517.toNat, 232, 2, 0]
def k0_off371 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7567 : Index := Scalar.indexCast arg10
  let c240 : Index := 240#32
  let c0_4234 : Index := 0#32
  ![v7567.toNat, 240, 0, 0]
def k0_off372 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7573 : Index := Scalar.indexCast arg10
  let c240_4235 : Index := 240#32
  let c0_4237 : Index := 0#32
  ![v7573.toNat, 240, 2, 0]
def k0_off373 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7623 : Index := Scalar.indexCast arg10
  let c248 : Index := 248#32
  let c0_4258 : Index := 0#32
  ![v7623.toNat, 248, 0, 0]
def k0_off374 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7629 : Index := Scalar.indexCast arg10
  let c248_4259 : Index := 248#32
  let c0_4261 : Index := 0#32
  ![v7629.toNat, 248, 2, 0]
def k0_off375 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7679 : Index := Scalar.indexCast arg10
  let c256_4281 : Index := 256#32
  let c0_4283 : Index := 0#32
  ![v7679.toNat, 256, 0, 0]
def k0_off376 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7685 : Index := Scalar.indexCast arg10
  let c256_4284 : Index := 256#32
  let c0_4286 : Index := 0#32
  ![v7685.toNat, 256, 2, 0]
def k0_off377 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7735 : Index := Scalar.indexCast arg10
  let c264 : Index := 264#32
  let c0_4307 : Index := 0#32
  ![v7735.toNat, 264, 0, 0]
def k0_off378 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7741 : Index := Scalar.indexCast arg10
  let c264_4308 : Index := 264#32
  let c0_4310 : Index := 0#32
  ![v7741.toNat, 264, 2, 0]
def k0_off379 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7791 : Index := Scalar.indexCast arg10
  let c272 : Index := 272#32
  let c0_4331 : Index := 0#32
  ![v7791.toNat, 272, 0, 0]
def k0_off380 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7797 : Index := Scalar.indexCast arg10
  let c272_4332 : Index := 272#32
  let c0_4334 : Index := 0#32
  ![v7797.toNat, 272, 2, 0]
def k0_off381 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7847 : Index := Scalar.indexCast arg10
  let c280 : Index := 280#32
  let c0_4355 : Index := 0#32
  ![v7847.toNat, 280, 0, 0]
def k0_off382 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7853 : Index := Scalar.indexCast arg10
  let c280_4356 : Index := 280#32
  let c0_4358 : Index := 0#32
  ![v7853.toNat, 280, 2, 0]
def k0_off383 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7903 : Index := Scalar.indexCast arg10
  let c288 : Index := 288#32
  let c0_4379 : Index := 0#32
  ![v7903.toNat, 288, 0, 0]
def k0_off384 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7909 : Index := Scalar.indexCast arg10
  let c288_4380 : Index := 288#32
  let c0_4382 : Index := 0#32
  ![v7909.toNat, 288, 2, 0]
def k0_off385 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7959 : Index := Scalar.indexCast arg10
  let c296 : Index := 296#32
  let c0_4403 : Index := 0#32
  ![v7959.toNat, 296, 0, 0]
def k0_off386 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v7965 : Index := Scalar.indexCast arg10
  let c296_4404 : Index := 296#32
  let c0_4406 : Index := 0#32
  ![v7965.toNat, 296, 2, 0]
def k0_off387 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8015 : Index := Scalar.indexCast arg10
  let c304 : Index := 304#32
  let c0_4427 : Index := 0#32
  ![v8015.toNat, 304, 0, 0]
def k0_off388 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8021 : Index := Scalar.indexCast arg10
  let c304_4428 : Index := 304#32
  let c0_4430 : Index := 0#32
  ![v8021.toNat, 304, 2, 0]
def k0_off389 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8071 : Index := Scalar.indexCast arg10
  let c312 : Index := 312#32
  let c0_4451 : Index := 0#32
  ![v8071.toNat, 312, 0, 0]
def k0_off390 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8077 : Index := Scalar.indexCast arg10
  let c312_4452 : Index := 312#32
  let c0_4454 : Index := 0#32
  ![v8077.toNat, 312, 2, 0]
def k0_off391 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8127 : Index := Scalar.indexCast arg10
  let c320 : Index := 320#32
  let c0_4475 : Index := 0#32
  ![v8127.toNat, 320, 0, 0]
def k0_off392 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8133 : Index := Scalar.indexCast arg10
  let c320_4476 : Index := 320#32
  let c0_4478 : Index := 0#32
  ![v8133.toNat, 320, 2, 0]
def k0_off393 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8183 : Index := Scalar.indexCast arg10
  let c328 : Index := 328#32
  let c0_4499 : Index := 0#32
  ![v8183.toNat, 328, 0, 0]
def k0_off394 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8189 : Index := Scalar.indexCast arg10
  let c328_4500 : Index := 328#32
  let c0_4502 : Index := 0#32
  ![v8189.toNat, 328, 2, 0]
def k0_off395 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8239 : Index := Scalar.indexCast arg10
  let c336 : Index := 336#32
  let c0_4523 : Index := 0#32
  ![v8239.toNat, 336, 0, 0]
def k0_off396 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8245 : Index := Scalar.indexCast arg10
  let c336_4524 : Index := 336#32
  let c0_4526 : Index := 0#32
  ![v8245.toNat, 336, 2, 0]
def k0_off397 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8295 : Index := Scalar.indexCast arg10
  let c344 : Index := 344#32
  let c0_4547 : Index := 0#32
  ![v8295.toNat, 344, 0, 0]
def k0_off398 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8301 : Index := Scalar.indexCast arg10
  let c344_4548 : Index := 344#32
  let c0_4550 : Index := 0#32
  ![v8301.toNat, 344, 2, 0]
def k0_off399 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8351 : Index := Scalar.indexCast arg10
  let c352 : Index := 352#32
  let c0_4571 : Index := 0#32
  ![v8351.toNat, 352, 0, 0]
def k0_off400 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8357 : Index := Scalar.indexCast arg10
  let c352_4572 : Index := 352#32
  let c0_4574 : Index := 0#32
  ![v8357.toNat, 352, 2, 0]
def k0_off401 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8407 : Index := Scalar.indexCast arg10
  let c360 : Index := 360#32
  let c0_4595 : Index := 0#32
  ![v8407.toNat, 360, 0, 0]
def k0_off402 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8413 : Index := Scalar.indexCast arg10
  let c360_4596 : Index := 360#32
  let c0_4598 : Index := 0#32
  ![v8413.toNat, 360, 2, 0]
def k0_off403 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8463 : Index := Scalar.indexCast arg10
  let c368 : Index := 368#32
  let c0_4619 : Index := 0#32
  ![v8463.toNat, 368, 0, 0]
def k0_off404 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8469 : Index := Scalar.indexCast arg10
  let c368_4620 : Index := 368#32
  let c0_4622 : Index := 0#32
  ![v8469.toNat, 368, 2, 0]
def k0_off405 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8519 : Index := Scalar.indexCast arg10
  let c376 : Index := 376#32
  let c0_4643 : Index := 0#32
  ![v8519.toNat, 376, 0, 0]
def k0_off406 (k0_t3 : Fin k0_t3_loop.trips) : Fin 4 → Nat :=
  let c0_i32_1682 : BitVec 32 := 0#32
  let c1_i32_1684 : BitVec 32 := 1#32
  let arg10 : BitVec 32 := Scf.iv c0_i32_1682 c1_i32_1684 k0_t3
  let v8525 : Index := Scalar.indexCast arg10
  let c376_4644 : Index := 376#32
  let c0_4646 : Index := 0#32
  ![v8525.toNat, 376, 2, 0]
@[reducible] def k0_t4_loop : Scf.Loop 32 :=
  let c0_i32_3477 : BitVec 32 := 0#32
  let c3_i32_3478 : BitVec 32 := 3#32
  let v5834 : BitVec 32 := Scalar.addi c0_i32_3477 c3_i32_3478
  let c1_i32_3479 : BitVec 32 := 1#32
  ⟨c0_i32_3477, v5834, c1_i32_3479⟩
def k0_mult4 (k0_t4 : Fin k0_t4_loop.trips) : BitVec 32 :=
  let c0_i32_3477 : BitVec 32 := 0#32
  let c1_i32_3479 : BitVec 32 := 1#32
  let arg10 : BitVec 32 := Scf.iv c0_i32_3477 c1_i32_3479 k0_t4
  let c384_i32 : BitVec 32 := 384#32
  let v5835 : BitVec 32 := Scalar.muli arg10 c384_i32
  v5835
def k0_off407 (k0_t4 : Fin k0_t4_loop.trips) : Fin 2 → Nat :=
  let c0_i32_3477 : BitVec 32 := 0#32
  let c1_i32_3479 : BitVec 32 := 1#32
  let arg10 : BitVec 32 := Scf.iv c0_i32_3477 c1_i32_3479 k0_t4
  let c384_i32 : BitVec 32 := 384#32
  let v5835 : BitVec 32 := Scalar.muli arg10 c384_i32
  let v5836 : BitVec 32 := v5835
  let v5837 : Index := Scalar.indexCast v5836
  let c0_3481 : Index := 0#32
  ![v5837.toNat, 0]
def k0_off408 (k0_t4 : Fin k0_t4_loop.trips) (c0_i32_3484 : BitVec 32) : Fin 2 → Nat :=
  let c0_i32_3477 : BitVec 32 := 0#32
  let c1_i32_3479 : BitVec 32 := 1#32
  let arg10 : BitVec 32 := Scf.iv c0_i32_3477 c1_i32_3479 k0_t4
  let c384_i32 : BitVec 32 := 384#32
  let v5835 : BitVec 32 := Scalar.muli arg10 c384_i32
  let v5836 : BitVec 32 := v5835
  let v5842 : BitVec 32 := Scalar.addi v5836 c0_i32_3484
  let v5843 : Index := Scalar.indexCast v5842
  let c0_3485 : Index := 0#32
  ![v5843.toNat, 0]
def k0_off409 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v5887 : Index := Scalar.indexCast arg10
  let c0_3503 : Index := 0#32
  let c0_3505 : Index := 0#32
  ![v5887.toNat, 0, 4, 0]
def k0_off410 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v5893 : Index := Scalar.indexCast arg10
  let c0_3506 : Index := 0#32
  let c0_3508 : Index := 0#32
  ![v5893.toNat, 0, 6, 0]
def k0_off411 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v5943 : Index := Scalar.indexCast arg10
  let c8_3529 : Index := 8#32
  let c0_3531 : Index := 0#32
  ![v5943.toNat, 8, 4, 0]
def k0_off412 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v5949 : Index := Scalar.indexCast arg10
  let c8_3532 : Index := 8#32
  let c0_3534 : Index := 0#32
  ![v5949.toNat, 8, 6, 0]
def k0_off413 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v5999 : Index := Scalar.indexCast arg10
  let c16_3554 : Index := 16#32
  let c0_3556 : Index := 0#32
  ![v5999.toNat, 16, 4, 0]
def k0_off414 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6005 : Index := Scalar.indexCast arg10
  let c16_3557 : Index := 16#32
  let c0_3559 : Index := 0#32
  ![v6005.toNat, 16, 6, 0]
def k0_off415 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6055 : Index := Scalar.indexCast arg10
  let c24_3579 : Index := 24#32
  let c0_3581 : Index := 0#32
  ![v6055.toNat, 24, 4, 0]
def k0_off416 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6061 : Index := Scalar.indexCast arg10
  let c24_3582 : Index := 24#32
  let c0_3584 : Index := 0#32
  ![v6061.toNat, 24, 6, 0]
def k0_off417 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6111 : Index := Scalar.indexCast arg10
  let c32_3604 : Index := 32#32
  let c0_3606 : Index := 0#32
  ![v6111.toNat, 32, 4, 0]
def k0_off418 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6117 : Index := Scalar.indexCast arg10
  let c32_3607 : Index := 32#32
  let c0_3609 : Index := 0#32
  ![v6117.toNat, 32, 6, 0]
def k0_off419 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6167 : Index := Scalar.indexCast arg10
  let c40_3629 : Index := 40#32
  let c0_3631 : Index := 0#32
  ![v6167.toNat, 40, 4, 0]
def k0_off420 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6173 : Index := Scalar.indexCast arg10
  let c40_3632 : Index := 40#32
  let c0_3634 : Index := 0#32
  ![v6173.toNat, 40, 6, 0]
def k0_off421 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6223 : Index := Scalar.indexCast arg10
  let c48_3654 : Index := 48#32
  let c0_3656 : Index := 0#32
  ![v6223.toNat, 48, 4, 0]
def k0_off422 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6229 : Index := Scalar.indexCast arg10
  let c48_3657 : Index := 48#32
  let c0_3659 : Index := 0#32
  ![v6229.toNat, 48, 6, 0]
def k0_off423 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6279 : Index := Scalar.indexCast arg10
  let c56 : Index := 56#32
  let c0_3680 : Index := 0#32
  ![v6279.toNat, 56, 4, 0]
def k0_off424 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6285 : Index := Scalar.indexCast arg10
  let c56_3681 : Index := 56#32
  let c0_3683 : Index := 0#32
  ![v6285.toNat, 56, 6, 0]
def k0_off425 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6335 : Index := Scalar.indexCast arg10
  let c64 : Index := 64#32
  let c0_3705 : Index := 0#32
  ![v6335.toNat, 64, 4, 0]
def k0_off426 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6341 : Index := Scalar.indexCast arg10
  let c64_3706 : Index := 64#32
  let c0_3708 : Index := 0#32
  ![v6341.toNat, 64, 6, 0]
def k0_off427 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6391 : Index := Scalar.indexCast arg10
  let c72 : Index := 72#32
  let c0_3729 : Index := 0#32
  ![v6391.toNat, 72, 4, 0]
def k0_off428 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6397 : Index := Scalar.indexCast arg10
  let c72_3730 : Index := 72#32
  let c0_3732 : Index := 0#32
  ![v6397.toNat, 72, 6, 0]
def k0_off429 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6447 : Index := Scalar.indexCast arg10
  let c80 : Index := 80#32
  let c0_3753 : Index := 0#32
  ![v6447.toNat, 80, 4, 0]
def k0_off430 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6453 : Index := Scalar.indexCast arg10
  let c80_3754 : Index := 80#32
  let c0_3756 : Index := 0#32
  ![v6453.toNat, 80, 6, 0]
def k0_off431 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6503 : Index := Scalar.indexCast arg10
  let c88 : Index := 88#32
  let c0_3777 : Index := 0#32
  ![v6503.toNat, 88, 4, 0]
def k0_off432 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6509 : Index := Scalar.indexCast arg10
  let c88_3778 : Index := 88#32
  let c0_3780 : Index := 0#32
  ![v6509.toNat, 88, 6, 0]
def k0_off433 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6559 : Index := Scalar.indexCast arg10
  let c96 : Index := 96#32
  let c0_3801 : Index := 0#32
  ![v6559.toNat, 96, 4, 0]
def k0_off434 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6565 : Index := Scalar.indexCast arg10
  let c96_3802 : Index := 96#32
  let c0_3804 : Index := 0#32
  ![v6565.toNat, 96, 6, 0]
def k0_off435 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6615 : Index := Scalar.indexCast arg10
  let c104 : Index := 104#32
  let c0_3825 : Index := 0#32
  ![v6615.toNat, 104, 4, 0]
def k0_off436 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6621 : Index := Scalar.indexCast arg10
  let c104_3826 : Index := 104#32
  let c0_3828 : Index := 0#32
  ![v6621.toNat, 104, 6, 0]
def k0_off437 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6671 : Index := Scalar.indexCast arg10
  let c112 : Index := 112#32
  let c0_3849 : Index := 0#32
  ![v6671.toNat, 112, 4, 0]
def k0_off438 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6677 : Index := Scalar.indexCast arg10
  let c112_3850 : Index := 112#32
  let c0_3852 : Index := 0#32
  ![v6677.toNat, 112, 6, 0]
def k0_off439 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6727 : Index := Scalar.indexCast arg10
  let c120 : Index := 120#32
  let c0_3873 : Index := 0#32
  ![v6727.toNat, 120, 4, 0]
def k0_off440 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6733 : Index := Scalar.indexCast arg10
  let c120_3874 : Index := 120#32
  let c0_3876 : Index := 0#32
  ![v6733.toNat, 120, 6, 0]
def k0_off441 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6783 : Index := Scalar.indexCast arg10
  let c128_3896 : Index := 128#32
  let c0_3898 : Index := 0#32
  ![v6783.toNat, 128, 4, 0]
def k0_off442 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6789 : Index := Scalar.indexCast arg10
  let c128_3899 : Index := 128#32
  let c0_3901 : Index := 0#32
  ![v6789.toNat, 128, 6, 0]
def k0_off443 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6839 : Index := Scalar.indexCast arg10
  let c136 : Index := 136#32
  let c0_3922 : Index := 0#32
  ![v6839.toNat, 136, 4, 0]
def k0_off444 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6845 : Index := Scalar.indexCast arg10
  let c136_3923 : Index := 136#32
  let c0_3925 : Index := 0#32
  ![v6845.toNat, 136, 6, 0]
def k0_off445 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6895 : Index := Scalar.indexCast arg10
  let c144 : Index := 144#32
  let c0_3946 : Index := 0#32
  ![v6895.toNat, 144, 4, 0]
def k0_off446 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6901 : Index := Scalar.indexCast arg10
  let c144_3947 : Index := 144#32
  let c0_3949 : Index := 0#32
  ![v6901.toNat, 144, 6, 0]
def k0_off447 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6951 : Index := Scalar.indexCast arg10
  let c152 : Index := 152#32
  let c0_3970 : Index := 0#32
  ![v6951.toNat, 152, 4, 0]
def k0_off448 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v6957 : Index := Scalar.indexCast arg10
  let c152_3971 : Index := 152#32
  let c0_3973 : Index := 0#32
  ![v6957.toNat, 152, 6, 0]
def k0_off449 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7007 : Index := Scalar.indexCast arg10
  let c160 : Index := 160#32
  let c0_3994 : Index := 0#32
  ![v7007.toNat, 160, 4, 0]
def k0_off450 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7013 : Index := Scalar.indexCast arg10
  let c160_3995 : Index := 160#32
  let c0_3997 : Index := 0#32
  ![v7013.toNat, 160, 6, 0]
def k0_off451 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7063 : Index := Scalar.indexCast arg10
  let c168 : Index := 168#32
  let c0_4018 : Index := 0#32
  ![v7063.toNat, 168, 4, 0]
def k0_off452 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7069 : Index := Scalar.indexCast arg10
  let c168_4019 : Index := 168#32
  let c0_4021 : Index := 0#32
  ![v7069.toNat, 168, 6, 0]
def k0_off453 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7119 : Index := Scalar.indexCast arg10
  let c176 : Index := 176#32
  let c0_4042 : Index := 0#32
  ![v7119.toNat, 176, 4, 0]
def k0_off454 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7125 : Index := Scalar.indexCast arg10
  let c176_4043 : Index := 176#32
  let c0_4045 : Index := 0#32
  ![v7125.toNat, 176, 6, 0]
def k0_off455 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7175 : Index := Scalar.indexCast arg10
  let c184 : Index := 184#32
  let c0_4066 : Index := 0#32
  ![v7175.toNat, 184, 4, 0]
def k0_off456 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7181 : Index := Scalar.indexCast arg10
  let c184_4067 : Index := 184#32
  let c0_4069 : Index := 0#32
  ![v7181.toNat, 184, 6, 0]
def k0_off457 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7231 : Index := Scalar.indexCast arg10
  let c192 : Index := 192#32
  let c0_4090 : Index := 0#32
  ![v7231.toNat, 192, 4, 0]
def k0_off458 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7237 : Index := Scalar.indexCast arg10
  let c192_4091 : Index := 192#32
  let c0_4093 : Index := 0#32
  ![v7237.toNat, 192, 6, 0]
def k0_off459 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7287 : Index := Scalar.indexCast arg10
  let c200 : Index := 200#32
  let c0_4114 : Index := 0#32
  ![v7287.toNat, 200, 4, 0]
def k0_off460 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7293 : Index := Scalar.indexCast arg10
  let c200_4115 : Index := 200#32
  let c0_4117 : Index := 0#32
  ![v7293.toNat, 200, 6, 0]
def k0_off461 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7343 : Index := Scalar.indexCast arg10
  let c208 : Index := 208#32
  let c0_4138 : Index := 0#32
  ![v7343.toNat, 208, 4, 0]
def k0_off462 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7349 : Index := Scalar.indexCast arg10
  let c208_4139 : Index := 208#32
  let c0_4141 : Index := 0#32
  ![v7349.toNat, 208, 6, 0]
def k0_off463 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7399 : Index := Scalar.indexCast arg10
  let c216 : Index := 216#32
  let c0_4162 : Index := 0#32
  ![v7399.toNat, 216, 4, 0]
def k0_off464 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7405 : Index := Scalar.indexCast arg10
  let c216_4163 : Index := 216#32
  let c0_4165 : Index := 0#32
  ![v7405.toNat, 216, 6, 0]
def k0_off465 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7455 : Index := Scalar.indexCast arg10
  let c224 : Index := 224#32
  let c0_4186 : Index := 0#32
  ![v7455.toNat, 224, 4, 0]
def k0_off466 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7461 : Index := Scalar.indexCast arg10
  let c224_4187 : Index := 224#32
  let c0_4189 : Index := 0#32
  ![v7461.toNat, 224, 6, 0]
def k0_off467 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7511 : Index := Scalar.indexCast arg10
  let c232 : Index := 232#32
  let c0_4210 : Index := 0#32
  ![v7511.toNat, 232, 4, 0]
def k0_off468 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7517 : Index := Scalar.indexCast arg10
  let c232_4211 : Index := 232#32
  let c0_4213 : Index := 0#32
  ![v7517.toNat, 232, 6, 0]
def k0_off469 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7567 : Index := Scalar.indexCast arg10
  let c240 : Index := 240#32
  let c0_4234 : Index := 0#32
  ![v7567.toNat, 240, 4, 0]
def k0_off470 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7573 : Index := Scalar.indexCast arg10
  let c240_4235 : Index := 240#32
  let c0_4237 : Index := 0#32
  ![v7573.toNat, 240, 6, 0]
def k0_off471 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7623 : Index := Scalar.indexCast arg10
  let c248 : Index := 248#32
  let c0_4258 : Index := 0#32
  ![v7623.toNat, 248, 4, 0]
def k0_off472 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7629 : Index := Scalar.indexCast arg10
  let c248_4259 : Index := 248#32
  let c0_4261 : Index := 0#32
  ![v7629.toNat, 248, 6, 0]
def k0_off473 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7679 : Index := Scalar.indexCast arg10
  let c256_4281 : Index := 256#32
  let c0_4283 : Index := 0#32
  ![v7679.toNat, 256, 4, 0]
def k0_off474 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7685 : Index := Scalar.indexCast arg10
  let c256_4284 : Index := 256#32
  let c0_4286 : Index := 0#32
  ![v7685.toNat, 256, 6, 0]
def k0_off475 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7735 : Index := Scalar.indexCast arg10
  let c264 : Index := 264#32
  let c0_4307 : Index := 0#32
  ![v7735.toNat, 264, 4, 0]
def k0_off476 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7741 : Index := Scalar.indexCast arg10
  let c264_4308 : Index := 264#32
  let c0_4310 : Index := 0#32
  ![v7741.toNat, 264, 6, 0]
def k0_off477 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7791 : Index := Scalar.indexCast arg10
  let c272 : Index := 272#32
  let c0_4331 : Index := 0#32
  ![v7791.toNat, 272, 4, 0]
def k0_off478 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7797 : Index := Scalar.indexCast arg10
  let c272_4332 : Index := 272#32
  let c0_4334 : Index := 0#32
  ![v7797.toNat, 272, 6, 0]
def k0_off479 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7847 : Index := Scalar.indexCast arg10
  let c280 : Index := 280#32
  let c0_4355 : Index := 0#32
  ![v7847.toNat, 280, 4, 0]
def k0_off480 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7853 : Index := Scalar.indexCast arg10
  let c280_4356 : Index := 280#32
  let c0_4358 : Index := 0#32
  ![v7853.toNat, 280, 6, 0]
def k0_off481 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7903 : Index := Scalar.indexCast arg10
  let c288 : Index := 288#32
  let c0_4379 : Index := 0#32
  ![v7903.toNat, 288, 4, 0]
def k0_off482 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7909 : Index := Scalar.indexCast arg10
  let c288_4380 : Index := 288#32
  let c0_4382 : Index := 0#32
  ![v7909.toNat, 288, 6, 0]
def k0_off483 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7959 : Index := Scalar.indexCast arg10
  let c296 : Index := 296#32
  let c0_4403 : Index := 0#32
  ![v7959.toNat, 296, 4, 0]
def k0_off484 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v7965 : Index := Scalar.indexCast arg10
  let c296_4404 : Index := 296#32
  let c0_4406 : Index := 0#32
  ![v7965.toNat, 296, 6, 0]
def k0_off485 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8015 : Index := Scalar.indexCast arg10
  let c304 : Index := 304#32
  let c0_4427 : Index := 0#32
  ![v8015.toNat, 304, 4, 0]
def k0_off486 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8021 : Index := Scalar.indexCast arg10
  let c304_4428 : Index := 304#32
  let c0_4430 : Index := 0#32
  ![v8021.toNat, 304, 6, 0]
def k0_off487 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8071 : Index := Scalar.indexCast arg10
  let c312 : Index := 312#32
  let c0_4451 : Index := 0#32
  ![v8071.toNat, 312, 4, 0]
def k0_off488 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8077 : Index := Scalar.indexCast arg10
  let c312_4452 : Index := 312#32
  let c0_4454 : Index := 0#32
  ![v8077.toNat, 312, 6, 0]
def k0_off489 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8127 : Index := Scalar.indexCast arg10
  let c320 : Index := 320#32
  let c0_4475 : Index := 0#32
  ![v8127.toNat, 320, 4, 0]
def k0_off490 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8133 : Index := Scalar.indexCast arg10
  let c320_4476 : Index := 320#32
  let c0_4478 : Index := 0#32
  ![v8133.toNat, 320, 6, 0]
def k0_off491 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8183 : Index := Scalar.indexCast arg10
  let c328 : Index := 328#32
  let c0_4499 : Index := 0#32
  ![v8183.toNat, 328, 4, 0]
def k0_off492 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8189 : Index := Scalar.indexCast arg10
  let c328_4500 : Index := 328#32
  let c0_4502 : Index := 0#32
  ![v8189.toNat, 328, 6, 0]
def k0_off493 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8239 : Index := Scalar.indexCast arg10
  let c336 : Index := 336#32
  let c0_4523 : Index := 0#32
  ![v8239.toNat, 336, 4, 0]
def k0_off494 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8245 : Index := Scalar.indexCast arg10
  let c336_4524 : Index := 336#32
  let c0_4526 : Index := 0#32
  ![v8245.toNat, 336, 6, 0]
def k0_off495 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8295 : Index := Scalar.indexCast arg10
  let c344 : Index := 344#32
  let c0_4547 : Index := 0#32
  ![v8295.toNat, 344, 4, 0]
def k0_off496 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8301 : Index := Scalar.indexCast arg10
  let c344_4548 : Index := 344#32
  let c0_4550 : Index := 0#32
  ![v8301.toNat, 344, 6, 0]
def k0_off497 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8351 : Index := Scalar.indexCast arg10
  let c352 : Index := 352#32
  let c0_4571 : Index := 0#32
  ![v8351.toNat, 352, 4, 0]
def k0_off498 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8357 : Index := Scalar.indexCast arg10
  let c352_4572 : Index := 352#32
  let c0_4574 : Index := 0#32
  ![v8357.toNat, 352, 6, 0]
def k0_off499 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8407 : Index := Scalar.indexCast arg10
  let c360 : Index := 360#32
  let c0_4595 : Index := 0#32
  ![v8407.toNat, 360, 4, 0]
def k0_off500 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8413 : Index := Scalar.indexCast arg10
  let c360_4596 : Index := 360#32
  let c0_4598 : Index := 0#32
  ![v8413.toNat, 360, 6, 0]
def k0_off501 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8463 : Index := Scalar.indexCast arg10
  let c368 : Index := 368#32
  let c0_4619 : Index := 0#32
  ![v8463.toNat, 368, 4, 0]
def k0_off502 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8469 : Index := Scalar.indexCast arg10
  let c368_4620 : Index := 368#32
  let c0_4622 : Index := 0#32
  ![v8469.toNat, 368, 6, 0]
def k0_off503 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8519 : Index := Scalar.indexCast arg10
  let c376 : Index := 376#32
  let c0_4643 : Index := 0#32
  ![v8519.toNat, 376, 4, 0]
def k0_off504 (k0_t4 : Fin k0_t4_loop.trips) : Fin 4 → Nat :=
  let c0_i32_3477 : BitVec 32 := 0#32
  let c1_i32_3479 : BitVec 32 := 1#32
  let arg10 : BitVec 32 := Scf.iv c0_i32_3477 c1_i32_3479 k0_t4
  let v8525 : Index := Scalar.indexCast arg10
  let c376_4644 : Index := 376#32
  let c0_4646 : Index := 0#32
  ![v8525.toNat, 376, 6, 0]
def k0_cond3 (i : grid0.Coords) : BitVec 1 :=
  let arg0 : BitVec 32 := BitVec.ofNat 32 (i 0).val
  let c8_i32_2 : BitVec 32 := 8#32
  let v6 : BitVec 1 := Scalar.cmpi .sgt arg0 c8_i32_2
  let v7 : BitVec 32 := Scalar.extui v6
  let c0_i32_3 : BitVec 32 := 0#32
  let v8 : BitVec 1 := Scalar.cmpi .ne v7 c0_i32_3
  v8

def k0_off505 (i : grid0.Coords) (c0_i32_5 : BitVec 32) (c0_i32_6 : BitVec 32) : Fin 2 → Nat :=
  let c0 : Index := 0#32
  let arg0 : BitVec 32 := BitVec.ofNat 32 (i 0).val
  let c8_i32_4 : BitVec 32 := 8#32
  let v9 : BitVec 32 := Scalar.muli arg0 c8_i32_4
  let v10 : BitVec 32 := Scalar.addi v9 c0_i32_5
  let v11 : BitVec 32 := Scalar.addi v10 c0_i32_6
  let v12 : Index := Scalar.indexCast v11
  ![0, v12.toNat]
def k0_off506 (i : grid0.Coords) (c0_i32_30 : BitVec 32) (c0_i32_31 : BitVec 32) : Fin 2 → Nat :=
  let c1 : Index := 1#32
  let arg0 : BitVec 32 := BitVec.ofNat 32 (i 0).val
  let c8_i32_29 : BitVec 32 := 8#32
  let v61 : BitVec 32 := Scalar.muli arg0 c8_i32_29
  let v62 : BitVec 32 := Scalar.addi v61 c0_i32_30
  let v63 : BitVec 32 := Scalar.addi v62 c0_i32_31
  let v64 : Index := Scalar.indexCast v63
  ![1, v64.toNat]
def k0_off507 (i : grid0.Coords) (c0_i32_61 : BitVec 32) (c0_i32_62 : BitVec 32) : Fin 2 → Nat :=
  let c2 : Index := 2#32
  let arg0 : BitVec 32 := BitVec.ofNat 32 (i 0).val
  let c8_i32_60 : BitVec 32 := 8#32
  let v113 : BitVec 32 := Scalar.muli arg0 c8_i32_60
  let v114 : BitVec 32 := Scalar.addi v113 c0_i32_61
  let v115 : BitVec 32 := Scalar.addi v114 c0_i32_62
  let v116 : Index := Scalar.indexCast v115
  ![2, v116.toNat]
def k0_off508 (i : grid0.Coords) (c0_i32_92 : BitVec 32) (c0_i32_93 : BitVec 32) : Fin 2 → Nat :=
  let c3 : Index := 3#32
  let arg0 : BitVec 32 := BitVec.ofNat 32 (i 0).val
  let c8_i32_91 : BitVec 32 := 8#32
  let v165 : BitVec 32 := Scalar.muli arg0 c8_i32_91
  let v166 : BitVec 32 := Scalar.addi v165 c0_i32_92
  let v167 : BitVec 32 := Scalar.addi v166 c0_i32_93
  let v168 : Index := Scalar.indexCast v167
  ![3, v168.toNat]
def k0_off509 (i : grid0.Coords) (c0_i32_123 : BitVec 32) (c0_i32_124 : BitVec 32) : Fin 2 → Nat :=
  let c4 : Index := 4#32
  let arg0 : BitVec 32 := BitVec.ofNat 32 (i 0).val
  let c8_i32_122 : BitVec 32 := 8#32
  let v217 : BitVec 32 := Scalar.muli arg0 c8_i32_122
  let v218 : BitVec 32 := Scalar.addi v217 c0_i32_123
  let v219 : BitVec 32 := Scalar.addi v218 c0_i32_124
  let v220 : Index := Scalar.indexCast v219
  ![4, v220.toNat]
def k0_off510 (i : grid0.Coords) (c0_i32_153 : BitVec 32) (c0_i32_154 : BitVec 32) : Fin 2 → Nat :=
  let c5 : Index := 5#32
  let arg0 : BitVec 32 := BitVec.ofNat 32 (i 0).val
  let c8_i32_152 : BitVec 32 := 8#32
  let v269 : BitVec 32 := Scalar.muli arg0 c8_i32_152
  let v270 : BitVec 32 := Scalar.addi v269 c0_i32_153
  let v271 : BitVec 32 := Scalar.addi v270 c0_i32_154
  let v272 : Index := Scalar.indexCast v271
  ![5, v272.toNat]
def k0_off511 (i : grid0.Coords) (c0_i32_183 : BitVec 32) (c0_i32_184 : BitVec 32) : Fin 2 → Nat :=
  let c6 : Index := 6#32
  let arg0 : BitVec 32 := BitVec.ofNat 32 (i 0).val
  let c8_i32_182 : BitVec 32 := 8#32
  let v321 : BitVec 32 := Scalar.muli arg0 c8_i32_182
  let v322 : BitVec 32 := Scalar.addi v321 c0_i32_183
  let v323 : BitVec 32 := Scalar.addi v322 c0_i32_184
  let v324 : Index := Scalar.indexCast v323
  ![6, v324.toNat]
def k0_off512 (i : grid0.Coords) (c0_i32_213 : BitVec 32) (c0_i32_214 : BitVec 32) : Fin 2 → Nat :=
  let c7 : Index := 7#32
  let arg0 : BitVec 32 := BitVec.ofNat 32 (i 0).val
  let c8_i32_212 : BitVec 32 := 8#32
  let v373 : BitVec 32 := Scalar.muli arg0 c8_i32_212
  let v374 : BitVec 32 := Scalar.addi v373 c0_i32_213
  let v375 : BitVec 32 := Scalar.addi v374 c0_i32_214
  let v376 : Index := Scalar.indexCast v375
  ![7, v376.toNat]
def k0_off513 (i : grid0.Coords) (c0_i32_243 : BitVec 32) (c0_i32_244 : BitVec 32) : Fin 2 → Nat :=
  let c8 : Index := 8#32
  let arg0 : BitVec 32 := BitVec.ofNat 32 (i 0).val
  let c8_i32_242 : BitVec 32 := 8#32
  let v425 : BitVec 32 := Scalar.muli arg0 c8_i32_242
  let v426 : BitVec 32 := Scalar.addi v425 c0_i32_243
  let v427 : BitVec 32 := Scalar.addi v426 c0_i32_244
  let v428 : Index := Scalar.indexCast v427
  ![8, v428.toNat]
def k0_off514 (i : grid0.Coords) (c0_i32_273 : BitVec 32) (c0_i32_274 : BitVec 32) : Fin 2 → Nat :=
  let c9 : Index := 9#32
  let arg0 : BitVec 32 := BitVec.ofNat 32 (i 0).val
  let c8_i32_272 : BitVec 32 := 8#32
  let v477 : BitVec 32 := Scalar.muli arg0 c8_i32_272
  let v478 : BitVec 32 := Scalar.addi v477 c0_i32_273
  let v479 : BitVec 32 := Scalar.addi v478 c0_i32_274
  let v480 : Index := Scalar.indexCast v479
  ![9, v480.toNat]
def k0_off515 (i : grid0.Coords) (c0_i32_303 : BitVec 32) (c0_i32_304 : BitVec 32) : Fin 2 → Nat :=
  let c10 : Index := 10#32
  let arg0 : BitVec 32 := BitVec.ofNat 32 (i 0).val
  let c8_i32_302 : BitVec 32 := 8#32
  let v529 : BitVec 32 := Scalar.muli arg0 c8_i32_302
  let v530 : BitVec 32 := Scalar.addi v529 c0_i32_303
  let v531 : BitVec 32 := Scalar.addi v530 c0_i32_304
  let v532 : Index := Scalar.indexCast v531
  ![10, v532.toNat]
def k0_off516 (i : grid0.Coords) (c0_i32_333 : BitVec 32) (c0_i32_334 : BitVec 32) : Fin 2 → Nat :=
  let c11 : Index := 11#32
  let arg0 : BitVec 32 := BitVec.ofNat 32 (i 0).val
  let c8_i32_332 : BitVec 32 := 8#32
  let v581 : BitVec 32 := Scalar.muli arg0 c8_i32_332
  let v582 : BitVec 32 := Scalar.addi v581 c0_i32_333
  let v583 : BitVec 32 := Scalar.addi v582 c0_i32_334
  let v584 : Index := Scalar.indexCast v583
  ![11, v584.toNat]
def k0_off517 (i : grid0.Coords) (c0_i32_363 : BitVec 32) (c0_i32_364 : BitVec 32) : Fin 2 → Nat :=
  let c12 : Index := 12#32
  let arg0 : BitVec 32 := BitVec.ofNat 32 (i 0).val
  let c8_i32_362 : BitVec 32 := 8#32
  let v633 : BitVec 32 := Scalar.muli arg0 c8_i32_362
  let v634 : BitVec 32 := Scalar.addi v633 c0_i32_363
  let v635 : BitVec 32 := Scalar.addi v634 c0_i32_364
  let v636 : Index := Scalar.indexCast v635
  ![12, v636.toNat]
def k0_off518 (i : grid0.Coords) (c0_i32_393 : BitVec 32) (c0_i32_394 : BitVec 32) : Fin 2 → Nat :=
  let c13 : Index := 13#32
  let arg0 : BitVec 32 := BitVec.ofNat 32 (i 0).val
  let c8_i32_392 : BitVec 32 := 8#32
  let v685 : BitVec 32 := Scalar.muli arg0 c8_i32_392
  let v686 : BitVec 32 := Scalar.addi v685 c0_i32_393
  let v687 : BitVec 32 := Scalar.addi v686 c0_i32_394
  let v688 : Index := Scalar.indexCast v687
  ![13, v688.toNat]
def k0_off519 (i : grid0.Coords) (c0_i32_423 : BitVec 32) (c0_i32_424 : BitVec 32) : Fin 2 → Nat :=
  let c14 : Index := 14#32
  let arg0 : BitVec 32 := BitVec.ofNat 32 (i 0).val
  let c8_i32_422 : BitVec 32 := 8#32
  let v737 : BitVec 32 := Scalar.muli arg0 c8_i32_422
  let v738 : BitVec 32 := Scalar.addi v737 c0_i32_423
  let v739 : BitVec 32 := Scalar.addi v738 c0_i32_424
  let v740 : Index := Scalar.indexCast v739
  ![14, v740.toNat]
def k0_off520 (i : grid0.Coords) (c0_i32_453 : BitVec 32) (c0_i32_454 : BitVec 32) : Fin 2 → Nat :=
  let c15 : Index := 15#32
  let arg0 : BitVec 32 := BitVec.ofNat 32 (i 0).val
  let c8_i32_452 : BitVec 32 := 8#32
  let v789 : BitVec 32 := Scalar.muli arg0 c8_i32_452
  let v790 : BitVec 32 := Scalar.addi v789 c0_i32_453
  let v791 : BitVec 32 := Scalar.addi v790 c0_i32_454
  let v792 : Index := Scalar.indexCast v791
  ![15, v792.toNat]
def k0_off521 (i : grid0.Coords) (c0_i32_483 : BitVec 32) (c0_i32_484 : BitVec 32) : Fin 2 → Nat :=
  let c16 : Index := 16#32
  let arg0 : BitVec 32 := BitVec.ofNat 32 (i 0).val
  let c8_i32_482 : BitVec 32 := 8#32
  let v841 : BitVec 32 := Scalar.muli arg0 c8_i32_482
  let v842 : BitVec 32 := Scalar.addi v841 c0_i32_483
  let v843 : BitVec 32 := Scalar.addi v842 c0_i32_484
  let v844 : Index := Scalar.indexCast v843
  ![16, v844.toNat]
def k0_off522 (i : grid0.Coords) (c0_i32_513 : BitVec 32) (c0_i32_514 : BitVec 32) : Fin 2 → Nat :=
  let c17 : Index := 17#32
  let arg0 : BitVec 32 := BitVec.ofNat 32 (i 0).val
  let c8_i32_512 : BitVec 32 := 8#32
  let v893 : BitVec 32 := Scalar.muli arg0 c8_i32_512
  let v894 : BitVec 32 := Scalar.addi v893 c0_i32_513
  let v895 : BitVec 32 := Scalar.addi v894 c0_i32_514
  let v896 : Index := Scalar.indexCast v895
  ![17, v896.toNat]
def k0_off523 (i : grid0.Coords) (c0_i32_543 : BitVec 32) (c0_i32_544 : BitVec 32) : Fin 2 → Nat :=
  let c18 : Index := 18#32
  let arg0 : BitVec 32 := BitVec.ofNat 32 (i 0).val
  let c8_i32_542 : BitVec 32 := 8#32
  let v945 : BitVec 32 := Scalar.muli arg0 c8_i32_542
  let v946 : BitVec 32 := Scalar.addi v945 c0_i32_543
  let v947 : BitVec 32 := Scalar.addi v946 c0_i32_544
  let v948 : Index := Scalar.indexCast v947
  ![18, v948.toNat]
def k0_off524 (i : grid0.Coords) (c0_i32_573 : BitVec 32) (c0_i32_574 : BitVec 32) : Fin 2 → Nat :=
  let c19 : Index := 19#32
  let arg0 : BitVec 32 := BitVec.ofNat 32 (i 0).val
  let c8_i32_572 : BitVec 32 := 8#32
  let v997 : BitVec 32 := Scalar.muli arg0 c8_i32_572
  let v998 : BitVec 32 := Scalar.addi v997 c0_i32_573
  let v999 : BitVec 32 := Scalar.addi v998 c0_i32_574
  let v1000 : Index := Scalar.indexCast v999
  ![19, v1000.toNat]
def k0_off525 (i : grid0.Coords) (c0_i32_603 : BitVec 32) (c0_i32_604 : BitVec 32) : Fin 2 → Nat :=
  let c20 : Index := 20#32
  let arg0 : BitVec 32 := BitVec.ofNat 32 (i 0).val
  let c8_i32_602 : BitVec 32 := 8#32
  let v1049 : BitVec 32 := Scalar.muli arg0 c8_i32_602
  let v1050 : BitVec 32 := Scalar.addi v1049 c0_i32_603
  let v1051 : BitVec 32 := Scalar.addi v1050 c0_i32_604
  let v1052 : Index := Scalar.indexCast v1051
  ![20, v1052.toNat]
def k0_off526 (i : grid0.Coords) (c0_i32_633 : BitVec 32) (c0_i32_634 : BitVec 32) : Fin 2 → Nat :=
  let c21 : Index := 21#32
  let arg0 : BitVec 32 := BitVec.ofNat 32 (i 0).val
  let c8_i32_632 : BitVec 32 := 8#32
  let v1101 : BitVec 32 := Scalar.muli arg0 c8_i32_632
  let v1102 : BitVec 32 := Scalar.addi v1101 c0_i32_633
  let v1103 : BitVec 32 := Scalar.addi v1102 c0_i32_634
  let v1104 : Index := Scalar.indexCast v1103
  ![21, v1104.toNat]
def k0_off527 (i : grid0.Coords) (c0_i32_663 : BitVec 32) (c0_i32_664 : BitVec 32) : Fin 2 → Nat :=
  let c22 : Index := 22#32
  let arg0 : BitVec 32 := BitVec.ofNat 32 (i 0).val
  let c8_i32_662 : BitVec 32 := 8#32
  let v1153 : BitVec 32 := Scalar.muli arg0 c8_i32_662
  let v1154 : BitVec 32 := Scalar.addi v1153 c0_i32_663
  let v1155 : BitVec 32 := Scalar.addi v1154 c0_i32_664
  let v1156 : Index := Scalar.indexCast v1155
  ![22, v1156.toNat]
def k0_off528 (i : grid0.Coords) (c0_i32_693 : BitVec 32) (c0_i32_694 : BitVec 32) : Fin 2 → Nat :=
  let c23 : Index := 23#32
  let arg0 : BitVec 32 := BitVec.ofNat 32 (i 0).val
  let c8_i32_692 : BitVec 32 := 8#32
  let v1205 : BitVec 32 := Scalar.muli arg0 c8_i32_692
  let v1206 : BitVec 32 := Scalar.addi v1205 c0_i32_693
  let v1207 : BitVec 32 := Scalar.addi v1206 c0_i32_694
  let v1208 : Index := Scalar.indexCast v1207
  ![23, v1208.toNat]
def k0_off529 (i : grid0.Coords) (c0_i32_723 : BitVec 32) (c0_i32_724 : BitVec 32) : Fin 2 → Nat :=
  let c24 : Index := 24#32
  let arg0 : BitVec 32 := BitVec.ofNat 32 (i 0).val
  let c8_i32_722 : BitVec 32 := 8#32
  let v1257 : BitVec 32 := Scalar.muli arg0 c8_i32_722
  let v1258 : BitVec 32 := Scalar.addi v1257 c0_i32_723
  let v1259 : BitVec 32 := Scalar.addi v1258 c0_i32_724
  let v1260 : Index := Scalar.indexCast v1259
  ![24, v1260.toNat]
def k0_off530 (i : grid0.Coords) (c0_i32_753 : BitVec 32) (c0_i32_754 : BitVec 32) : Fin 2 → Nat :=
  let c25 : Index := 25#32
  let arg0 : BitVec 32 := BitVec.ofNat 32 (i 0).val
  let c8_i32_752 : BitVec 32 := 8#32
  let v1309 : BitVec 32 := Scalar.muli arg0 c8_i32_752
  let v1310 : BitVec 32 := Scalar.addi v1309 c0_i32_753
  let v1311 : BitVec 32 := Scalar.addi v1310 c0_i32_754
  let v1312 : Index := Scalar.indexCast v1311
  ![25, v1312.toNat]
def k0_off531 (i : grid0.Coords) (c0_i32_783 : BitVec 32) (c0_i32_784 : BitVec 32) : Fin 2 → Nat :=
  let c26 : Index := 26#32
  let arg0 : BitVec 32 := BitVec.ofNat 32 (i 0).val
  let c8_i32_782 : BitVec 32 := 8#32
  let v1361 : BitVec 32 := Scalar.muli arg0 c8_i32_782
  let v1362 : BitVec 32 := Scalar.addi v1361 c0_i32_783
  let v1363 : BitVec 32 := Scalar.addi v1362 c0_i32_784
  let v1364 : Index := Scalar.indexCast v1363
  ![26, v1364.toNat]
def k0_off532 (i : grid0.Coords) (c0_i32_813 : BitVec 32) (c0_i32_814 : BitVec 32) : Fin 2 → Nat :=
  let c27 : Index := 27#32
  let arg0 : BitVec 32 := BitVec.ofNat 32 (i 0).val
  let c8_i32_812 : BitVec 32 := 8#32
  let v1413 : BitVec 32 := Scalar.muli arg0 c8_i32_812
  let v1414 : BitVec 32 := Scalar.addi v1413 c0_i32_813
  let v1415 : BitVec 32 := Scalar.addi v1414 c0_i32_814
  let v1416 : Index := Scalar.indexCast v1415
  ![27, v1416.toNat]
def k0_off533 (i : grid0.Coords) (c0_i32_843 : BitVec 32) (c0_i32_844 : BitVec 32) : Fin 2 → Nat :=
  let c28 : Index := 28#32
  let arg0 : BitVec 32 := BitVec.ofNat 32 (i 0).val
  let c8_i32_842 : BitVec 32 := 8#32
  let v1465 : BitVec 32 := Scalar.muli arg0 c8_i32_842
  let v1466 : BitVec 32 := Scalar.addi v1465 c0_i32_843
  let v1467 : BitVec 32 := Scalar.addi v1466 c0_i32_844
  let v1468 : Index := Scalar.indexCast v1467
  ![28, v1468.toNat]
def k0_off534 (i : grid0.Coords) (c0_i32_873 : BitVec 32) (c0_i32_874 : BitVec 32) : Fin 2 → Nat :=
  let c29 : Index := 29#32
  let arg0 : BitVec 32 := BitVec.ofNat 32 (i 0).val
  let c8_i32_872 : BitVec 32 := 8#32
  let v1517 : BitVec 32 := Scalar.muli arg0 c8_i32_872
  let v1518 : BitVec 32 := Scalar.addi v1517 c0_i32_873
  let v1519 : BitVec 32 := Scalar.addi v1518 c0_i32_874
  let v1520 : Index := Scalar.indexCast v1519
  ![29, v1520.toNat]
def k0_off535 (i : grid0.Coords) (c0_i32_903 : BitVec 32) (c0_i32_904 : BitVec 32) : Fin 2 → Nat :=
  let c30 : Index := 30#32
  let arg0 : BitVec 32 := BitVec.ofNat 32 (i 0).val
  let c8_i32_902 : BitVec 32 := 8#32
  let v1569 : BitVec 32 := Scalar.muli arg0 c8_i32_902
  let v1570 : BitVec 32 := Scalar.addi v1569 c0_i32_903
  let v1571 : BitVec 32 := Scalar.addi v1570 c0_i32_904
  let v1572 : Index := Scalar.indexCast v1571
  ![30, v1572.toNat]
def k0_off536 (i : grid0.Coords) (c0_i32_933 : BitVec 32) (c0_i32_934 : BitVec 32) : Fin 2 → Nat :=
  let c31 : Index := 31#32
  let arg0 : BitVec 32 := BitVec.ofNat 32 (i 0).val
  let c8_i32_932 : BitVec 32 := 8#32
  let v1621 : BitVec 32 := Scalar.muli arg0 c8_i32_932
  let v1622 : BitVec 32 := Scalar.addi v1621 c0_i32_933
  let v1623 : BitVec 32 := Scalar.addi v1622 c0_i32_934
  let v1624 : Index := Scalar.indexCast v1623
  ![31, v1624.toNat]
def k0_off537 (i : grid0.Coords) (c0_i32_963 : BitVec 32) (c0_i32_964 : BitVec 32) : Fin 2 → Nat :=
  let c32 : Index := 32#32
  let arg0 : BitVec 32 := BitVec.ofNat 32 (i 0).val
  let c8_i32_962 : BitVec 32 := 8#32
  let v1673 : BitVec 32 := Scalar.muli arg0 c8_i32_962
  let v1674 : BitVec 32 := Scalar.addi v1673 c0_i32_963
  let v1675 : BitVec 32 := Scalar.addi v1674 c0_i32_964
  let v1676 : Index := Scalar.indexCast v1675
  ![32, v1676.toNat]
def k0_off538 (i : grid0.Coords) (c0_i32_993 : BitVec 32) (c0_i32_994 : BitVec 32) : Fin 2 → Nat :=
  let c33 : Index := 33#32
  let arg0 : BitVec 32 := BitVec.ofNat 32 (i 0).val
  let c8_i32_992 : BitVec 32 := 8#32
  let v1725 : BitVec 32 := Scalar.muli arg0 c8_i32_992
  let v1726 : BitVec 32 := Scalar.addi v1725 c0_i32_993
  let v1727 : BitVec 32 := Scalar.addi v1726 c0_i32_994
  let v1728 : Index := Scalar.indexCast v1727
  ![33, v1728.toNat]
def k0_off539 (i : grid0.Coords) (c0_i32_1023 : BitVec 32) (c0_i32_1024 : BitVec 32) : Fin 2 → Nat :=
  let c34 : Index := 34#32
  let arg0 : BitVec 32 := BitVec.ofNat 32 (i 0).val
  let c8_i32_1022 : BitVec 32 := 8#32
  let v1777 : BitVec 32 := Scalar.muli arg0 c8_i32_1022
  let v1778 : BitVec 32 := Scalar.addi v1777 c0_i32_1023
  let v1779 : BitVec 32 := Scalar.addi v1778 c0_i32_1024
  let v1780 : Index := Scalar.indexCast v1779
  ![34, v1780.toNat]
def k0_off540 (i : grid0.Coords) (c0_i32_1053 : BitVec 32) (c0_i32_1054 : BitVec 32) : Fin 2 → Nat :=
  let c35 : Index := 35#32
  let arg0 : BitVec 32 := BitVec.ofNat 32 (i 0).val
  let c8_i32_1052 : BitVec 32 := 8#32
  let v1829 : BitVec 32 := Scalar.muli arg0 c8_i32_1052
  let v1830 : BitVec 32 := Scalar.addi v1829 c0_i32_1053
  let v1831 : BitVec 32 := Scalar.addi v1830 c0_i32_1054
  let v1832 : Index := Scalar.indexCast v1831
  ![35, v1832.toNat]
def k0_off541 (i : grid0.Coords) (c0_i32_1083 : BitVec 32) (c0_i32_1084 : BitVec 32) : Fin 2 → Nat :=
  let c36 : Index := 36#32
  let arg0 : BitVec 32 := BitVec.ofNat 32 (i 0).val
  let c8_i32_1082 : BitVec 32 := 8#32
  let v1881 : BitVec 32 := Scalar.muli arg0 c8_i32_1082
  let v1882 : BitVec 32 := Scalar.addi v1881 c0_i32_1083
  let v1883 : BitVec 32 := Scalar.addi v1882 c0_i32_1084
  let v1884 : Index := Scalar.indexCast v1883
  ![36, v1884.toNat]
def k0_off542 (i : grid0.Coords) (c0_i32_1113 : BitVec 32) (c0_i32_1114 : BitVec 32) : Fin 2 → Nat :=
  let c37 : Index := 37#32
  let arg0 : BitVec 32 := BitVec.ofNat 32 (i 0).val
  let c8_i32_1112 : BitVec 32 := 8#32
  let v1933 : BitVec 32 := Scalar.muli arg0 c8_i32_1112
  let v1934 : BitVec 32 := Scalar.addi v1933 c0_i32_1113
  let v1935 : BitVec 32 := Scalar.addi v1934 c0_i32_1114
  let v1936 : Index := Scalar.indexCast v1935
  ![37, v1936.toNat]
def k0_off543 (i : grid0.Coords) (c0_i32_1143 : BitVec 32) (c0_i32_1144 : BitVec 32) : Fin 2 → Nat :=
  let c38 : Index := 38#32
  let arg0 : BitVec 32 := BitVec.ofNat 32 (i 0).val
  let c8_i32_1142 : BitVec 32 := 8#32
  let v1985 : BitVec 32 := Scalar.muli arg0 c8_i32_1142
  let v1986 : BitVec 32 := Scalar.addi v1985 c0_i32_1143
  let v1987 : BitVec 32 := Scalar.addi v1986 c0_i32_1144
  let v1988 : Index := Scalar.indexCast v1987
  ![38, v1988.toNat]
def k0_off544 (i : grid0.Coords) (c0_i32_1173 : BitVec 32) (c0_i32_1174 : BitVec 32) : Fin 2 → Nat :=
  let c39 : Index := 39#32
  let arg0 : BitVec 32 := BitVec.ofNat 32 (i 0).val
  let c8_i32_1172 : BitVec 32 := 8#32
  let v2037 : BitVec 32 := Scalar.muli arg0 c8_i32_1172
  let v2038 : BitVec 32 := Scalar.addi v2037 c0_i32_1173
  let v2039 : BitVec 32 := Scalar.addi v2038 c0_i32_1174
  let v2040 : Index := Scalar.indexCast v2039
  ![39, v2040.toNat]
def k0_off545 (i : grid0.Coords) (c0_i32_1203 : BitVec 32) (c0_i32_1204 : BitVec 32) : Fin 2 → Nat :=
  let c40 : Index := 40#32
  let arg0 : BitVec 32 := BitVec.ofNat 32 (i 0).val
  let c8_i32_1202 : BitVec 32 := 8#32
  let v2089 : BitVec 32 := Scalar.muli arg0 c8_i32_1202
  let v2090 : BitVec 32 := Scalar.addi v2089 c0_i32_1203
  let v2091 : BitVec 32 := Scalar.addi v2090 c0_i32_1204
  let v2092 : Index := Scalar.indexCast v2091
  ![40, v2092.toNat]
def k0_off546 (i : grid0.Coords) (c0_i32_1233 : BitVec 32) (c0_i32_1234 : BitVec 32) : Fin 2 → Nat :=
  let c41 : Index := 41#32
  let arg0 : BitVec 32 := BitVec.ofNat 32 (i 0).val
  let c8_i32_1232 : BitVec 32 := 8#32
  let v2141 : BitVec 32 := Scalar.muli arg0 c8_i32_1232
  let v2142 : BitVec 32 := Scalar.addi v2141 c0_i32_1233
  let v2143 : BitVec 32 := Scalar.addi v2142 c0_i32_1234
  let v2144 : Index := Scalar.indexCast v2143
  ![41, v2144.toNat]
def k0_off547 (i : grid0.Coords) (c0_i32_1263 : BitVec 32) (c0_i32_1264 : BitVec 32) : Fin 2 → Nat :=
  let c42 : Index := 42#32
  let arg0 : BitVec 32 := BitVec.ofNat 32 (i 0).val
  let c8_i32_1262 : BitVec 32 := 8#32
  let v2193 : BitVec 32 := Scalar.muli arg0 c8_i32_1262
  let v2194 : BitVec 32 := Scalar.addi v2193 c0_i32_1263
  let v2195 : BitVec 32 := Scalar.addi v2194 c0_i32_1264
  let v2196 : Index := Scalar.indexCast v2195
  ![42, v2196.toNat]
def k0_off548 (i : grid0.Coords) (c0_i32_1293 : BitVec 32) (c0_i32_1294 : BitVec 32) : Fin 2 → Nat :=
  let c43 : Index := 43#32
  let arg0 : BitVec 32 := BitVec.ofNat 32 (i 0).val
  let c8_i32_1292 : BitVec 32 := 8#32
  let v2245 : BitVec 32 := Scalar.muli arg0 c8_i32_1292
  let v2246 : BitVec 32 := Scalar.addi v2245 c0_i32_1293
  let v2247 : BitVec 32 := Scalar.addi v2246 c0_i32_1294
  let v2248 : Index := Scalar.indexCast v2247
  ![43, v2248.toNat]
def k0_off549 (i : grid0.Coords) (c0_i32_1323 : BitVec 32) (c0_i32_1324 : BitVec 32) : Fin 2 → Nat :=
  let c44 : Index := 44#32
  let arg0 : BitVec 32 := BitVec.ofNat 32 (i 0).val
  let c8_i32_1322 : BitVec 32 := 8#32
  let v2297 : BitVec 32 := Scalar.muli arg0 c8_i32_1322
  let v2298 : BitVec 32 := Scalar.addi v2297 c0_i32_1323
  let v2299 : BitVec 32 := Scalar.addi v2298 c0_i32_1324
  let v2300 : Index := Scalar.indexCast v2299
  ![44, v2300.toNat]
def k0_off550 (i : grid0.Coords) (c0_i32_1353 : BitVec 32) (c0_i32_1354 : BitVec 32) : Fin 2 → Nat :=
  let c45 : Index := 45#32
  let arg0 : BitVec 32 := BitVec.ofNat 32 (i 0).val
  let c8_i32_1352 : BitVec 32 := 8#32
  let v2349 : BitVec 32 := Scalar.muli arg0 c8_i32_1352
  let v2350 : BitVec 32 := Scalar.addi v2349 c0_i32_1353
  let v2351 : BitVec 32 := Scalar.addi v2350 c0_i32_1354
  let v2352 : Index := Scalar.indexCast v2351
  ![45, v2352.toNat]
def k0_off551 (i : grid0.Coords) (c0_i32_1383 : BitVec 32) (c0_i32_1384 : BitVec 32) : Fin 2 → Nat :=
  let c46 : Index := 46#32
  let arg0 : BitVec 32 := BitVec.ofNat 32 (i 0).val
  let c8_i32_1382 : BitVec 32 := 8#32
  let v2401 : BitVec 32 := Scalar.muli arg0 c8_i32_1382
  let v2402 : BitVec 32 := Scalar.addi v2401 c0_i32_1383
  let v2403 : BitVec 32 := Scalar.addi v2402 c0_i32_1384
  let v2404 : Index := Scalar.indexCast v2403
  ![46, v2404.toNat]
def k0_off552 (i : grid0.Coords) (c0_i32_1413 : BitVec 32) (c0_i32_1414 : BitVec 32) : Fin 2 → Nat :=
  let c47 : Index := 47#32
  let arg0 : BitVec 32 := BitVec.ofNat 32 (i 0).val
  let c8_i32_1412 : BitVec 32 := 8#32
  let v2453 : BitVec 32 := Scalar.muli arg0 c8_i32_1412
  let v2454 : BitVec 32 := Scalar.addi v2453 c0_i32_1413
  let v2455 : BitVec 32 := Scalar.addi v2454 c0_i32_1414
  let v2456 : Index := Scalar.indexCast v2455
  ![47, v2456.toNat]
def k0_off553 (i : grid0.Coords) (c0_i32_1443 : BitVec 32) (c0_i32_1444 : BitVec 32) : Fin 2 → Nat :=
  let c48 : Index := 48#32
  let arg0 : BitVec 32 := BitVec.ofNat 32 (i 0).val
  let c8_i32_1442 : BitVec 32 := 8#32
  let v2505 : BitVec 32 := Scalar.muli arg0 c8_i32_1442
  let v2506 : BitVec 32 := Scalar.addi v2505 c0_i32_1443
  let v2507 : BitVec 32 := Scalar.addi v2506 c0_i32_1444
  let v2508 : Index := Scalar.indexCast v2507
  ![48, v2508.toNat]
def k0_off554 (i : grid0.Coords) (c0_i32_1473 : BitVec 32) (c0_i32_1474 : BitVec 32) : Fin 2 → Nat :=
  let c49 : Index := 49#32
  let arg0 : BitVec 32 := BitVec.ofNat 32 (i 0).val
  let c8_i32_1472 : BitVec 32 := 8#32
  let v2557 : BitVec 32 := Scalar.muli arg0 c8_i32_1472
  let v2558 : BitVec 32 := Scalar.addi v2557 c0_i32_1473
  let v2559 : BitVec 32 := Scalar.addi v2558 c0_i32_1474
  let v2560 : Index := Scalar.indexCast v2559
  ![49, v2560.toNat]
def k0_off555 (i : grid0.Coords) (c0_i32_1503 : BitVec 32) (c0_i32_1504 : BitVec 32) : Fin 2 → Nat :=
  let c50 : Index := 50#32
  let arg0 : BitVec 32 := BitVec.ofNat 32 (i 0).val
  let c8_i32_1502 : BitVec 32 := 8#32
  let v2609 : BitVec 32 := Scalar.muli arg0 c8_i32_1502
  let v2610 : BitVec 32 := Scalar.addi v2609 c0_i32_1503
  let v2611 : BitVec 32 := Scalar.addi v2610 c0_i32_1504
  let v2612 : Index := Scalar.indexCast v2611
  ![50, v2612.toNat]
def k0_off556 (i : grid0.Coords) (c0_i32_1533 : BitVec 32) (c0_i32_1534 : BitVec 32) : Fin 2 → Nat :=
  let c51 : Index := 51#32
  let arg0 : BitVec 32 := BitVec.ofNat 32 (i 0).val
  let c8_i32_1532 : BitVec 32 := 8#32
  let v2661 : BitVec 32 := Scalar.muli arg0 c8_i32_1532
  let v2662 : BitVec 32 := Scalar.addi v2661 c0_i32_1533
  let v2663 : BitVec 32 := Scalar.addi v2662 c0_i32_1534
  let v2664 : Index := Scalar.indexCast v2663
  ![51, v2664.toNat]
def k0_off557 (i : grid0.Coords) (c0_i32_1563 : BitVec 32) (c0_i32_1564 : BitVec 32) : Fin 2 → Nat :=
  let c52 : Index := 52#32
  let arg0 : BitVec 32 := BitVec.ofNat 32 (i 0).val
  let c8_i32_1562 : BitVec 32 := 8#32
  let v2713 : BitVec 32 := Scalar.muli arg0 c8_i32_1562
  let v2714 : BitVec 32 := Scalar.addi v2713 c0_i32_1563
  let v2715 : BitVec 32 := Scalar.addi v2714 c0_i32_1564
  let v2716 : Index := Scalar.indexCast v2715
  ![52, v2716.toNat]
def k0_off558 (i : grid0.Coords) (c0_i32_1593 : BitVec 32) (c0_i32_1594 : BitVec 32) : Fin 2 → Nat :=
  let c53 : Index := 53#32
  let arg0 : BitVec 32 := BitVec.ofNat 32 (i 0).val
  let c8_i32_1592 : BitVec 32 := 8#32
  let v2765 : BitVec 32 := Scalar.muli arg0 c8_i32_1592
  let v2766 : BitVec 32 := Scalar.addi v2765 c0_i32_1593
  let v2767 : BitVec 32 := Scalar.addi v2766 c0_i32_1594
  let v2768 : Index := Scalar.indexCast v2767
  ![53, v2768.toNat]
def k0_off559 (i : grid0.Coords) (c0_i32_1623 : BitVec 32) (c0_i32_1624 : BitVec 32) : Fin 2 → Nat :=
  let c54 : Index := 54#32
  let arg0 : BitVec 32 := BitVec.ofNat 32 (i 0).val
  let c8_i32_1622 : BitVec 32 := 8#32
  let v2817 : BitVec 32 := Scalar.muli arg0 c8_i32_1622
  let v2818 : BitVec 32 := Scalar.addi v2817 c0_i32_1623
  let v2819 : BitVec 32 := Scalar.addi v2818 c0_i32_1624
  let v2820 : Index := Scalar.indexCast v2819
  ![54, v2820.toNat]
def k0_off560 (i : grid0.Coords) (c0_i32_1653 : BitVec 32) (c0_i32_1654 : BitVec 32) : Fin 2 → Nat :=
  let c55 : Index := 55#32
  let arg0 : BitVec 32 := BitVec.ofNat 32 (i 0).val
  let c8_i32_1652 : BitVec 32 := 8#32
  let v2869 : BitVec 32 := Scalar.muli arg0 c8_i32_1652
  let v2870 : BitVec 32 := Scalar.addi v2869 c0_i32_1653
  let v2871 : BitVec 32 := Scalar.addi v2870 c0_i32_1654
  let v2872 : Index := Scalar.indexCast v2871
  ![55, v2872.toNat]
@[reducible] def k0_t5_loop : Scf.Loop 32 :=
  let c0_i32_1682 : BitVec 32 := 0#32
  let c3_i32_1683 : BitVec 32 := 3#32
  let v2921 : BitVec 32 := Scalar.addi c0_i32_1682 c3_i32_1683
  let c1_i32_1684 : BitVec 32 := 1#32
  ⟨c0_i32_1682, v2921, c1_i32_1684⟩
def k0_mult5 (k0_t5 : Fin k0_t5_loop.trips) : BitVec 32 :=
  let c0_i32_1682 : BitVec 32 := 0#32
  let c1_i32_1684 : BitVec 32 := 1#32
  let arg10 : BitVec 32 := Scf.iv c0_i32_1682 c1_i32_1684 k0_t5
  let c384_i32 : BitVec 32 := 384#32
  let v5835 : BitVec 32 := Scalar.muli arg10 c384_i32
  v5835
def k0_off561 (k0_t5 : Fin k0_t5_loop.trips) : Fin 2 → Nat :=
  let c0_i32_1682 : BitVec 32 := 0#32
  let c1_i32_1684 : BitVec 32 := 1#32
  let arg10 : BitVec 32 := Scf.iv c0_i32_1682 c1_i32_1684 k0_t5
  let c384_i32 : BitVec 32 := 384#32
  let v5835 : BitVec 32 := Scalar.muli arg10 c384_i32
  let v5836 : BitVec 32 := v5835
  let v5837 : Index := Scalar.indexCast v5836
  let c0_3481 : Index := 0#32
  ![v5837.toNat, 0]
def k0_off562 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5847 : Index := Scalar.indexCast arg10
  let c0_3484 : Index := 0#32
  let c0_3486 : Index := 0#32
  ![v5847.toNat, 0, 0, 0]
def k0_off563 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5853 : Index := Scalar.indexCast arg10
  let c0_3487 : Index := 0#32
  let c0_3489 : Index := 0#32
  ![v5853.toNat, 0, 2, 0]
def k0_off564 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5863 : Index := Scalar.indexCast arg10
  let c8_3490 : Index := 8#32
  let c0_3492 : Index := 0#32
  ![v5863.toNat, 8, 0, 0]
def k0_off565 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5869 : Index := Scalar.indexCast arg10
  let c8_3493 : Index := 8#32
  let c0_3495 : Index := 0#32
  ![v5869.toNat, 8, 2, 0]
def k0_off566 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5879 : Index := Scalar.indexCast arg10
  let c16_3496 : Index := 16#32
  let c0_3498 : Index := 0#32
  ![v5879.toNat, 16, 0, 0]
def k0_off567 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5885 : Index := Scalar.indexCast arg10
  let c16_3499 : Index := 16#32
  let c0_3501 : Index := 0#32
  ![v5885.toNat, 16, 2, 0]
def k0_off568 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5895 : Index := Scalar.indexCast arg10
  let c24_3502 : Index := 24#32
  let c0_3504 : Index := 0#32
  ![v5895.toNat, 24, 0, 0]
def k0_off569 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5901 : Index := Scalar.indexCast arg10
  let c24_3505 : Index := 24#32
  let c0_3507 : Index := 0#32
  ![v5901.toNat, 24, 2, 0]
def k0_off570 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5911 : Index := Scalar.indexCast arg10
  let c32_3508 : Index := 32#32
  let c0_3510 : Index := 0#32
  ![v5911.toNat, 32, 0, 0]
def k0_off571 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5917 : Index := Scalar.indexCast arg10
  let c32_3511 : Index := 32#32
  let c0_3513 : Index := 0#32
  ![v5917.toNat, 32, 2, 0]
def k0_off572 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5927 : Index := Scalar.indexCast arg10
  let c40_3514 : Index := 40#32
  let c0_3516 : Index := 0#32
  ![v5927.toNat, 40, 0, 0]
def k0_off573 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5933 : Index := Scalar.indexCast arg10
  let c40_3517 : Index := 40#32
  let c0_3519 : Index := 0#32
  ![v5933.toNat, 40, 2, 0]
def k0_off574 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5943 : Index := Scalar.indexCast arg10
  let c48_3520 : Index := 48#32
  let c0_3522 : Index := 0#32
  ![v5943.toNat, 48, 0, 0]
def k0_off575 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5949 : Index := Scalar.indexCast arg10
  let c48_3523 : Index := 48#32
  let c0_3525 : Index := 0#32
  ![v5949.toNat, 48, 2, 0]
def k0_off576 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5959 : Index := Scalar.indexCast arg10
  let c56 : Index := 56#32
  let c0_3527 : Index := 0#32
  ![v5959.toNat, 56, 0, 0]
def k0_off577 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5965 : Index := Scalar.indexCast arg10
  let c56_3528 : Index := 56#32
  let c0_3530 : Index := 0#32
  ![v5965.toNat, 56, 2, 0]
def k0_off578 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5975 : Index := Scalar.indexCast arg10
  let c64 : Index := 64#32
  let c0_3532 : Index := 0#32
  ![v5975.toNat, 64, 0, 0]
def k0_off579 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5981 : Index := Scalar.indexCast arg10
  let c64_3533 : Index := 64#32
  let c0_3535 : Index := 0#32
  ![v5981.toNat, 64, 2, 0]
def k0_off580 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5991 : Index := Scalar.indexCast arg10
  let c72 : Index := 72#32
  let c0_3537 : Index := 0#32
  ![v5991.toNat, 72, 0, 0]
def k0_off581 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v5997 : Index := Scalar.indexCast arg10
  let c72_3538 : Index := 72#32
  let c0_3540 : Index := 0#32
  ![v5997.toNat, 72, 2, 0]
def k0_off582 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6007 : Index := Scalar.indexCast arg10
  let c80 : Index := 80#32
  let c0_3542 : Index := 0#32
  ![v6007.toNat, 80, 0, 0]
def k0_off583 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6013 : Index := Scalar.indexCast arg10
  let c80_3543 : Index := 80#32
  let c0_3545 : Index := 0#32
  ![v6013.toNat, 80, 2, 0]
def k0_off584 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6023 : Index := Scalar.indexCast arg10
  let c88 : Index := 88#32
  let c0_3547 : Index := 0#32
  ![v6023.toNat, 88, 0, 0]
def k0_off585 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6029 : Index := Scalar.indexCast arg10
  let c88_3548 : Index := 88#32
  let c0_3550 : Index := 0#32
  ![v6029.toNat, 88, 2, 0]
def k0_off586 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6039 : Index := Scalar.indexCast arg10
  let c96 : Index := 96#32
  let c0_3552 : Index := 0#32
  ![v6039.toNat, 96, 0, 0]
def k0_off587 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6045 : Index := Scalar.indexCast arg10
  let c96_3553 : Index := 96#32
  let c0_3555 : Index := 0#32
  ![v6045.toNat, 96, 2, 0]
def k0_off588 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6055 : Index := Scalar.indexCast arg10
  let c104 : Index := 104#32
  let c0_3557 : Index := 0#32
  ![v6055.toNat, 104, 0, 0]
def k0_off589 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6061 : Index := Scalar.indexCast arg10
  let c104_3558 : Index := 104#32
  let c0_3560 : Index := 0#32
  ![v6061.toNat, 104, 2, 0]
def k0_off590 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6071 : Index := Scalar.indexCast arg10
  let c112 : Index := 112#32
  let c0_3562 : Index := 0#32
  ![v6071.toNat, 112, 0, 0]
def k0_off591 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6077 : Index := Scalar.indexCast arg10
  let c112_3563 : Index := 112#32
  let c0_3565 : Index := 0#32
  ![v6077.toNat, 112, 2, 0]
def k0_off592 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6087 : Index := Scalar.indexCast arg10
  let c120 : Index := 120#32
  let c0_3567 : Index := 0#32
  ![v6087.toNat, 120, 0, 0]
def k0_off593 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6093 : Index := Scalar.indexCast arg10
  let c120_3568 : Index := 120#32
  let c0_3570 : Index := 0#32
  ![v6093.toNat, 120, 2, 0]
def k0_off594 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6103 : Index := Scalar.indexCast arg10
  let c128_3571 : Index := 128#32
  let c0_3573 : Index := 0#32
  ![v6103.toNat, 128, 0, 0]
def k0_off595 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6109 : Index := Scalar.indexCast arg10
  let c128_3574 : Index := 128#32
  let c0_3576 : Index := 0#32
  ![v6109.toNat, 128, 2, 0]
def k0_off596 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6119 : Index := Scalar.indexCast arg10
  let c136 : Index := 136#32
  let c0_3578 : Index := 0#32
  ![v6119.toNat, 136, 0, 0]
def k0_off597 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6125 : Index := Scalar.indexCast arg10
  let c136_3579 : Index := 136#32
  let c0_3581 : Index := 0#32
  ![v6125.toNat, 136, 2, 0]
def k0_off598 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6135 : Index := Scalar.indexCast arg10
  let c144 : Index := 144#32
  let c0_3583 : Index := 0#32
  ![v6135.toNat, 144, 0, 0]
def k0_off599 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6141 : Index := Scalar.indexCast arg10
  let c144_3584 : Index := 144#32
  let c0_3586 : Index := 0#32
  ![v6141.toNat, 144, 2, 0]
def k0_off600 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6151 : Index := Scalar.indexCast arg10
  let c152 : Index := 152#32
  let c0_3588 : Index := 0#32
  ![v6151.toNat, 152, 0, 0]
def k0_off601 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6157 : Index := Scalar.indexCast arg10
  let c152_3589 : Index := 152#32
  let c0_3591 : Index := 0#32
  ![v6157.toNat, 152, 2, 0]
def k0_off602 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6167 : Index := Scalar.indexCast arg10
  let c160 : Index := 160#32
  let c0_3593 : Index := 0#32
  ![v6167.toNat, 160, 0, 0]
def k0_off603 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6173 : Index := Scalar.indexCast arg10
  let c160_3594 : Index := 160#32
  let c0_3596 : Index := 0#32
  ![v6173.toNat, 160, 2, 0]
def k0_off604 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6183 : Index := Scalar.indexCast arg10
  let c168 : Index := 168#32
  let c0_3598 : Index := 0#32
  ![v6183.toNat, 168, 0, 0]
def k0_off605 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6189 : Index := Scalar.indexCast arg10
  let c168_3599 : Index := 168#32
  let c0_3601 : Index := 0#32
  ![v6189.toNat, 168, 2, 0]
def k0_off606 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6199 : Index := Scalar.indexCast arg10
  let c176 : Index := 176#32
  let c0_3603 : Index := 0#32
  ![v6199.toNat, 176, 0, 0]
def k0_off607 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6205 : Index := Scalar.indexCast arg10
  let c176_3604 : Index := 176#32
  let c0_3606 : Index := 0#32
  ![v6205.toNat, 176, 2, 0]
def k0_off608 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6215 : Index := Scalar.indexCast arg10
  let c184 : Index := 184#32
  let c0_3608 : Index := 0#32
  ![v6215.toNat, 184, 0, 0]
def k0_off609 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6221 : Index := Scalar.indexCast arg10
  let c184_3609 : Index := 184#32
  let c0_3611 : Index := 0#32
  ![v6221.toNat, 184, 2, 0]
def k0_off610 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6231 : Index := Scalar.indexCast arg10
  let c192 : Index := 192#32
  let c0_3613 : Index := 0#32
  ![v6231.toNat, 192, 0, 0]
def k0_off611 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6237 : Index := Scalar.indexCast arg10
  let c192_3614 : Index := 192#32
  let c0_3616 : Index := 0#32
  ![v6237.toNat, 192, 2, 0]
def k0_off612 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6247 : Index := Scalar.indexCast arg10
  let c200 : Index := 200#32
  let c0_3618 : Index := 0#32
  ![v6247.toNat, 200, 0, 0]
def k0_off613 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6253 : Index := Scalar.indexCast arg10
  let c200_3619 : Index := 200#32
  let c0_3621 : Index := 0#32
  ![v6253.toNat, 200, 2, 0]
def k0_off614 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6263 : Index := Scalar.indexCast arg10
  let c208 : Index := 208#32
  let c0_3623 : Index := 0#32
  ![v6263.toNat, 208, 0, 0]
def k0_off615 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6269 : Index := Scalar.indexCast arg10
  let c208_3624 : Index := 208#32
  let c0_3626 : Index := 0#32
  ![v6269.toNat, 208, 2, 0]
def k0_off616 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6279 : Index := Scalar.indexCast arg10
  let c216 : Index := 216#32
  let c0_3628 : Index := 0#32
  ![v6279.toNat, 216, 0, 0]
def k0_off617 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6285 : Index := Scalar.indexCast arg10
  let c216_3629 : Index := 216#32
  let c0_3631 : Index := 0#32
  ![v6285.toNat, 216, 2, 0]
def k0_off618 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6295 : Index := Scalar.indexCast arg10
  let c224 : Index := 224#32
  let c0_3633 : Index := 0#32
  ![v6295.toNat, 224, 0, 0]
def k0_off619 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6301 : Index := Scalar.indexCast arg10
  let c224_3634 : Index := 224#32
  let c0_3636 : Index := 0#32
  ![v6301.toNat, 224, 2, 0]
def k0_off620 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6311 : Index := Scalar.indexCast arg10
  let c232 : Index := 232#32
  let c0_3638 : Index := 0#32
  ![v6311.toNat, 232, 0, 0]
def k0_off621 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6317 : Index := Scalar.indexCast arg10
  let c232_3639 : Index := 232#32
  let c0_3641 : Index := 0#32
  ![v6317.toNat, 232, 2, 0]
def k0_off622 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6327 : Index := Scalar.indexCast arg10
  let c240 : Index := 240#32
  let c0_3643 : Index := 0#32
  ![v6327.toNat, 240, 0, 0]
def k0_off623 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6333 : Index := Scalar.indexCast arg10
  let c240_3644 : Index := 240#32
  let c0_3646 : Index := 0#32
  ![v6333.toNat, 240, 2, 0]
def k0_off624 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6343 : Index := Scalar.indexCast arg10
  let c248 : Index := 248#32
  let c0_3648 : Index := 0#32
  ![v6343.toNat, 248, 0, 0]
def k0_off625 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6349 : Index := Scalar.indexCast arg10
  let c248_3649 : Index := 248#32
  let c0_3651 : Index := 0#32
  ![v6349.toNat, 248, 2, 0]
def k0_off626 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6359 : Index := Scalar.indexCast arg10
  let c256_3652 : Index := 256#32
  let c0_3654 : Index := 0#32
  ![v6359.toNat, 256, 0, 0]
def k0_off627 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6365 : Index := Scalar.indexCast arg10
  let c256_3655 : Index := 256#32
  let c0_3657 : Index := 0#32
  ![v6365.toNat, 256, 2, 0]
def k0_off628 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6375 : Index := Scalar.indexCast arg10
  let c264 : Index := 264#32
  let c0_3659 : Index := 0#32
  ![v6375.toNat, 264, 0, 0]
def k0_off629 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6381 : Index := Scalar.indexCast arg10
  let c264_3660 : Index := 264#32
  let c0_3662 : Index := 0#32
  ![v6381.toNat, 264, 2, 0]
def k0_off630 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6391 : Index := Scalar.indexCast arg10
  let c272 : Index := 272#32
  let c0_3664 : Index := 0#32
  ![v6391.toNat, 272, 0, 0]
def k0_off631 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6397 : Index := Scalar.indexCast arg10
  let c272_3665 : Index := 272#32
  let c0_3667 : Index := 0#32
  ![v6397.toNat, 272, 2, 0]
def k0_off632 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6407 : Index := Scalar.indexCast arg10
  let c280 : Index := 280#32
  let c0_3669 : Index := 0#32
  ![v6407.toNat, 280, 0, 0]
def k0_off633 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6413 : Index := Scalar.indexCast arg10
  let c280_3670 : Index := 280#32
  let c0_3672 : Index := 0#32
  ![v6413.toNat, 280, 2, 0]
def k0_off634 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6423 : Index := Scalar.indexCast arg10
  let c288 : Index := 288#32
  let c0_3674 : Index := 0#32
  ![v6423.toNat, 288, 0, 0]
def k0_off635 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6429 : Index := Scalar.indexCast arg10
  let c288_3675 : Index := 288#32
  let c0_3677 : Index := 0#32
  ![v6429.toNat, 288, 2, 0]
def k0_off636 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6439 : Index := Scalar.indexCast arg10
  let c296 : Index := 296#32
  let c0_3679 : Index := 0#32
  ![v6439.toNat, 296, 0, 0]
def k0_off637 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6445 : Index := Scalar.indexCast arg10
  let c296_3680 : Index := 296#32
  let c0_3682 : Index := 0#32
  ![v6445.toNat, 296, 2, 0]
def k0_off638 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6455 : Index := Scalar.indexCast arg10
  let c304 : Index := 304#32
  let c0_3684 : Index := 0#32
  ![v6455.toNat, 304, 0, 0]
def k0_off639 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6461 : Index := Scalar.indexCast arg10
  let c304_3685 : Index := 304#32
  let c0_3687 : Index := 0#32
  ![v6461.toNat, 304, 2, 0]
def k0_off640 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6471 : Index := Scalar.indexCast arg10
  let c312 : Index := 312#32
  let c0_3689 : Index := 0#32
  ![v6471.toNat, 312, 0, 0]
def k0_off641 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6477 : Index := Scalar.indexCast arg10
  let c312_3690 : Index := 312#32
  let c0_3692 : Index := 0#32
  ![v6477.toNat, 312, 2, 0]
def k0_off642 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6487 : Index := Scalar.indexCast arg10
  let c320 : Index := 320#32
  let c0_3694 : Index := 0#32
  ![v6487.toNat, 320, 0, 0]
def k0_off643 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6493 : Index := Scalar.indexCast arg10
  let c320_3695 : Index := 320#32
  let c0_3697 : Index := 0#32
  ![v6493.toNat, 320, 2, 0]
def k0_off644 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6503 : Index := Scalar.indexCast arg10
  let c328 : Index := 328#32
  let c0_3699 : Index := 0#32
  ![v6503.toNat, 328, 0, 0]
def k0_off645 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6509 : Index := Scalar.indexCast arg10
  let c328_3700 : Index := 328#32
  let c0_3702 : Index := 0#32
  ![v6509.toNat, 328, 2, 0]
def k0_off646 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6519 : Index := Scalar.indexCast arg10
  let c336 : Index := 336#32
  let c0_3704 : Index := 0#32
  ![v6519.toNat, 336, 0, 0]
def k0_off647 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6525 : Index := Scalar.indexCast arg10
  let c336_3705 : Index := 336#32
  let c0_3707 : Index := 0#32
  ![v6525.toNat, 336, 2, 0]
def k0_off648 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6535 : Index := Scalar.indexCast arg10
  let c344 : Index := 344#32
  let c0_3709 : Index := 0#32
  ![v6535.toNat, 344, 0, 0]
def k0_off649 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6541 : Index := Scalar.indexCast arg10
  let c344_3710 : Index := 344#32
  let c0_3712 : Index := 0#32
  ![v6541.toNat, 344, 2, 0]
def k0_off650 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6551 : Index := Scalar.indexCast arg10
  let c352 : Index := 352#32
  let c0_3714 : Index := 0#32
  ![v6551.toNat, 352, 0, 0]
def k0_off651 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6557 : Index := Scalar.indexCast arg10
  let c352_3715 : Index := 352#32
  let c0_3717 : Index := 0#32
  ![v6557.toNat, 352, 2, 0]
def k0_off652 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6567 : Index := Scalar.indexCast arg10
  let c360 : Index := 360#32
  let c0_3719 : Index := 0#32
  ![v6567.toNat, 360, 0, 0]
def k0_off653 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6573 : Index := Scalar.indexCast arg10
  let c360_3720 : Index := 360#32
  let c0_3722 : Index := 0#32
  ![v6573.toNat, 360, 2, 0]
def k0_off654 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6583 : Index := Scalar.indexCast arg10
  let c368 : Index := 368#32
  let c0_3724 : Index := 0#32
  ![v6583.toNat, 368, 0, 0]
def k0_off655 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6589 : Index := Scalar.indexCast arg10
  let c368_3725 : Index := 368#32
  let c0_3727 : Index := 0#32
  ![v6589.toNat, 368, 2, 0]
def k0_off656 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6599 : Index := Scalar.indexCast arg10
  let c376 : Index := 376#32
  let c0_3729 : Index := 0#32
  ![v6599.toNat, 376, 0, 0]
def k0_off657 (k0_t5 : Fin k0_t5_loop.trips) : Fin 4 → Nat :=
  let c0_i32_1682 : BitVec 32 := 0#32
  let c1_i32_1684 : BitVec 32 := 1#32
  let arg10 : BitVec 32 := Scf.iv c0_i32_1682 c1_i32_1684 k0_t5
  let v6605 : Index := Scalar.indexCast arg10
  let c376_3730 : Index := 376#32
  let c0_3732 : Index := 0#32
  ![v6605.toNat, 376, 2, 0]
@[reducible] def k0_t6_loop : Scf.Loop 32 :=
  let c0_i32_3477 : BitVec 32 := 0#32
  let c3_i32_3478 : BitVec 32 := 3#32
  let v5834 : BitVec 32 := Scalar.addi c0_i32_3477 c3_i32_3478
  let c1_i32_3479 : BitVec 32 := 1#32
  ⟨c0_i32_3477, v5834, c1_i32_3479⟩
def k0_mult6 (k0_t6 : Fin k0_t6_loop.trips) : BitVec 32 :=
  let c0_i32_3477 : BitVec 32 := 0#32
  let c1_i32_3479 : BitVec 32 := 1#32
  let arg10 : BitVec 32 := Scf.iv c0_i32_3477 c1_i32_3479 k0_t6
  let c384_i32 : BitVec 32 := 384#32
  let v5835 : BitVec 32 := Scalar.muli arg10 c384_i32
  v5835
def k0_off658 (k0_t6 : Fin k0_t6_loop.trips) : Fin 2 → Nat :=
  let c0_i32_3477 : BitVec 32 := 0#32
  let c1_i32_3479 : BitVec 32 := 1#32
  let arg10 : BitVec 32 := Scf.iv c0_i32_3477 c1_i32_3479 k0_t6
  let c384_i32 : BitVec 32 := 384#32
  let v5835 : BitVec 32 := Scalar.muli arg10 c384_i32
  let v5836 : BitVec 32 := v5835
  let v5837 : Index := Scalar.indexCast v5836
  let c0_3481 : Index := 0#32
  ![v5837.toNat, 0]
def k0_off659 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5847 : Index := Scalar.indexCast arg10
  let c0_3484 : Index := 0#32
  let c0_3486 : Index := 0#32
  ![v5847.toNat, 0, 4, 0]
def k0_off660 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5853 : Index := Scalar.indexCast arg10
  let c0_3487 : Index := 0#32
  let c0_3489 : Index := 0#32
  ![v5853.toNat, 0, 6, 0]
def k0_off661 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5863 : Index := Scalar.indexCast arg10
  let c8_3490 : Index := 8#32
  let c0_3492 : Index := 0#32
  ![v5863.toNat, 8, 4, 0]
def k0_off662 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5869 : Index := Scalar.indexCast arg10
  let c8_3493 : Index := 8#32
  let c0_3495 : Index := 0#32
  ![v5869.toNat, 8, 6, 0]
def k0_off663 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5879 : Index := Scalar.indexCast arg10
  let c16_3496 : Index := 16#32
  let c0_3498 : Index := 0#32
  ![v5879.toNat, 16, 4, 0]
def k0_off664 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5885 : Index := Scalar.indexCast arg10
  let c16_3499 : Index := 16#32
  let c0_3501 : Index := 0#32
  ![v5885.toNat, 16, 6, 0]
def k0_off665 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5895 : Index := Scalar.indexCast arg10
  let c24_3502 : Index := 24#32
  let c0_3504 : Index := 0#32
  ![v5895.toNat, 24, 4, 0]
def k0_off666 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5901 : Index := Scalar.indexCast arg10
  let c24_3505 : Index := 24#32
  let c0_3507 : Index := 0#32
  ![v5901.toNat, 24, 6, 0]
def k0_off667 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5911 : Index := Scalar.indexCast arg10
  let c32_3508 : Index := 32#32
  let c0_3510 : Index := 0#32
  ![v5911.toNat, 32, 4, 0]
def k0_off668 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5917 : Index := Scalar.indexCast arg10
  let c32_3511 : Index := 32#32
  let c0_3513 : Index := 0#32
  ![v5917.toNat, 32, 6, 0]
def k0_off669 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5927 : Index := Scalar.indexCast arg10
  let c40_3514 : Index := 40#32
  let c0_3516 : Index := 0#32
  ![v5927.toNat, 40, 4, 0]
def k0_off670 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5933 : Index := Scalar.indexCast arg10
  let c40_3517 : Index := 40#32
  let c0_3519 : Index := 0#32
  ![v5933.toNat, 40, 6, 0]
def k0_off671 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5943 : Index := Scalar.indexCast arg10
  let c48_3520 : Index := 48#32
  let c0_3522 : Index := 0#32
  ![v5943.toNat, 48, 4, 0]
def k0_off672 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5949 : Index := Scalar.indexCast arg10
  let c48_3523 : Index := 48#32
  let c0_3525 : Index := 0#32
  ![v5949.toNat, 48, 6, 0]
def k0_off673 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5959 : Index := Scalar.indexCast arg10
  let c56 : Index := 56#32
  let c0_3527 : Index := 0#32
  ![v5959.toNat, 56, 4, 0]
def k0_off674 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5965 : Index := Scalar.indexCast arg10
  let c56_3528 : Index := 56#32
  let c0_3530 : Index := 0#32
  ![v5965.toNat, 56, 6, 0]
def k0_off675 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5975 : Index := Scalar.indexCast arg10
  let c64 : Index := 64#32
  let c0_3532 : Index := 0#32
  ![v5975.toNat, 64, 4, 0]
def k0_off676 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5981 : Index := Scalar.indexCast arg10
  let c64_3533 : Index := 64#32
  let c0_3535 : Index := 0#32
  ![v5981.toNat, 64, 6, 0]
def k0_off677 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5991 : Index := Scalar.indexCast arg10
  let c72 : Index := 72#32
  let c0_3537 : Index := 0#32
  ![v5991.toNat, 72, 4, 0]
def k0_off678 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v5997 : Index := Scalar.indexCast arg10
  let c72_3538 : Index := 72#32
  let c0_3540 : Index := 0#32
  ![v5997.toNat, 72, 6, 0]
def k0_off679 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6007 : Index := Scalar.indexCast arg10
  let c80 : Index := 80#32
  let c0_3542 : Index := 0#32
  ![v6007.toNat, 80, 4, 0]
def k0_off680 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6013 : Index := Scalar.indexCast arg10
  let c80_3543 : Index := 80#32
  let c0_3545 : Index := 0#32
  ![v6013.toNat, 80, 6, 0]
def k0_off681 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6023 : Index := Scalar.indexCast arg10
  let c88 : Index := 88#32
  let c0_3547 : Index := 0#32
  ![v6023.toNat, 88, 4, 0]
def k0_off682 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6029 : Index := Scalar.indexCast arg10
  let c88_3548 : Index := 88#32
  let c0_3550 : Index := 0#32
  ![v6029.toNat, 88, 6, 0]
def k0_off683 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6039 : Index := Scalar.indexCast arg10
  let c96 : Index := 96#32
  let c0_3552 : Index := 0#32
  ![v6039.toNat, 96, 4, 0]
def k0_off684 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6045 : Index := Scalar.indexCast arg10
  let c96_3553 : Index := 96#32
  let c0_3555 : Index := 0#32
  ![v6045.toNat, 96, 6, 0]
def k0_off685 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6055 : Index := Scalar.indexCast arg10
  let c104 : Index := 104#32
  let c0_3557 : Index := 0#32
  ![v6055.toNat, 104, 4, 0]
def k0_off686 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6061 : Index := Scalar.indexCast arg10
  let c104_3558 : Index := 104#32
  let c0_3560 : Index := 0#32
  ![v6061.toNat, 104, 6, 0]
def k0_off687 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6071 : Index := Scalar.indexCast arg10
  let c112 : Index := 112#32
  let c0_3562 : Index := 0#32
  ![v6071.toNat, 112, 4, 0]
def k0_off688 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6077 : Index := Scalar.indexCast arg10
  let c112_3563 : Index := 112#32
  let c0_3565 : Index := 0#32
  ![v6077.toNat, 112, 6, 0]
def k0_off689 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6087 : Index := Scalar.indexCast arg10
  let c120 : Index := 120#32
  let c0_3567 : Index := 0#32
  ![v6087.toNat, 120, 4, 0]
def k0_off690 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6093 : Index := Scalar.indexCast arg10
  let c120_3568 : Index := 120#32
  let c0_3570 : Index := 0#32
  ![v6093.toNat, 120, 6, 0]
def k0_off691 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6103 : Index := Scalar.indexCast arg10
  let c128_3571 : Index := 128#32
  let c0_3573 : Index := 0#32
  ![v6103.toNat, 128, 4, 0]
def k0_off692 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6109 : Index := Scalar.indexCast arg10
  let c128_3574 : Index := 128#32
  let c0_3576 : Index := 0#32
  ![v6109.toNat, 128, 6, 0]
def k0_off693 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6119 : Index := Scalar.indexCast arg10
  let c136 : Index := 136#32
  let c0_3578 : Index := 0#32
  ![v6119.toNat, 136, 4, 0]
def k0_off694 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6125 : Index := Scalar.indexCast arg10
  let c136_3579 : Index := 136#32
  let c0_3581 : Index := 0#32
  ![v6125.toNat, 136, 6, 0]
def k0_off695 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6135 : Index := Scalar.indexCast arg10
  let c144 : Index := 144#32
  let c0_3583 : Index := 0#32
  ![v6135.toNat, 144, 4, 0]
def k0_off696 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6141 : Index := Scalar.indexCast arg10
  let c144_3584 : Index := 144#32
  let c0_3586 : Index := 0#32
  ![v6141.toNat, 144, 6, 0]
def k0_off697 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6151 : Index := Scalar.indexCast arg10
  let c152 : Index := 152#32
  let c0_3588 : Index := 0#32
  ![v6151.toNat, 152, 4, 0]
def k0_off698 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6157 : Index := Scalar.indexCast arg10
  let c152_3589 : Index := 152#32
  let c0_3591 : Index := 0#32
  ![v6157.toNat, 152, 6, 0]
def k0_off699 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6167 : Index := Scalar.indexCast arg10
  let c160 : Index := 160#32
  let c0_3593 : Index := 0#32
  ![v6167.toNat, 160, 4, 0]
def k0_off700 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6173 : Index := Scalar.indexCast arg10
  let c160_3594 : Index := 160#32
  let c0_3596 : Index := 0#32
  ![v6173.toNat, 160, 6, 0]
def k0_off701 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6183 : Index := Scalar.indexCast arg10
  let c168 : Index := 168#32
  let c0_3598 : Index := 0#32
  ![v6183.toNat, 168, 4, 0]
def k0_off702 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6189 : Index := Scalar.indexCast arg10
  let c168_3599 : Index := 168#32
  let c0_3601 : Index := 0#32
  ![v6189.toNat, 168, 6, 0]
def k0_off703 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6199 : Index := Scalar.indexCast arg10
  let c176 : Index := 176#32
  let c0_3603 : Index := 0#32
  ![v6199.toNat, 176, 4, 0]
def k0_off704 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6205 : Index := Scalar.indexCast arg10
  let c176_3604 : Index := 176#32
  let c0_3606 : Index := 0#32
  ![v6205.toNat, 176, 6, 0]
def k0_off705 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6215 : Index := Scalar.indexCast arg10
  let c184 : Index := 184#32
  let c0_3608 : Index := 0#32
  ![v6215.toNat, 184, 4, 0]
def k0_off706 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6221 : Index := Scalar.indexCast arg10
  let c184_3609 : Index := 184#32
  let c0_3611 : Index := 0#32
  ![v6221.toNat, 184, 6, 0]
def k0_off707 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6231 : Index := Scalar.indexCast arg10
  let c192 : Index := 192#32
  let c0_3613 : Index := 0#32
  ![v6231.toNat, 192, 4, 0]
def k0_off708 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6237 : Index := Scalar.indexCast arg10
  let c192_3614 : Index := 192#32
  let c0_3616 : Index := 0#32
  ![v6237.toNat, 192, 6, 0]
def k0_off709 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6247 : Index := Scalar.indexCast arg10
  let c200 : Index := 200#32
  let c0_3618 : Index := 0#32
  ![v6247.toNat, 200, 4, 0]
def k0_off710 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6253 : Index := Scalar.indexCast arg10
  let c200_3619 : Index := 200#32
  let c0_3621 : Index := 0#32
  ![v6253.toNat, 200, 6, 0]
def k0_off711 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6263 : Index := Scalar.indexCast arg10
  let c208 : Index := 208#32
  let c0_3623 : Index := 0#32
  ![v6263.toNat, 208, 4, 0]
def k0_off712 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6269 : Index := Scalar.indexCast arg10
  let c208_3624 : Index := 208#32
  let c0_3626 : Index := 0#32
  ![v6269.toNat, 208, 6, 0]
def k0_off713 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6279 : Index := Scalar.indexCast arg10
  let c216 : Index := 216#32
  let c0_3628 : Index := 0#32
  ![v6279.toNat, 216, 4, 0]
def k0_off714 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6285 : Index := Scalar.indexCast arg10
  let c216_3629 : Index := 216#32
  let c0_3631 : Index := 0#32
  ![v6285.toNat, 216, 6, 0]
def k0_off715 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6295 : Index := Scalar.indexCast arg10
  let c224 : Index := 224#32
  let c0_3633 : Index := 0#32
  ![v6295.toNat, 224, 4, 0]
def k0_off716 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6301 : Index := Scalar.indexCast arg10
  let c224_3634 : Index := 224#32
  let c0_3636 : Index := 0#32
  ![v6301.toNat, 224, 6, 0]
def k0_off717 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6311 : Index := Scalar.indexCast arg10
  let c232 : Index := 232#32
  let c0_3638 : Index := 0#32
  ![v6311.toNat, 232, 4, 0]
def k0_off718 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6317 : Index := Scalar.indexCast arg10
  let c232_3639 : Index := 232#32
  let c0_3641 : Index := 0#32
  ![v6317.toNat, 232, 6, 0]
def k0_off719 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6327 : Index := Scalar.indexCast arg10
  let c240 : Index := 240#32
  let c0_3643 : Index := 0#32
  ![v6327.toNat, 240, 4, 0]
def k0_off720 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6333 : Index := Scalar.indexCast arg10
  let c240_3644 : Index := 240#32
  let c0_3646 : Index := 0#32
  ![v6333.toNat, 240, 6, 0]
def k0_off721 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6343 : Index := Scalar.indexCast arg10
  let c248 : Index := 248#32
  let c0_3648 : Index := 0#32
  ![v6343.toNat, 248, 4, 0]
def k0_off722 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6349 : Index := Scalar.indexCast arg10
  let c248_3649 : Index := 248#32
  let c0_3651 : Index := 0#32
  ![v6349.toNat, 248, 6, 0]
def k0_off723 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6359 : Index := Scalar.indexCast arg10
  let c256_3652 : Index := 256#32
  let c0_3654 : Index := 0#32
  ![v6359.toNat, 256, 4, 0]
def k0_off724 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6365 : Index := Scalar.indexCast arg10
  let c256_3655 : Index := 256#32
  let c0_3657 : Index := 0#32
  ![v6365.toNat, 256, 6, 0]
def k0_off725 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6375 : Index := Scalar.indexCast arg10
  let c264 : Index := 264#32
  let c0_3659 : Index := 0#32
  ![v6375.toNat, 264, 4, 0]
def k0_off726 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6381 : Index := Scalar.indexCast arg10
  let c264_3660 : Index := 264#32
  let c0_3662 : Index := 0#32
  ![v6381.toNat, 264, 6, 0]
def k0_off727 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6391 : Index := Scalar.indexCast arg10
  let c272 : Index := 272#32
  let c0_3664 : Index := 0#32
  ![v6391.toNat, 272, 4, 0]
def k0_off728 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6397 : Index := Scalar.indexCast arg10
  let c272_3665 : Index := 272#32
  let c0_3667 : Index := 0#32
  ![v6397.toNat, 272, 6, 0]
def k0_off729 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6407 : Index := Scalar.indexCast arg10
  let c280 : Index := 280#32
  let c0_3669 : Index := 0#32
  ![v6407.toNat, 280, 4, 0]
def k0_off730 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6413 : Index := Scalar.indexCast arg10
  let c280_3670 : Index := 280#32
  let c0_3672 : Index := 0#32
  ![v6413.toNat, 280, 6, 0]
def k0_off731 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6423 : Index := Scalar.indexCast arg10
  let c288 : Index := 288#32
  let c0_3674 : Index := 0#32
  ![v6423.toNat, 288, 4, 0]
def k0_off732 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6429 : Index := Scalar.indexCast arg10
  let c288_3675 : Index := 288#32
  let c0_3677 : Index := 0#32
  ![v6429.toNat, 288, 6, 0]
def k0_off733 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6439 : Index := Scalar.indexCast arg10
  let c296 : Index := 296#32
  let c0_3679 : Index := 0#32
  ![v6439.toNat, 296, 4, 0]
def k0_off734 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6445 : Index := Scalar.indexCast arg10
  let c296_3680 : Index := 296#32
  let c0_3682 : Index := 0#32
  ![v6445.toNat, 296, 6, 0]
def k0_off735 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6455 : Index := Scalar.indexCast arg10
  let c304 : Index := 304#32
  let c0_3684 : Index := 0#32
  ![v6455.toNat, 304, 4, 0]
def k0_off736 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6461 : Index := Scalar.indexCast arg10
  let c304_3685 : Index := 304#32
  let c0_3687 : Index := 0#32
  ![v6461.toNat, 304, 6, 0]
def k0_off737 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6471 : Index := Scalar.indexCast arg10
  let c312 : Index := 312#32
  let c0_3689 : Index := 0#32
  ![v6471.toNat, 312, 4, 0]
def k0_off738 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6477 : Index := Scalar.indexCast arg10
  let c312_3690 : Index := 312#32
  let c0_3692 : Index := 0#32
  ![v6477.toNat, 312, 6, 0]
def k0_off739 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6487 : Index := Scalar.indexCast arg10
  let c320 : Index := 320#32
  let c0_3694 : Index := 0#32
  ![v6487.toNat, 320, 4, 0]
def k0_off740 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6493 : Index := Scalar.indexCast arg10
  let c320_3695 : Index := 320#32
  let c0_3697 : Index := 0#32
  ![v6493.toNat, 320, 6, 0]
def k0_off741 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6503 : Index := Scalar.indexCast arg10
  let c328 : Index := 328#32
  let c0_3699 : Index := 0#32
  ![v6503.toNat, 328, 4, 0]
def k0_off742 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6509 : Index := Scalar.indexCast arg10
  let c328_3700 : Index := 328#32
  let c0_3702 : Index := 0#32
  ![v6509.toNat, 328, 6, 0]
def k0_off743 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6519 : Index := Scalar.indexCast arg10
  let c336 : Index := 336#32
  let c0_3704 : Index := 0#32
  ![v6519.toNat, 336, 4, 0]
def k0_off744 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6525 : Index := Scalar.indexCast arg10
  let c336_3705 : Index := 336#32
  let c0_3707 : Index := 0#32
  ![v6525.toNat, 336, 6, 0]
def k0_off745 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6535 : Index := Scalar.indexCast arg10
  let c344 : Index := 344#32
  let c0_3709 : Index := 0#32
  ![v6535.toNat, 344, 4, 0]
def k0_off746 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6541 : Index := Scalar.indexCast arg10
  let c344_3710 : Index := 344#32
  let c0_3712 : Index := 0#32
  ![v6541.toNat, 344, 6, 0]
def k0_off747 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6551 : Index := Scalar.indexCast arg10
  let c352 : Index := 352#32
  let c0_3714 : Index := 0#32
  ![v6551.toNat, 352, 4, 0]
def k0_off748 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6557 : Index := Scalar.indexCast arg10
  let c352_3715 : Index := 352#32
  let c0_3717 : Index := 0#32
  ![v6557.toNat, 352, 6, 0]
def k0_off749 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6567 : Index := Scalar.indexCast arg10
  let c360 : Index := 360#32
  let c0_3719 : Index := 0#32
  ![v6567.toNat, 360, 4, 0]
def k0_off750 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6573 : Index := Scalar.indexCast arg10
  let c360_3720 : Index := 360#32
  let c0_3722 : Index := 0#32
  ![v6573.toNat, 360, 6, 0]
def k0_off751 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6583 : Index := Scalar.indexCast arg10
  let c368 : Index := 368#32
  let c0_3724 : Index := 0#32
  ![v6583.toNat, 368, 4, 0]
def k0_off752 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6589 : Index := Scalar.indexCast arg10
  let c368_3725 : Index := 368#32
  let c0_3727 : Index := 0#32
  ![v6589.toNat, 368, 6, 0]
def k0_off753 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6599 : Index := Scalar.indexCast arg10
  let c376 : Index := 376#32
  let c0_3729 : Index := 0#32
  ![v6599.toNat, 376, 4, 0]
def k0_off754 (k0_t6 : Fin k0_t6_loop.trips) : Fin 4 → Nat :=
  let c0_i32_3477 : BitVec 32 := 0#32
  let c1_i32_3479 : BitVec 32 := 1#32
  let arg10 : BitVec 32 := Scf.iv c0_i32_3477 c1_i32_3479 k0_t6
  let v6605 : Index := Scalar.indexCast arg10
  let c376_3730 : Index := 376#32
  let c0_3732 : Index := 0#32
  ![v6605.toNat, 376, 6, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1152x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S56x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x384x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x384x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x384x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F]
-- ==== ReferenceIdeal.lean ====
abbrev S1152x7168 : Shape := ⟨2, ![1152, 7168]⟩
abbrev S7168x10240 : Shape := ⟨2, ![7168, 10240]⟩
abbrev S56x80 : Shape := ⟨2, ![56, 80]⟩
abbrev S1152x128 : Shape := ⟨2, ![1152, 128]⟩
abbrev S56x128x80x128 : Shape := ⟨4, ![56, 128, 80, 128]⟩
abbrev S56x1x80x1 : Shape := ⟨4, ![56, 1, 80, 1]⟩
abbrev S3x384x7168 : Shape := ⟨3, ![3, 384, 7168]⟩
abbrev S3x384x10240 : Shape := ⟨3, ![3, 384, 10240]⟩
abbrev S3x384x8192 : Shape := ⟨3, ![3, 384, 8192]⟩
abbrev S3x384x64x128 : Shape := ⟨4, ![3, 384, 64, 128]⟩
abbrev S3x384x1024 : Shape := ⟨3, ![3, 384, 1024]⟩
abbrev S3x384x8x128 : Shape := ⟨4, ![3, 384, 8, 128]⟩
abbrev S3x384x1x128 : Shape := ⟨4, ![3, 384, 1, 128]⟩
abbrev S3x384x64x64 : Shape := ⟨4, ![3, 384, 64, 64]⟩
abbrev S3x384x1x64 : Shape := ⟨4, ![3, 384, 1, 64]⟩
abbrev S3x384x8x64 : Shape := ⟨4, ![3, 384, 8, 64]⟩

abbrev nBuf : Space → Nat
  | .hbm => 59
  | .vmem => 2
  | .smem => 0
  | _ => 0

abbrev bufTy : (tb : Table) → Fin (tcTables nBuf tb) → BufTy
  | .hbm, ⟨0, _⟩ => ⟨S1152x7168, .bf16⟩
  | .hbm, ⟨1, _⟩ => ⟨S7168x10240, .fp8e4m3⟩
  | .hbm, ⟨2, _⟩ => ⟨S56x80, .f32⟩
  | .hbm, ⟨3, _⟩ => ⟨S1152x128, .f32⟩
  | .hbm, ⟨4, _⟩ => ⟨S1152x128, .f32⟩
  | .hbm, ⟨5, _⟩ => ⟨S7168x10240, .bf16⟩
  | .hbm, ⟨6, _⟩ => ⟨S56x128x80x128, .bf16⟩
  | .hbm, ⟨7, _⟩ => ⟨S56x80, .bf16⟩
  | .hbm, ⟨8, _⟩ => ⟨S56x1x80x1, .bf16⟩
  | .hbm, ⟨9, _⟩ => ⟨S56x128x80x128, .bf16⟩
  | .hbm, ⟨10, _⟩ => ⟨S56x128x80x128, .bf16⟩
  | .hbm, ⟨11, _⟩ => ⟨S7168x10240, .bf16⟩
  | .hbm, ⟨12, _⟩ => ⟨S3x384x7168, .bf16⟩
  | .hbm, ⟨13, _⟩ => ⟨S3x384x10240, .f32⟩
  | .hbm, ⟨14, _⟩ => ⟨S3x384x8192, .f32⟩
  | .hbm, ⟨15, _⟩ => ⟨S3x384x64x128, .f32⟩
  | .hbm, ⟨16, _⟩ => ⟨S3x384x1024, .f32⟩
  | .hbm, ⟨17, _⟩ => ⟨S3x384x8x128, .f32⟩
  | .hbm, ⟨18, _⟩ => ⟨S3x384x1024, .f32⟩
  | .hbm, ⟨19, _⟩ => ⟨S3x384x8x128, .f32⟩
  | .hbm, ⟨20, _⟩ => ⟨S3x384x1x128, .f32⟩
  | .hbm, ⟨21, _⟩ => ⟨S3x384x1x128, .f32⟩
  | .hbm, ⟨22, _⟩ => ⟨S3x384x64x64, .f32⟩
  | .hbm, ⟨23, _⟩ => ⟨S3x384x64x64, .f32⟩
  | .hbm, ⟨24, _⟩ => ⟨S3x384x1x64, .f32⟩
  | .hbm, ⟨25, _⟩ => ⟨S3x384x1x64, .f32⟩
  | .hbm, ⟨26, _⟩ => ⟨S3x384x1x64, .f32⟩
  | .hbm, ⟨27, _⟩ => ⟨S3x384x1x64, .f32⟩
  | .hbm, ⟨28, _⟩ => ⟨S3x384x64x64, .f32⟩
  | .hbm, ⟨29, _⟩ => ⟨S3x384x64x64, .f32⟩
  | .hbm, ⟨30, _⟩ => ⟨S3x384x64x64, .f32⟩
  | .hbm, ⟨31, _⟩ => ⟨S3x384x64x64, .f32⟩
  | .hbm, ⟨32, _⟩ => ⟨S3x384x64x64, .f32⟩
  | .hbm, ⟨33, _⟩ => ⟨S3x384x64x64, .f32⟩
  | .hbm, ⟨34, _⟩ => ⟨S3x384x64x64, .f32⟩
  | .hbm, ⟨35, _⟩ => ⟨S3x384x64x64, .f32⟩
  | .hbm, ⟨36, _⟩ => ⟨S3x384x64x64, .f32⟩
  | .hbm, ⟨37, _⟩ => ⟨S3x384x64x64, .f32⟩
  | .hbm, ⟨38, _⟩ => ⟨S3x384x64x128, .f32⟩
  | .hbm, ⟨39, _⟩ => ⟨S3x384x64x128, .bf16⟩
  | .hbm, ⟨40, _⟩ => ⟨S3x384x8x64, .f32⟩
  | .hbm, ⟨41, _⟩ => ⟨S3x384x8x64, .f32⟩
  | .hbm, ⟨42, _⟩ => ⟨S3x384x1x64, .f32⟩
  | .hbm, ⟨43, _⟩ => ⟨S3x384x1x64, .f32⟩
  | .hbm, ⟨44, _⟩ => ⟨S3x384x1x64, .f32⟩
  | .hbm, ⟨45, _⟩ => ⟨S3x384x1x64, .f32⟩
  | .hbm, ⟨46, _⟩ => ⟨S3x384x8x64, .f32⟩
  | .hbm, ⟨47, _⟩ => ⟨S3x384x8x64, .f32⟩
  | .hbm, ⟨48, _⟩ => ⟨S3x384x8x64, .f32⟩
  | .hbm, ⟨49, _⟩ => ⟨S3x384x8x64, .f32⟩
  | .hbm, ⟨50, _⟩ => ⟨S3x384x8x64, .f32⟩
  | .hbm, ⟨51, _⟩ => ⟨S3x384x8x64, .f32⟩
  | .hbm, ⟨52, _⟩ => ⟨S3x384x8x64, .f32⟩
  | .hbm, ⟨53, _⟩ => ⟨S3x384x8x64, .f32⟩
  | .hbm, ⟨54, _⟩ => ⟨S3x384x8x64, .f32⟩
  | .hbm, ⟨55, _⟩ => ⟨S3x384x8x64, .f32⟩
  | .hbm, ⟨56, _⟩ => ⟨S3x384x8x128, .f32⟩
  | .hbm, ⟨57, _⟩ => ⟨S3x384x8x128, .bf16⟩
  | .hbm, ⟨58, _⟩ => ⟨S3x384x8x128, .bf16⟩
  | .local _ .vmem, ⟨0, _⟩ => ⟨S7168x10240, .fp8e4m3⟩
  | .local _ .vmem, ⟨1, _⟩ => ⟨S7168x10240, .bf16⟩
  | _, _ => ⟨S1152x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S7168x10240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Sum.lean ====
abbrev S3x384x7168 : Shape := ⟨3, ![3, 384, 7168]⟩
abbrev S7168 : Shape := ⟨1, ![7168]⟩
abbrev S3 : Shape := ⟨1, ![3]⟩
abbrev S1152x7168 : Shape := ⟨2, ![1152, 7168]⟩
abbrev S1x7168 : Shape := ⟨2, ![1, 7168]⟩
abbrev S1152x56 : Shape := ⟨2, ![1152, 56]⟩
abbrev S1152x128 : Shape := ⟨2, ![1152, 128]⟩
abbrev S32x7168 : Shape := ⟨2, ![32, 7168]⟩
abbrev S32x56 : Shape := ⟨2, ![32, 56]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S1 : Shape := ⟨1, ![1]⟩

abbrev nBuf : Space → Nat
  | .hbm => 13
  | .vmem => 17
  | .smem => 1
  | _ => 0

abbrev bufTy : (tb : Table) → Fin (tcTables nBuf tb) → BufTy
  | .hbm, ⟨0, _⟩ => ⟨S3x384x7168, .bf16⟩
  | .hbm, ⟨1, _⟩ => ⟨S3x384x7168, .bf16⟩
  | .hbm, ⟨2, _⟩ => ⟨S7168, .f32⟩
  | .hbm, ⟨3, _⟩ => ⟨S1152x7168, .bf16⟩
  | .hbm, ⟨4, _⟩ => ⟨S1152x7168, .bf16⟩
  | .hbm, ⟨5, _⟩ => ⟨S1x7168, .f32⟩
  | .hbm, ⟨6, _⟩ => ⟨S1152x7168, .bf16⟩
  | .hbm, ⟨7, _⟩ => ⟨S1152x7168, .fp8e4m3⟩
  | .hbm, ⟨8, _⟩ => ⟨S1152x56, .f32⟩
  | .hbm, ⟨9, _⟩ => ⟨S1152x7168, .bf16⟩
  | .hbm, ⟨10, _⟩ => ⟨S1152x128, .f32⟩
  | .hbm, ⟨11, _⟩ => ⟨S1152x128, .f32⟩
  | .hbm, ⟨12, _⟩ => ⟨S3x384x7168, .bf16⟩
  | .local _ .vmem, ⟨0, _⟩ => ⟨S32x7168, .bf16⟩
  | .local _ .vmem, ⟨1, _⟩ => ⟨S32x7168, .bf16⟩
  | .local _ .vmem, ⟨2, _⟩ => ⟨S32x7168, .bf16⟩
  | .local _ .vmem, ⟨3, _⟩ => ⟨S32x7168, .bf16⟩
  | .local _ .vmem, ⟨4, _⟩ => ⟨S1x7168, .f32⟩
  | .local _ .vmem, ⟨5, _⟩ => ⟨S32x7168, .bf16⟩
  | .local _ .vmem, ⟨6, _⟩ => ⟨S32x7168, .bf16⟩
  | .local _ .vmem, ⟨7, _⟩ => ⟨S32x7168, .fp8e4m3⟩
  | .local _ .vmem, ⟨8, _⟩ => ⟨S32x7168, .fp8e4m3⟩
  | .local _ .vmem, ⟨9, _⟩ => ⟨S32x56, .f32⟩
  | .local _ .vmem, ⟨10, _⟩ => ⟨S32x56, .f32⟩
  | .local _ .vmem, ⟨11, _⟩ => ⟨S32x7168, .bf16⟩
  | .local _ .vmem, ⟨12, _⟩ => ⟨S32x7168, .bf16⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .smem, ⟨0, _⟩ => ⟨S3, .i32⟩
  | _, _ => ⟨S3x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v4 : Ref sig .tc := ⟨.hbm, 12, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![36], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32_1348 : BitVec 32 := 32#32
  let v3371 : BitVec 32 := Scalar.muli arg0 c32_i32_1348
  let c384_i32 : BitVec 32 := 384#32
  let v3372 : BitVec 32 := Scalar.divsi v3371 c384_i32
  let v3373 : Index := Scalar.indexCast v3372
  ![v3373.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumReference.lean ====
abbrev S3x384x7168 : Shape := ⟨3, ![3, 384, 7168]⟩
abbrev S7168 : Shape := ⟨1, ![7168]⟩
abbrev S3 : Shape := ⟨1, ![3]⟩

abbrev nBuf : Space → Nat
  | .hbm => 8
  | .vmem => 0
  | .smem => 0
  | _ => 0

abbrev bufTy : (tb : Table) → Fin (tcTables nBuf tb) → BufTy
  | .hbm, ⟨0, _⟩ => ⟨S3x384x7168, .bf16⟩
  | .hbm, ⟨1, _⟩ => ⟨S3x384x7168, .bf16⟩
  | .hbm, ⟨2, _⟩ => ⟨S7168, .f32⟩
  | .hbm, ⟨3, _⟩ => ⟨S3, .i32⟩
  | .hbm, ⟨4, _⟩ => ⟨S3x384x7168, .f32⟩
  | .hbm, ⟨5, _⟩ => ⟨S3x384x7168, .f32⟩
  | .hbm, ⟨6, _⟩ => ⟨S3x384x7168, .f32⟩
  | .hbm, ⟨7, _⟩ => ⟨S3x384x7168, .bf16⟩
  | _, _ => ⟨S3x384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Quant.lean ====
abbrev S3x384x7168 : Shape := ⟨3, ![3, 384, 7168]⟩
abbrev S7168 : Shape := ⟨1, ![7168]⟩
abbrev S3 : Shape := ⟨1, ![3]⟩
abbrev S1152x7168 : Shape := ⟨2, ![1152, 7168]⟩
abbrev S1x7168 : Shape := ⟨2, ![1, 7168]⟩
abbrev S1152x56 : Shape := ⟨2, ![1152, 56]⟩
abbrev S1152x128 : Shape := ⟨2, ![1152, 128]⟩
abbrev S32x7168 : Shape := ⟨2, ![32, 7168]⟩
abbrev S32x56 : Shape := ⟨2, ![32, 56]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S1 : Shape := ⟨1, ![1]⟩
abbrev S3x384x56 : Shape := ⟨3, ![3, 384, 56]⟩

abbrev nBuf : Space → Nat
  | .hbm => 14
  | .vmem => 17
  | .smem => 1
  | _ => 0

abbrev bufTy : (tb : Table) → Fin (tcTables nBuf tb) → BufTy
  | .hbm, ⟨0, _⟩ => ⟨S3x384x7168, .bf16⟩
  | .hbm, ⟨1, _⟩ => ⟨S3x384x7168, .bf16⟩
  | .hbm, ⟨2, _⟩ => ⟨S7168, .f32⟩
  | .hbm, ⟨3, _⟩ => ⟨S1152x7168, .bf16⟩
  | .hbm, ⟨4, _⟩ => ⟨S1152x7168, .bf16⟩
  | .hbm, ⟨5, _⟩ => ⟨S1x7168, .f32⟩
  | .hbm, ⟨6, _⟩ => ⟨S1152x7168, .bf16⟩
  | .hbm, ⟨7, _⟩ => ⟨S1152x7168, .fp8e4m3⟩
  | .hbm, ⟨8, _⟩ => ⟨S1152x56, .f32⟩
  | .hbm, ⟨9, _⟩ => ⟨S1152x7168, .bf16⟩
  | .hbm, ⟨10, _⟩ => ⟨S1152x128, .f32⟩
  | .hbm, ⟨11, _⟩ => ⟨S1152x128, .f32⟩
  | .hbm, ⟨12, _⟩ => ⟨S3x384x7168, .fp8e4m3⟩
  | .hbm, ⟨13, _⟩ => ⟨S3x384x56, .f32⟩
  | .local _ .vmem, ⟨0, _⟩ => ⟨S32x7168, .bf16⟩
  | .local _ .vmem, ⟨1, _⟩ => ⟨S32x7168, .bf16⟩
  | .local _ .vmem, ⟨2, _⟩ => ⟨S32x7168, .bf16⟩
  | .local _ .vmem, ⟨3, _⟩ => ⟨S32x7168, .bf16⟩
  | .local _ .vmem, ⟨4, _⟩ => ⟨S1x7168, .f32⟩
  | .local _ .vmem, ⟨5, _⟩ => ⟨S32x7168, .bf16⟩
  | .local _ .vmem, ⟨6, _⟩ => ⟨S32x7168, .bf16⟩
  | .local _ .vmem, ⟨7, _⟩ => ⟨S32x7168, .fp8e4m3⟩
  | .local _ .vmem, ⟨8, _⟩ => ⟨S32x7168, .fp8e4m3⟩
  | .local _ .vmem, ⟨9, _⟩ => ⟨S32x56, .f32⟩
  | .local _ .vmem, ⟨10, _⟩ => ⟨S32x56, .f32⟩
  | .local _ .vmem, ⟨11, _⟩ => ⟨S32x7168, .bf16⟩
  | .local _ .vmem, ⟨12, _⟩ => ⟨S32x7168, .bf16⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .smem, ⟨0, _⟩ => ⟨S3, .i32⟩
  | _, _ => ⟨S3x384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v4 : Ref sig .tc := ⟨.hbm, 12, rfl⟩
abbrev main_v5 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32_1238 : BitVec 32 := 32#32
  let v3203 : BitVec 32 := Scalar.muli arg0 c32_i32_1238
  let c384_i32 : BitVec 32 := 384#32
  let v3204 : BitVec 32 := Scalar.divsi v3203 c384_i32
  let v3205 : Index := Scalar.indexCast v3204
  ![v3205.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QuantIdeal.lean ====
variable {F : FTy → Type} [FloatOps F] [Named F]
def κ : String → Option EReal := fun
  | "inv_d" => some ((1 / 7168 : ℝ) : EReal)
  | "inv_log_2" => some (((Real.log 2)⁻¹ : ℝ) : EReal)
  | _ => none
-- ==== QuantReferenceIdeal.lean ====
abbrev S3x384x7168 : Shape := ⟨3, ![3, 384, 7168]⟩
abbrev S7168 : Shape := ⟨1, ![7168]⟩
abbrev S3 : Shape := ⟨1, ![3]⟩
abbrev S_ : Shape := ⟨0, ![]⟩
abbrev S3x384 : Shape := ⟨2, ![3, 384]⟩
abbrev S3x384x1 : Shape := ⟨3, ![3, 384, 1]⟩
abbrev S1x1x7168 : Shape := ⟨3, ![1, 1, 7168]⟩
abbrev S1152x56x128 : Shape := ⟨3, ![1152, 56, 128]⟩
abbrev S1152x56 : Shape := ⟨2, ![1152, 56]⟩
abbrev S1152x56x1 : Shape := ⟨3, ![1152, 56, 1]⟩
abbrev S3x384x56 : Shape := ⟨3, ![3, 384, 56]⟩

abbrev nBuf : Space → Nat
  | .hbm => 30
  | .vmem => 3
  | .smem => 0
  | _ => 0

abbrev bufTy : (tb : Table) → Fin (tcTables nBuf tb) → BufTy
  | .hbm, ⟨0, _⟩ => ⟨S3x384x7168, .bf16⟩
  | .hbm, ⟨1, _⟩ => ⟨S3x384x7168, .bf16⟩
  | .hbm, ⟨2, _⟩ => ⟨S7168, .f32⟩
  | .hbm, ⟨3, _⟩ => ⟨S3, .i32⟩
  | .hbm, ⟨4, _⟩ => ⟨S3x384x7168, .f32⟩
  | .hbm, ⟨5, _⟩ => ⟨S3x384x7168, .f32⟩
  | .hbm, ⟨6, _⟩ => ⟨S3x384x7168, .f32⟩
  | .hbm, ⟨7, _⟩ => ⟨S3x384x7168, .bf16⟩
  | .hbm, ⟨8, _⟩ => ⟨S3x384x7168, .f32⟩
  | .hbm, ⟨9, _⟩ => ⟨S3x384x7168, .f32⟩
  | .hbm, ⟨10, _⟩ => ⟨S_, .f32⟩
  | .hbm, ⟨11, _⟩ => ⟨S3x384, .f32⟩
  | .hbm, ⟨12, _⟩ => ⟨S3x384x1, .f32⟩
  | .hbm, ⟨13, _⟩ => ⟨S_, .f32⟩
  | .hbm, ⟨14, _⟩ => ⟨S3x384x1, .f32⟩
  | .hbm, ⟨15, _⟩ => ⟨S3x384x1, .f32⟩
  | .hbm, ⟨16, _⟩ => ⟨S_, .f32⟩
  | .hbm, ⟨17, _⟩ => ⟨S3x384x1, .f32⟩
  | .hbm, ⟨18, _⟩ => ⟨S3x384x1, .f32⟩
  | .hbm, ⟨19, _⟩ => ⟨S3x384x1, .f32⟩
  | .hbm, ⟨20, _⟩ => ⟨S3x384x7168, .f32⟩
  | .hbm, ⟨21, _⟩ => ⟨S3x384x7168, .f32⟩
  | .hbm, ⟨22, _⟩ => ⟨S1x1x7168, .f32⟩
  | .hbm, ⟨23, _⟩ => ⟨S3x384x7168, .f32⟩
  | .hbm, ⟨24, _⟩ => ⟨S3x384x7168, .f32⟩
  | .hbm, ⟨25, _⟩ => ⟨S1152x56x128, .f32⟩
  | .hbm, ⟨26, _⟩ => ⟨S1152x56x128, .fp8e4m3⟩
  | .hbm, ⟨27, _⟩ => ⟨S1152x56, .f32⟩
  | .hbm, ⟨28, _⟩ => ⟨S3x384x7168, .fp8e4m3⟩
  | .hbm, ⟨29, _⟩ => ⟨S3x384x56, .f32⟩
  | .local _ .vmem, ⟨0, _⟩ => ⟨S1152x56x128, .f32⟩
  | .local _ .vmem, ⟨1, _⟩ => ⟨S1152x56x128, .fp8e4m3⟩
  | .local _ .vmem, ⟨2, _⟩ => ⟨S1152x56, .f32⟩
  | _, _ => ⟨S3x384x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "inv_log_2" => some (((Real.log 2)⁻¹ : ℝ) : EReal)
  | _ => none

abbrev grid0 : Pipeline.Grid := .none

abbrev stage0_0 : Fin 1 → Memref sig .tc .vmem S1152x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x56x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelPoints.lean ====
/- The compiled kernel's grid points: which branch of the body each takes, its staging blocks and its
   scratch. For any values, read at machine words. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's branch conditions -/

/-- The condition of the body's `scf.if` 0, from the grid coordinates. -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1, from the grid coordinates. -/
abbrev cond0_1 (i : grid0.Coords) : Prop := k0_cond2 i = 1#1
/-- It holds at point 8 only — by arithmetic of the point. -/
theorem hcond0_1 : ∀ t : Fin cfg0.N, cond0_1 (grid0.coords t) ↔ t.val % 10 = 8 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 8)

/-- The condition of the body's `scf.if` 2, from the grid coordinates. -/
abbrev cond0_2 (i : grid0.Coords) : Prop := k0_cond3 i = 1#1
/-- It holds at the last point only — decided over the grid. -/
theorem hcond0_2 : ∀ t : Fin cfg0.N, cond0_2 (grid0.coords t) ↔ t.val % 10 = 9 :=
  (by decide +kernel : ∀ t : Fin grid0.N, cond0_2 (grid0.coords t) ↔ t.val % 10 = 9)

/-! ## The inputs are never idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The staging blocks and the scratch -/

/-- Each window's current staging memref at point `t`, and that it is whole. -/
abbrev ms0_0 (t : Fin cfg0.N) : Memref sig .tc .vmem S1152x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S56x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1152x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x384x8x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x384x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x384x8x128 .bf16 := win0_7.stage (cfg0.slots t 7)
abbrev hs0_7 (t : Fin cfg0.N) : (ms0_7 t).IsWhole := hstage0_7 ((cfg0.slots t 7).cast nbuf0_7)
/-- The scratch operand: a whole buffer of the call's own. -/
abbrev scM0_0 : Memref sig .tc .vmem S7168x512 .bf16 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.KernelRunA.lean ====
/- The compiled kernel's body at the query tiles, points 0 to 7: it runs, and leaves its inputs as they were. -/
module

public import proofs.«01_k».proof.Proof.KernelPoints

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 17676000 in
/-- The body with the first conditional taken, the others not: from the inputs at their contents and the outputs and
    the scratch at anything, it runs on with the inputs as they were and the others at some contents. -/
theorem runA (c : Dev nD) (i : grid0.Coords) (arg1 : Memref sig .tc .vmem S1152x7168 .bf16) (harg1 : arg1.IsWhole) (arg2 : Memref sig .tc .vmem S7168x1024 .fp8e4m3) (harg2 : arg2.IsWhole) (arg3 : Memref sig .tc .smem S56x80 .f32) (harg3 : arg3.IsWhole) (arg4 : Memref sig .tc .vmem S1152x128 .f32) (harg4 : arg4.IsWhole) (arg5 : Memref sig .tc .vmem S1152x128 .f32) (harg5 : arg5.IsWhole) (arg6 : Memref sig .tc .vmem S3x384x8x128 .bf16) (harg6 : arg6.IsWhole) (arg7 : Memref sig .tc .vmem S3x384x8x128 .bf16) (harg7 : arg7.IsWhole) (arg8 : Memref sig .tc .vmem S3x384x8x128 .bf16) (harg8 : arg8.IsWhole) (arg9 : Memref sig .tc .vmem S7168x512 .bf16) (harg9 : arg9.IsWhole) (hc0 : cond0_0 i) (hc1 : ¬cond0_1 i) (hc2 : ¬cond0_2 i)
    (x0 : Vec F S1152x7168 .bf16) (x1 : Vec F S7168x1024 .fp8e4m3) (x2 : Vec F S56x80 .f32) (x3 : Vec F S1152x128 .f32) (x4 : Vec F S1152x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K := by
    intro E K
    simp only [cc0_proj_eq_skeleton]; unfold cc0_proj_skel
    simp only [k0_part305_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part306_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part307_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Body

end
-- ==== Proof.KernelRunB.lean ====
/- The compiled kernel's body at the key tile, point 8: it runs, and leaves its inputs as they were. -/
module

public import proofs.«01_k».proof.Proof.KernelRunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 17676000 in
/-- The body with the second conditional taken, the others not: from the inputs at their contents and the outputs and
    the scratch at anything, it runs on with the inputs as they were and the others at some contents. -/
theorem runB (c : Dev nD) (i : grid0.Coords) (arg1 : Memref sig .tc .vmem S1152x7168 .bf16) (harg1 : arg1.IsWhole) (arg2 : Memref sig .tc .vmem S7168x1024 .fp8e4m3) (harg2 : arg2.IsWhole) (arg3 : Memref sig .tc .smem S56x80 .f32) (harg3 : arg3.IsWhole) (arg4 : Memref sig .tc .vmem S1152x128 .f32) (harg4 : arg4.IsWhole) (arg5 : Memref sig .tc .vmem S1152x128 .f32) (harg5 : arg5.IsWhole) (arg6 : Memref sig .tc .vmem S3x384x8x128 .bf16) (harg6 : arg6.IsWhole) (arg7 : Memref sig .tc .vmem S3x384x8x128 .bf16) (harg7 : arg7.IsWhole) (arg8 : Memref sig .tc .vmem S3x384x8x128 .bf16) (harg8 : arg8.IsWhole) (arg9 : Memref sig .tc .vmem S7168x512 .bf16) (harg9 : arg9.IsWhole) (hc0 : ¬cond0_0 i) (hc1 : cond0_1 i) (hc2 : ¬cond0_2 i)
    (x0 : Vec F S1152x7168 .bf16) (x1 : Vec F S7168x1024 .fp8e4m3) (x2 : Vec F S56x80 .f32) (x3 : Vec F S1152x128 .f32) (x4 : Vec F S1152x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K := by
    intro E K
    simp only [cc0_proj_eq_skeleton]; unfold cc0_proj_skel
    simp only [k0_part612_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part613_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part614_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Body

end
-- ==== Proof.KernelRunC.lean ====
/- The compiled kernel's body at the value tile, point 9: it runs, and leaves its inputs as they were. -/
module

public import proofs.«01_k».proof.Proof.KernelRunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 17764000 in
/-- The body with the third conditional taken, the others not: from the inputs at their contents and the outputs and
    the scratch at anything, it runs on with the inputs as they were and the others at some contents. -/
theorem runC (c : Dev nD) (i : grid0.Coords) (arg1 : Memref sig .tc .vmem S1152x7168 .bf16) (harg1 : arg1.IsWhole) (arg2 : Memref sig .tc .vmem S7168x1024 .fp8e4m3) (harg2 : arg2.IsWhole) (arg3 : Memref sig .tc .smem S56x80 .f32) (harg3 : arg3.IsWhole) (arg4 : Memref sig .tc .vmem S1152x128 .f32) (harg4 : arg4.IsWhole) (arg5 : Memref sig .tc .vmem S1152x128 .f32) (harg5 : arg5.IsWhole) (arg6 : Memref sig .tc .vmem S3x384x8x128 .bf16) (harg6 : arg6.IsWhole) (arg7 : Memref sig .tc .vmem S3x384x8x128 .bf16) (harg7 : arg7.IsWhole) (arg8 : Memref sig .tc .vmem S3x384x8x128 .bf16) (harg8 : arg8.IsWhole) (arg9 : Memref sig .tc .vmem S7168x512 .bf16) (harg9 : arg9.IsWhole) (hc0 : ¬cond0_0 i) (hc1 : ¬cond0_1 i) (hc2 : cond0_2 i)
    (x0 : Vec F S1152x7168 .bf16) (x1 : Vec F S7168x1024 .fp8e4m3) (x2 : Vec F S56x80 .f32) (x3 : Vec F S1152x128 .f32) (x4 : Vec F S1152x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K := by
    intro E K
    simp only [cc0_proj_eq_skeleton]; unfold cc0_proj_skel
    simp only [k0_part821_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part822_eq_skeleton, k0_part717_eq_skeleton, k0_part718_eq_skeleton, k0_part719_eq_skeleton, k0_part720_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part823_eq_skeleton, k0_part777_eq_skeleton, k0_part778_eq_skeleton, k0_part779_eq_skeleton, k0_part780_eq_skeleton, k0_part781_eq_skeleton, k0_part782_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Body

end
-- ==== Proof.KernelFrame.lean ====
/- The compiled kernel terminates from any memory, nothing faults, its argument arrays end unchanged and
   every semaphore counter at zero. Nothing is said here of what its outputs hold. -/
module

public import proofs.«01_k».proof.Proof.KernelRunC
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows, of whose contents nothing is named. -/
def forgets0 : Fin 8 → Bool := fun w => w.val == 5 || w.val == 6 || w.val == 7

/-- What the region is run with: the arrays as it finds them; after each point each input's block in place, the
    outputs not named; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in each input block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point: the closed forms of the conditions say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 10 := lt_of_lt_of_eq t.isLt (show cfg0.N = 10 from N_0)
  by_cases h0 : t.val < 8
  · by_cases h1 : t.val % 10 = 8
    · exfalso; omega
    · by_cases h2 : t.val % 10 = 9
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runA c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : t.val % 10 = 8
    · by_cases h2 : t.val % 10 = 9
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runB c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : t.val % 10 = 9
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runC c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; omega

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every fair execution terminates with every input array unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run to the arrays the region leaves, with outputs not named, leaves the argument arrays as they were. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_of m ρ (fun c => (dats m 0 c).toRForget forgets0) (A_eq m) (run_main m ρ)

/-- with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.Points.lean ====
/- The grid points at which each branch of the projection kernel's body is taken, the windows that
   are written there, and the memrefs the body gets at a point. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at point 8 only — by arithmetic of the point. -/
theorem hcond0_1 : ∀ t : Fin cfg0.N, cond0_1 (grid0.coords t) ↔ t.val % 10 = 8 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 8)

/-- The condition of the body's `scf.if` 2 (`k0_h3`), from the grid coordinates (the skeleton's scalar
    chain substituted). -/
abbrev cond0_2 (i : grid0.Coords) : Prop := k0_cond3 i = 1#1
/-- It holds at the last point only — decided over the grid. -/
theorem hcond0_2 : ∀ t : Fin cfg0.N, cond0_2 (grid0.coords t) ↔ t.val % 10 = 9 :=
  (by decide +kernel : ∀ t : Fin grid0.N, cond0_2 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1152x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S56x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1152x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x384x8x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x384x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x384x8x128 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S7168x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.Tile.lean ====
/- What one stored block of the projection kernel holds, over the reals: the product of the
   activations with a dequantised weight tile, read at a row and a column, and the rotary
   combination of two halves of a head. Everything here is about plain functions; no memory. -/
module

public import proofs.«01_k».proof.KernelIdeal.P01
public import Idealize.ShloMosaic.Lib.MatmulPlain
public import Idealize.ShloMosaic.Lib.KernelVsHost
public import Idealize.ShloMosaic.Lib.Pipeline.Value
public import Idealize.ShloMosaic.Lib.Pointwise.ShapeOpsCore

@[expose] public section

noncomputable section

namespace Cert.KernelIdeal.Tile

open Idealize.ShloMosaic hiding ix2 ix4
open Idealize.ShloMosaic.ValueIdx

/-- Row `r`, column `n` of the product of the activations with a dequantised weight tile of 1024
    columns. -/
def prod (X : S1152x7168.Idx → EReal) (W : S7168x1024.Idx → EReal) (r : Fin 1152) (n : Fin 1024) : EReal :=
  ∑ k : Fin 7168, X (ix2 r k) * W (ix2 k n)

/-- The lane half a head away: `d + 64` modulo 128. -/
def halfTurn (d : Fin 128) : Fin 128 := ⟨(d.val + 64) % 128, Nat.mod_lt _ (by decide)⟩

/-- The token row of batch `m`, position `s`. -/
def rowOf (m : Fin 3) (s : Fin 384) : Fin 1152 := ⟨384 * m.val + s.val, by omega⟩

/-- The column of lane `d` of head `h` of a tile. -/
def colOf (h : Fin 8) (d : Fin 128) : Fin 1024 := ⟨128 * h.val + d.val, by omega⟩

/-- The eight heads of a tile, not rotated. -/
def plain (X : S1152x7168.Idx → EReal) (W : S7168x1024.Idx → EReal) (y : S3x384x8x128.Idx) : EReal :=
  prod X W (rowOf (y 0) (y 1)) (colOf (y 2) (y 3))

/-- The eight heads of a tile after the rotary embedding: each lane times its cosine plus the lane
    half a head away times the signed sine. -/
def rotated (X : S1152x7168.Idx → EReal) (W : S7168x1024.Idx → EReal) (cs sn : S1152x128.Idx → EReal)
    (y : S3x384x8x128.Idx) : EReal :=
  plain X W y * cs (ix2 (rowOf (y 0) (y 1)) (y 3))
    + prod X W (rowOf (y 0) (y 1)) (colOf (y 2) (halfTurn (y 3))) * sn (ix2 (rowOf (y 0) (y 1)) (y 3))

/-- `Y` holds rows `384 k …` and columns `512 c …` of the product. -/
def IsTile (X : S1152x7168.Idx → EReal) (W : S7168x1024.Idx → EReal) (k c : ℕ) (Y : S384x512.Idx → EReal) : Prop :=
  ∀ (s : Fin 384) (n : Fin 512) (r : Fin 1152) (n' : Fin 1024),
    r.val = 384 * k + s.val → n'.val = 512 * c + n.val → Y (ix2 s n) = prod X W r n'

/-- `A` holds the 384 rows of the activations from row `384 k`. -/
def IsRows (X : S1152x7168.Idx → EReal) (k : ℕ) (A : S384x7168.Idx → EReal) : Prop :=
  ∀ (s : Fin 384) (j : Fin 7168) (r : Fin 1152), r.val = 384 * k + s.val → A (ix2 s j) = X (ix2 r j)

/-- `B` holds the 512 columns of the dequantised weight tile from column `512 c`. -/
def IsCols (W : S7168x1024.Idx → EReal) (c : ℕ) (B : S7168x512.Idx → EReal) : Prop :=
  ∀ (j : Fin 7168) (n : Fin 512) (n' : Fin 1024), n'.val = 512 * c + n.val → B (ix2 j n) = W (ix2 j n')

/-- `C` holds the 8 rows of a rotary table from row `o`. -/
def IsTab (T : S1152x128.Idx → EReal) (o : ℕ) (C : S8x128.Idx → EReal) : Prop :=
  ∀ (i : Fin 8) (d : Fin 128) (r : Fin 1152), r.val = o + i.val → C (ix2 i d) = T (ix2 r d)

section Product
variable [Facts₀] {X : S1152x7168.Idx → EReal} {W : S7168x1024.Idx → EReal} {k c : ℕ}

/-- The matrix unit's product of a row block with a column block is a tile of the product. -/
theorem isTile_matmul {A : S384x7168.Idx → EReal} {B : S7168x512.Idx → EReal} (hA : IsRows X k A) (hB : IsCols W c B) :
    IsTile X W k c (matmul (F := Ideal) (φ₁ := .bf16) (φ₂ := .bf16) dot_S384x7168_S7168x512_S384x512_1_0_0_1_n_n none A B
      (constant S384x512 .f32 0x00000000#32)) := by
  intro s n r n' hr hn
  have h := Ideal.matmul_plain_apply (M := 384) (K := 7168) (N := 512) (φ₁ := .bf16) (φ₂ := .bf16) none A B
    (constant (F := Ideal) S384x512 .f32 0x00000000#32) s n
  have h0 : constant (F := Ideal) S384x512 .f32 0x00000000#32 (ix2 s n) = (0 : EReal) :=
    Ideal.ofBits_zero_f32
  refine h.trans ?_
  rw [h0, zero_add]
  exact Finset.sum_congr rfl fun j _ => by rw [hA s j r hr, hB j n n' hn]

end Product

/-- Two 8-row blocks stored as interleaved rows: row parity picks the block. -/
theorem pair_apply (lo hi : S8x128.Idx → EReal) (hl hh : S8x128.ShapeCasts S1x8x1x128)
    (hb : S1x8x2x128.Bitcasts 16 S1x8x1x128 32) (x : S1x8x2x128.Idx) :
    interleaveRows S1x8x2x128 (shapeCast S1x8x1x128 lo hl) (shapeCast S1x8x1x128 hi hh) hb x
      = if (x 2).val = 0 then lo (ix2 (x 1) (x 3)) else hi (ix2 (x 1) (x 3)) := by
  have h0 : (x 0).val < 1 := (x 0).isLt
  have h2 : (x 2).val < 2 := (x 2).isLt
  have hx : S1x8x2x128.row x % 2 = (x 2).val := (Nat.mod_eq_of_lt h2 : (x 2).val % 2 = (x 2).val)
  have key : ∀ (v : S8x128.Idx → EReal) (hv : S8x128.ShapeCasts S1x8x1x128) (j : S1x8x1x128.Idx),
      j 1 = x 1 → j 3 = x 3 → shapeCast S1x8x1x128 v hv j = v (ix2 (x 1) (x 3)) := by
    intro v hv j h1 h3
    have j0 : (j 0).val < 1 := (j 0).isLt
    have j2 : (j 2).val < 1 := (j 2).isLt
    refine shapeCast_apply v hv j _ ?_
    rw [Shape.rowMajor_val_two, Shape.rowMajor_val_four, ← h1, ← h3]
    show (j 1).val * 128 + (j 3).val = (((j 0).val * 8 + (j 1).val) * 1 + (j 2).val) * 128 + (j 3).val
    omega
  unfold interleaveRows
  simp only [hx]
  split
  · exact key lo hl _ rfl rfl
  · exact key hi hh _ rfl rfl

variable {X : S1152x7168.Idx → EReal} {W : S7168x1024.Idx → EReal} {cs sn : S1152x128.Idx → EReal} {k c : ℕ}
  {Y : S384x512.Idx → EReal}

/-- One head's 8 rows at offset `(o, p)` of a tile, rotated. -/
theorem head_apply (hY : IsTile X W k c Y) {o p : ℕ} (hs : S384x512.Slices ![o, p] S8x128) (hr : S8x128.Rotates 1 none)
    {C S : S8x128.Idx → EReal} (hC : IsTab cs (384 * k + o) C) (hS : IsTab sn (384 * k + o) S)
    (i : Fin 8) (d : Fin 128) (y : S3x384x8x128.Idx) (h0 : (y 0).val = k) (h1 : (y 1).val = o + i.val)
    (h2 : 128 * (y 2).val = 512 * c + p) (h3 : (y 3).val = d.val) :
    addf (F := Ideal) (φ := .f32) (mulf (F := Ideal) (φ := .f32) (extractStridedSlice S8x128 ![o, p] Y hs) C)
      (mulf (F := Ideal) (φ := .f32) (dynamicRotate 1 64#32 none (extractStridedSlice S8x128 ![o, p] Y hs) hr) S) (ix2 i d)
      = rotated X W cs sn y := by
  have hd : (y 3) = d := Fin.ext h3
  have e1 := hs.2 0
  have e2 := hs.2 1
  have hsl : ∀ d' : Fin 128, extractStridedSlice S8x128 ![o, p] Y hs (ix2 i d')
      = prod X W (rowOf (y 0) (y 1)) (colOf (y 2) d') := by
    intro d'
    have hp : p + d'.val < 512 := by have : p + 128 ≤ 512 := e2; omega
    have ho : o + i.val < 384 := by have : o + 8 ≤ 384 := e1; omega
    rw [extractStridedSlice_apply ![o, p] Y hs (ix2 i d') (ix2 ⟨o + i.val, ho⟩ ⟨p + d'.val, hp⟩)
      (by intro a; match a with | ⟨0, _⟩ => rfl | ⟨1, _⟩ => rfl)]
    exact hY _ _ _ _ (by show 384 * (y 0).val + (y 1).val = _; rw [h0, h1]) (by show 128 * (y 2).val + d'.val = _; rw [h2]; exact Nat.add_assoc _ _ _)
  have hrot : dynamicRotate 1 64#32 none (extractStridedSlice S8x128 ![o, p] Y hs) hr (ix2 i d)
      = prod X W (rowOf (y 0) (y 1)) (colOf (y 2) (halfTurn d)) := by
    rw [dynamicRotate_apply 1 64#32 _ hr (ix2 i d) (ix2 i (halfTurn d)) (by
      intro a; match a with
      | ⟨0, _⟩ => rfl
      | ⟨1, _⟩ => rfl)]
    exact hsl _
  have hrow : (rowOf (y 0) (y 1)).val = 384 * k + o + i.val := by
    show 384 * (y 0).val + (y 1).val = _; rw [h0, h1]; omega
  show extractStridedSlice S8x128 ![o, p] Y hs (ix2 i d) * C (ix2 i d)
    + dynamicRotate 1 64#32 none (extractStridedSlice S8x128 ![o, p] Y hs) hr (ix2 i d) * S (ix2 i d) = _
  rw [hsl, hrot, hC i d _ hrow, hS i d _ hrow]
  show _ = prod X W (rowOf (y 0) (y 1)) (colOf (y 2) (y 3)) * cs (ix2 (rowOf (y 0) (y 1)) (y 3))
    + prod X W (rowOf (y 0) (y 1)) (colOf (y 2) (halfTurn (y 3))) * sn (ix2 (rowOf (y 0) (y 1)) (y 3))
  rw [hd]

/-- The stored block at `![k, o, q, 0]`: two neighbouring heads' rows, rotated and interleaved, are
    the block of `rotated` there. -/
theorem rotated_block (hY : IsTile X W k c Y) {o p p' q : ℕ}
    {hs : S384x512.Slices ![o, p] S8x128} {hs' : S384x512.Slices ![o, p'] S8x128}
    {hr hr' : S8x128.Rotates 1 none} {hl hh : S8x128.ShapeCasts S1x8x1x128}
    {hb : S1x8x2x128.Bitcasts 16 S1x8x1x128 32} {hlt hlt' : FTy.bits .bf16 < FTy.bits .f32}
    {C S C' S' : S8x128.Idx → EReal} (hC : IsTab cs (384 * k + o) C) (hS : IsTab sn (384 * k + o) S)
    (hC' : IsTab cs (384 * k + o) C') (hS' : IsTab sn (384 * k + o) S')
    (hq : 128 * q = 512 * c + p) (hp : p' = p + 128)
    {inb : ∀ a : Fin 4, ![k, o, q, 0] a + S1x8x2x128.size a ≤ S3x384x8x128.size a} (x : S1x8x2x128.Idx) :
    interleaveRows S1x8x2x128
      (shapeCast S1x8x1x128 (truncf (F := Ideal) .bf16
        (addf (F := Ideal) (φ := .f32) (mulf (F := Ideal) (φ := .f32) (extractStridedSlice S8x128 ![o, p] Y hs) C)
          (mulf (F := Ideal) (φ := .f32) (dynamicRotate 1 64#32 none (extractStridedSlice S8x128 ![o, p] Y hs) hr) S)) hlt) hl)
      (shapeCast S1x8x1x128 (truncf (F := Ideal) .bf16
        (addf (F := Ideal) (φ := .f32) (mulf (F := Ideal) (φ := .f32) (extractStridedSlice S8x128 ![o, p'] Y hs') C')
          (mulf (F := Ideal) (φ := .f32) (dynamicRotate 1 64#32 none (extractStridedSlice S8x128 ![o, p'] Y hs') hr') S')) hlt') hh)
      hb x
      = rotated X W cs sn ((Rect.unit (s := S3x384x8x128) ![k, o, q, 0] S1x8x2x128.size inb).emb x) := by
  have h0 : (x 0).val < 1 := (x 0).isLt
  have h2 : (x 2).val < 2 := (x 2).isLt
  rw [pair_apply]
  split
  · next hx =>
    refine head_apply hY hs hr hC hS (x 1) (x 3) _ ?_ ?_ ?_ ?_
    · show k + 1 * (x 0).val = k; omega
    · show o + 1 * (x 1).val = _; omega
    · show 128 * (q + 1 * (x 2).val) = _; omega
    · show 0 + 1 * (x 3).val = _; omega
  · next hx =>
    refine head_apply hY hs' hr' hC' hS' (x 1) (x 3) _ ?_ ?_ ?_ ?_
    · show k + 1 * (x 0).val = k; omega
    · show o + 1 * (x 1).val = _; omega
    · show 128 * (q + 1 * (x 2).val) = _; omega
    · show 0 + 1 * (x 3).val = _; omega

/-- The stored block at `![k, o, q, 0]` of a tile that is not rotated. -/
theorem plain_block (hY : IsTile X W k c Y) {o p p' q : ℕ}
    {hs : S384x512.Slices ![o, p] S8x128} {hs' : S384x512.Slices ![o, p'] S8x128}
    {hl hh : S8x128.ShapeCasts S1x8x1x128}
    {hb : S1x8x2x128.Bitcasts 16 S1x8x1x128 32} {hlt hlt' : FTy.bits .bf16 < FTy.bits .f32}
    (hq : 128 * q = 512 * c + p) (hp : p' = p + 128)
    {inb : ∀ a : Fin 4, ![k, o, q, 0] a + S1x8x2x128.size a ≤ S3x384x8x128.size a} (x : S1x8x2x128.Idx) :
    interleaveRows S1x8x2x128
      (shapeCast S1x8x1x128 (truncf (F := Ideal) .bf16 (φ := .f32) (extractStridedSlice S8x128 ![o, p] Y hs) hlt) hl)
      (shapeCast S1x8x1x128 (truncf (F := Ideal) .bf16 (φ := .f32) (extractStridedSlice S8x128 ![o, p'] Y hs') hlt') hh)
      hb x
      = plain X W ((Rect.unit (s := S3x384x8x128) ![k, o, q, 0] S1x8x2x128.size inb).emb x) := by
  have h0 : (x 0).val < 1 := (x 0).isLt
  have h1 : (x 1).val < 8 := (x 1).isLt
  have h2 : (x 2).val < 2 := (x 2).isLt
  have h3 : (x 3).val < 128 := (x 3).isLt
  have e1 : o + 8 ≤ 384 := hs.2 0
  have e2 : p + 128 ≤ 512 := hs.2 1
  have e2' : p' + 128 ≤ 512 := hs'.2 1
  rw [pair_apply]
  split
  · next hx =>
    refine (extractStridedSlice_apply ![o, p] Y hs _ (ix2 ⟨o + (x 1).val, by omega⟩ ⟨p + (x 3).val, by omega⟩)
      (by intro a; match a with | ⟨0, _⟩ => rfl | ⟨1, _⟩ => rfl)).trans ?_
    refine hY _ _ _ _ ?_ ?_
    · show 384 * (k + 1 * (x 0).val) + (o + 1 * (x 1).val) = 384 * k + (o + (x 1).val); omega
    · show 128 * (q + 1 * (x 2).val) + (0 + 1 * (x 3).val) = 512 * c + (p + (x 3).val); omega
  · next hx =>
    refine (extractStridedSlice_apply ![o, p'] Y hs' _ (ix2 ⟨o + (x 1).val, by omega⟩ ⟨p' + (x 3).val, by omega⟩)
      (by intro a; match a with | ⟨0, _⟩ => rfl | ⟨1, _⟩ => rfl)).trans ?_
    refine hY _ _ _ _ ?_ ?_
    · show 384 * (k + 1 * (x 0).val) + (o + 1 * (x 1).val) = 384 * k + (o + (x 1).val); omega
    · show 128 * (q + 1 * (x 2).val) + (0 + 1 * (x 3).val) = 512 * c + (p' + (x 3).val); omega

end Cert.KernelIdeal.Tile
-- ==== Proof.Pieces.lean ====
/- The blocks the kernel stores and loads, at the rectangles the program names: an offset vector is
   given by its closed form, and what is stored there is the block of the tile's value there. -/
module

public import proofs.«01_k».proof.Proof.Tile
public import Idealize.ShloMosaic.Lib.Exec

@[expose] public section

noncomputable section

namespace Cert.KernelIdeal.Tile

open Idealize.ShloMosaic hiding ix2 ix4
open Idealize.ShloMosaic.ValueIdx

/-- Eight rows loaded from a rotary table are the table's rows there. -/
theorem isTab_readAt {T : S1152x128.Idx → EReal} {v : View sig .tc .vmem S1152x128 .f32} {g : v.ty.Contents (Elt Ideal)}
    (hT : v.read (Elt Ideal) g = T) {o : ℕ} {off f : Fin 2 → ℕ}
    {inb : ∀ a : Fin 2, off a + S8x128.size a ≤ S1152x128.size a}
    (hoff : off = f) (h0 : f 0 = o) (h1 : f 1 = 0) :
    IsTab T o (v.readAt (Elt Ideal) (Rect.unit (s := S1152x128) off S8x128.size inb).toLoadRect g) := by
  subst hoff hT
  intro i d r hr
  refine congrArg (v.read (Elt Ideal) g) (funext fun a => Fin.ext ?_)
  match a with
  | ⟨0, _⟩ => show off 0 + 1 * i.val = r.val; omega
  | ⟨1, _⟩ => show off 1 + 1 * d.val = d.val; omega

/-- 384 rows loaded from the activations are the activations' rows there. -/
theorem isRows_readAt {X : S1152x7168.Idx → EReal} {v : View sig .tc .vmem S1152x7168 .bf16} {g : v.ty.Contents (Elt Ideal)}
    (hX : v.read (Elt Ideal) g = X) {k : ℕ} {off f : Fin 2 → ℕ}
    {inb : ∀ a : Fin 2, off a + S384x7168.size a ≤ S1152x7168.size a}
    (hoff : off = f) (h0 : f 0 = 384 * k) (h1 : f 1 = 0) :
    IsRows X k (v.readAt (Elt Ideal) (Rect.unit (s := S1152x7168) off S384x7168.size inb).toLoadRect g) := by
  subst hoff hX
  intro s j r hr
  refine congrArg (v.read (Elt Ideal) g) (funext fun a => Fin.ext ?_)
  match a with
  | ⟨0, _⟩ => show off 0 + 1 * s.val = r.val; omega
  | ⟨1, _⟩ => show off 1 + 1 * j.val = j.val; omega

/-- The whole weight scratch loaded is what it holds. -/
theorem isCols_readAt {W : S7168x1024.Idx → EReal} {c : ℕ} {v : View sig .tc .vmem S7168x512 .bf16} {g : v.ty.Contents (Elt Ideal)}
    (hW : IsCols W c (v.read (Elt Ideal) g)) {inb : ∀ a : Fin 2, ![0, 0] a + S7168x512.size a ≤ S7168x512.size a} :
    IsCols W c (v.readAt (Elt Ideal) (Rect.unit (s := S7168x512) ![0, 0] S7168x512.size inb).toLoadRect g) := by
  intro j n n' hn
  refine Eq.trans (congrArg (v.read (Elt Ideal) g) (funext fun a => Fin.ext ?_)) (hW j n n' hn)
  match a with
  | ⟨0, _⟩ => show 0 + 1 * j.val = j.val; omega
  | ⟨1, _⟩ => show 0 + 1 * n.val = n.val; omega

section Stores
variable {X : S1152x7168.Idx → EReal} {W : S7168x1024.Idx → EReal} {cs sn : S1152x128.Idx → EReal} {k c : ℕ}
  {Y : S384x512.Idx → EReal}

/-- `rotated_block` at an offset vector given by its closed form. -/
theorem rotated_piece (hY : IsTile X W k c Y) {o p p' : ℕ} {off f : Fin 4 → ℕ}
    {hs : S384x512.Slices ![o, p] S8x128} {hs' : S384x512.Slices ![o, p'] S8x128}
    {hr hr' : S8x128.Rotates 1 none} {hl hh : S8x128.ShapeCasts S1x8x1x128}
    {hb : S1x8x2x128.Bitcasts 16 S1x8x1x128 32} {hlt hlt' : FTy.bits .bf16 < FTy.bits .f32}
    {C S C' S' : S8x128.Idx → EReal}
    {inb : ∀ a : Fin 4, off a + S1x8x2x128.size a ≤ S3x384x8x128.size a} {x : S1x8x2x128.Idx}
    (hoff : off = f) (h0 : f 0 = k) (h1 : f 1 = o) (h2 : 128 * f 2 = 512 * c + p) (h3 : f 3 = 0) (hp : p' = p + 128)
    (hC : IsTab cs (384 * k + o) C) (hS : IsTab sn (384 * k + o) S)
    (hC' : IsTab cs (384 * k + o) C') (hS' : IsTab sn (384 * k + o) S') :
    interleaveRows S1x8x2x128
      (shapeCast S1x8x1x128 (truncf (F := Ideal) .bf16
        (addf (F := Ideal) (φ := .f32) (mulf (F := Ideal) (φ := .f32) (extractStridedSlice S8x128 ![o, p] Y hs) C)
          (mulf (F := Ideal) (φ := .f32) (dynamicRotate 1 64#32 none (extractStridedSlice S8x128 ![o, p] Y hs) hr) S)) hlt) hl)
      (shapeCast S1x8x1x128 (truncf (F := Ideal) .bf16
        (addf (F := Ideal) (φ := .f32) (mulf (F := Ideal) (φ := .f32) (extractStridedSlice S8x128 ![o, p'] Y hs') C')
          (mulf (F := Ideal) (φ := .f32) (dynamicRotate 1 64#32 none (extractStridedSlice S8x128 ![o, p'] Y hs') hr') S')) hlt') hh)
      hb x
      = rotated X W cs sn ((Rect.unit (s := S3x384x8x128) off S1x8x2x128.size inb).emb x) := by
  subst hoff
  obtain ⟨q, hq⟩ : ∃ q, off 2 = q := ⟨_, rfl⟩
  rw [hq] at h2
  obtain rfl : off = ![k, o, q, 0] := by
    funext a
    match a with
    | ⟨0, _⟩ => exact h0
    | ⟨1, _⟩ => exact h1
    | ⟨2, _⟩ => exact hq
    | ⟨3, _⟩ => exact h3
  exact rotated_block hY hC hS hC' hS' h2 hp x

/-- `plain_block` at an offset vector given by its closed form. -/
theorem plain_piece (hY : IsTile X W k c Y) {o p p' : ℕ} {off f : Fin 4 → ℕ}
    {hs : S384x512.Slices ![o, p] S8x128} {hs' : S384x512.Slices ![o, p'] S8x128}
    {hl hh : S8x128.ShapeCasts S1x8x1x128}
    {hb : S1x8x2x128.Bitcasts 16 S1x8x1x128 32} {hlt hlt' : FTy.bits .bf16 < FTy.bits .f32}
    {inb : ∀ a : Fin 4, off a + S1x8x2x128.size a ≤ S3x384x8x128.size a} {x : S1x8x2x128.Idx}
    (hoff : off = f) (h0 : f 0 = k) (h1 : f 1 = o) (h2 : 128 * f 2 = 512 * c + p) (h3 : f 3 = 0) (hp : p' = p + 128) :
    interleaveRows S1x8x2x128
      (shapeCast S1x8x1x128 (truncf (F := Ideal) .bf16 (φ := .f32) (extractStridedSlice S8x128 ![o, p] Y hs) hlt) hl)
      (shapeCast S1x8x1x128 (truncf (F := Ideal) .bf16 (φ := .f32) (extractStridedSlice S8x128 ![o, p'] Y hs') hlt') hh)
      hb x
      = plain X W ((Rect.unit (s := S3x384x8x128) off S1x8x2x128.size inb).emb x) := by
  subst hoff
  obtain ⟨q, hq⟩ : ∃ q, off 2 = q := ⟨_, rfl⟩
  rw [hq] at h2
  obtain rfl : off = ![k, o, q, 0] := by
    funext a
    match a with
    | ⟨0, _⟩ => exact h0
    | ⟨1, _⟩ => exact h1
    | ⟨2, _⟩ => exact hq
    | ⟨3, _⟩ => exact h3
  exact plain_block hY h2 hp x

/-- What is asked of the list of the first `n` blocks one trip stores: each is the block of `G` at its
    rectangle, and block `m` holds row `k`, rows `8*(m/2) … 8*(m/2)+7` and the two heads from column
    `512*c + 256*(m%2)`. -/
structure Blocks (G : S3x384x8x128.Idx → EReal) (k c n : ℕ)
    (L : List (View.Piece (Elt Ideal) S3x384x8x128 .bf16)) : Prop where
  val : ∀ p ∈ L, ∀ x, p.2 x = G (p.1.emb x)
  mem : ∀ m < n, ∀ y : S3x384x8x128.Idx, (y 0).val = k → 8 * (m / 2) ≤ (y 1).val → (y 1).val < 8 * (m / 2) + 8 →
    512 * c + 256 * (m % 2) ≤ 128 * (y 2).val → 128 * (y 2).val < 512 * c + 256 * (m % 2) + 256 → ∃ p ∈ L, y ∈ p.1.set

theorem Blocks.nil {G : S3x384x8x128.Idx → EReal} : Blocks G k c 0 [] :=
  ⟨fun _ h => absurd h List.not_mem_nil, fun _ h => absurd h (Nat.not_lt_zero _)⟩

/-- One stored block in front of a list. -/
theorem Blocks.cons {G : S3x384x8x128.Idx → EReal} {n o p : ℕ} {off f : Fin 4 → ℕ}
    {inb : ∀ a : Fin 4, off a + S1x8x2x128.size a ≤ S3x384x8x128.size a} {v : S1x8x2x128.Idx → EReal}
    {L : List (View.Piece (Elt Ideal) S3x384x8x128 .bf16)} (hoff : off = f) (h0 : f 0 = k) (h1 : f 1 = o)
    (h2 : 128 * f 2 = 512 * c + p) (h3 : f 3 = 0) (ho : o = 8 * (n / 2)) (hp : p = 256 * (n % 2))
    (h : ∀ x, v x = G ((Rect.unit (s := S3x384x8x128) off S1x8x2x128.size inb).emb x)) (hL : Blocks G k c n L) :
    Blocks G k c (n + 1) (⟨Rect.unit (s := S3x384x8x128) off S1x8x2x128.size inb, v⟩ :: L) := by
  subst hoff
  refine ⟨fun q hq => ?_, fun m hm y y0 l1 u1 l2 u2 => ?_⟩
  · rcases List.mem_cons.mp hq with rfl | hq
    · exact h
    · exact hL.val q hq
  · by_cases hmn : m = n
    · refine ⟨_, List.mem_cons_self, ?_⟩
      show y ∈ (Rect.unit (s := S3x384x8x128) off S1x8x2x128.size inb).set
      have y3 : (y 3).val < 128 := (y 3).isLt
      rw [hmn] at l1 u1 l2 u2
      refine Rect.mem_set_unit.mpr fun a => ?_
      match a with
      | ⟨0, _⟩ => show off 0 ≤ (y 0).val ∧ (y 0).val < off 0 + 1; omega
      | ⟨1, _⟩ => show off 1 ≤ (y 1).val ∧ (y 1).val < off 1 + 8; omega
      | ⟨2, _⟩ => show off 2 ≤ (y 2).val ∧ (y 2).val < off 2 + 2; omega
      | ⟨3, _⟩ => show off 3 ≤ (y 3).val ∧ (y 3).val < off 3 + 128; omega
    · obtain ⟨q, hq, hy⟩ := hL.mem m (by omega) y y0 l1 u1 l2 u2
      exact ⟨q, List.mem_cons_of_mem _ hq, hy⟩

/-- `Blocks.cons` at a rotated block. -/
theorem Blocks.rotated_cons (hY : IsTile X W k c Y) {n o p p' : ℕ} {off f : Fin 4 → ℕ}
    {hs : S384x512.Slices ![o, p] S8x128} {hs' : S384x512.Slices ![o, p'] S8x128}
    {hr hr' : S8x128.Rotates 1 none} {hl hh : S8x128.ShapeCasts S1x8x1x128}
    {hb : S1x8x2x128.Bitcasts 16 S1x8x1x128 32} {hlt hlt' : FTy.bits .bf16 < FTy.bits .f32}
    {C D C' D' : S8x128.Idx → EReal}
    {inb : ∀ a : Fin 4, off a + S1x8x2x128.size a ≤ S3x384x8x128.size a}
    {L : List (View.Piece (Elt Ideal) S3x384x8x128 .bf16)}
    (hoff : off = f) (h0 : f 0 = k) (h1 : f 1 = o) (h2 : 128 * f 2 = 512 * c + p) (h3 : f 3 = 0) (hp : p' = p + 128)
    (hC : IsTab cs (384 * k + o) C) (hD : IsTab sn (384 * k + o) D)
    (hC' : IsTab cs (384 * k + o) C') (hD' : IsTab sn (384 * k + o) D')
    (ho : o = 8 * (n / 2)) (hq : p = 256 * (n % 2)) (hL : Blocks (rotated X W cs sn) k c n L) :
    Blocks (rotated X W cs sn) k c (n + 1) (⟨Rect.unit (s := S3x384x8x128) off S1x8x2x128.size inb,
      interleaveRows S1x8x2x128
      (shapeCast S1x8x1x128 (truncf (F := Ideal) .bf16
        (addf (F := Ideal) (φ := .f32) (mulf (F := Ideal) (φ := .f32) (extractStridedSlice S8x128 ![o, p] Y hs) C)
          (mulf (F := Ideal) (φ := .f32) (dynamicRotate 1 64#32 none (extractStridedSlice S8x128 ![o, p] Y hs) hr) D)) hlt) hl)
      (shapeCast S1x8x1x128 (truncf (F := Ideal) .bf16
        (addf (F := Ideal) (φ := .f32) (mulf (F := Ideal) (φ := .f32) (extractStridedSlice S8x128 ![o, p'] Y hs') C')
          (mulf (F := Ideal) (φ := .f32) (dynamicRotate 1 64#32 none (extractStridedSlice S8x128 ![o, p'] Y hs') hr') D')) hlt') hh)
      hb⟩ :: L) :=
  Blocks.cons hoff h0 h1 h2 h3 ho hq (fun _ => rotated_piece hY hoff h0 h1 h2 h3 hp hC hD hC' hD') hL

/-- `Blocks.cons` at a block that is not rotated. -/
theorem Blocks.plain_cons (hY : IsTile X W k c Y) {n o p p' : ℕ} {off f : Fin 4 → ℕ}
    {hs : S384x512.Slices ![o, p] S8x128} {hs' : S384x512.Slices ![o, p'] S8x128}
    {hl hh : S8x128.ShapeCasts S1x8x1x128}
    {hb : S1x8x2x128.Bitcasts 16 S1x8x1x128 32} {hlt hlt' : FTy.bits .bf16 < FTy.bits .f32}
    {inb : ∀ a : Fin 4, off a + S1x8x2x128.size a ≤ S3x384x8x128.size a}
    {L : List (View.Piece (Elt Ideal) S3x384x8x128 .bf16)}
    (hoff : off = f) (h0 : f 0 = k) (h1 : f 1 = o) (h2 : 128 * f 2 = 512 * c + p) (h3 : f 3 = 0) (hp : p' = p + 128)
    (ho : o = 8 * (n / 2)) (hq : p = 256 * (n % 2)) (hL : Blocks (plain X W) k c n L) :
    Blocks (plain X W) k c (n + 1) (⟨Rect.unit (s := S3x384x8x128) off S1x8x2x128.size inb,
      interleaveRows S1x8x2x128
      (shapeCast S1x8x1x128 (truncf (F := Ideal) .bf16 (φ := .f32) (extractStridedSlice S8x128 ![o, p] Y hs) hlt) hl)
      (shapeCast S1x8x1x128 (truncf (F := Ideal) .bf16 (φ := .f32) (extractStridedSlice S8x128 ![o, p'] Y hs') hlt') hh)
      hb⟩ :: L) :=
  Blocks.cons hoff h0 h1 h2 h3 ho hq (fun _ => plain_piece hY hoff h0 h1 h2 h3 hp) hL

end Stores

/-- What is asked of all the blocks one loop stores: each is the block of `G` at its rectangle, and
    together they fill heads `4*c … 4*c+3`. -/
def Fills (G : S3x384x8x128.Idx → EReal) (c : ℕ) (L : List (View.Piece (Elt Ideal) S3x384x8x128 .bf16)) : Prop :=
  (∀ p ∈ L, ∀ x, p.2 x = G (p.1.emb x)) ∧
    ∀ y : S3x384x8x128.Idx, 4 * c ≤ (y 2).val → (y 2).val < 4 * c + 4 → ∃ p ∈ L, y ∈ p.1.set

/-- Three trips that each store the 96 blocks of their row fill the four heads. -/
theorem fills_of_trips {G : S3x384x8x128.Idx → EReal} {c n : ℕ} (hn : n = 3)
    {pb : ℕ → List (View.Piece (Elt Ideal) S3x384x8x128 .bf16)}
    {T : Fin n → List (View.Piece (Elt Ideal) S3x384x8x128 .bf16)} (h0 : pb 0 = [])
    (hs : ∀ k : Fin n, pb (k.val + 1) = T k ++ pb k.val)
    (hT : ∀ k : Fin n, Blocks G k.val c 96 (T k)) :
    Fills G c (pb n) := by
  have hval : ∀ m, m ≤ n → ∀ p ∈ pb m, ∀ x, p.2 x = G (p.1.emb x) := by
    intro m
    induction m with
    | zero => intro _ p hp; rw [h0] at hp; exact absurd hp List.not_mem_nil
    | succ m ih =>
      intro hm p hp
      rw [hs ⟨m, hm⟩] at hp
      exact (List.mem_append.mp hp).elim ((hT ⟨m, hm⟩).val p) (ih (by omega) p)
  have hmem : ∀ m, m ≤ n → ∀ k : Fin n, k.val < m → ∀ p ∈ T k, p ∈ pb m := by
    intro m
    induction m with
    | zero => intro _ k hk; omega
    | succ m ih =>
      intro hm k hk p hp
      rw [hs ⟨m, hm⟩]
      by_cases hkm : k.val = m
      · obtain rfl : k = ⟨m, hm⟩ := Fin.ext hkm
        exact List.mem_append_left _ hp
      · exact List.mem_append_right _ (ih (by omega) k (by omega) p hp)
  refine ⟨hval n le_rfl, fun y hl hu => ?_⟩
  have y0 : (y 0).val < 3 := (y 0).isLt
  have y1 : (y 1).val < 384 := (y 1).isLt
  obtain ⟨p, hp, hy⟩ := (hT ⟨(y 0).val, by omega⟩).mem (2 * ((y 1).val / 8) + ((y 2).val - 4 * c) / 2)
    (by omega) y rfl (by omega) (by omega) (by omega) (by omega)
  exact ⟨p, hmem n le_rfl _ (by show (y 0).val < n; omega) p hp, hy⟩

/-- What the two loops' blocks leave in the output block, whatever it held. -/
theorem read_fills {G : S3x384x8x128.Idx → EReal} {L₁ L₀ : List (View.Piece (Elt Ideal) S3x384x8x128 .bf16)}
    (h₁ : Fills G 1 L₁) (h₀ : Fills G 0 L₀) (v : View sig .tc .vmem S3x384x8x128 .bf16) (f : v.ty.Contents (Elt Ideal)) :
    v.read (Elt Ideal) (v.writes (Elt Ideal) f (L₁ ++ L₀)) = G := by
  funext y
  refine View.read_writes_apply_of_pieces v f G _ (fun p hp => (List.mem_append.mp hp).elim (h₁.1 p) (h₀.1 p)) y ?_
  have y2 : (y 2).val < 8 := (y 2).isLt
  by_cases h : (y 2).val < 4
  · obtain ⟨p, hp, hy⟩ := h₀.2 y (by omega) (by omega)
    exact ⟨p, List.mem_append_right _ hp, hy⟩
  · obtain ⟨p, hp, hy⟩ := h₁.2 y (by omega) (by omega)
    exact ⟨p, List.mem_append_left _ hp, hy⟩

end Cert.KernelIdeal.Tile
-- ==== Proof.Trips.lean ====
/- What each of the six loops of the body stores. A loop's trip multiplies one chunk of 384 rows of the
   activations by the 512 columns in the weight scratch and stores the product in blocks of eight rows
   and two heads; the first loop of a pair stores heads 0–3 and the second heads 4–7. -/
module

public import proofs.«01_k».proof.Proof.Gen.KernelIdeal.Loops
public import proofs.«01_k».proof.Proof.Pieces

@[expose] public section

set_option maxRecDepth 16384

noncomputable section

namespace Cert.KernelIdeal.Body
open Cert.KernelIdeal.Gen
open Idealize.ShloMosaic Idealize.ShloMosaic.TcCoe

variable {𝒱 : Variants} {c : Dev nD} {bd : Option 𝒱.V} {i : grid0.Coords} {arg1 : Memref sig .tc .vmem S1152x7168 .bf16} {harg1 : arg1.IsWhole} {arg2 : Memref sig .tc .vmem S7168x1024 .fp8e4m3} {harg2 : arg2.IsWhole} {arg3 : Memref sig .tc .smem S56x80 .f32} {harg3 : arg3.IsWhole} {arg4 : Memref sig .tc .vmem S1152x128 .f32} {harg4 : arg4.IsWhole} {arg5 : Memref sig .tc .vmem S1152x128 .f32} {harg5 : arg5.IsWhole} {arg6 : Memref sig .tc .vmem S3x384x8x128 .bf16} {harg6 : arg6.IsWhole} {arg7 : Memref sig .tc .vmem S3x384x8x128 .bf16} {harg7 : arg7.IsWhole} {arg8 : Memref sig .tc .vmem S3x384x8x128 .bf16} {harg8 : arg8.IsWhole} {arg9 : Memref sig .tc .vmem S7168x512 .bf16} {harg9 : arg9.IsWhole}
  {X1 : BufTy.Contents (Elt Ideal) arg1.view.ty} {X4 : BufTy.Contents (Elt Ideal) arg4.view.ty} {X5 : BufTy.Contents (Elt Ideal) arg5.view.ty} {X9 : BufTy.Contents (Elt Ideal) arg9.view.ty}
  {X : S1152x7168.Idx → EReal} {W : S7168x1024.Idx → EReal} {cs sn : S1152x128.Idx → EReal}

/-- The first query loop fills heads 0–3 of its block with the tile's values. -/
theorem fills_t1 {a0 : BitVec 32} {k0_h1 : k0_cond1 i = 1#1} {w1 : FVec Ideal S128x128 .f32} {w2 : FVec Ideal S128x128 .bf16}
    (hX : arg1.view.read (Elt Ideal) X1 = X) (hcs : arg4.view.read (Elt Ideal) X4 = cs) (hsn : arg5.view.read (Elt Ideal) X5 = sn)
    (hW : Tile.IsCols W 0 (arg9.view.read (Elt Ideal) X9)) :
    Tile.Fills (Tile.rotated X W cs sn) 0 (pb_k0_t1 (F := Ideal) 𝒱 c bd i arg1 harg1 arg2 harg2 arg3 harg3 arg4 harg4 arg5 harg5 arg6 harg6 arg7 harg7 arg8 harg8 arg9 harg9 a0 k0_h1 w1 w2 X1 X4 X5 X9 k0_t1_loop.trips) := by
  refine Tile.fills_of_trips (T := tripL_k0_t1 (F := Ideal) 𝒱 c bd i arg1 harg1 arg2 harg2 arg3 harg3 arg4 harg4 arg5 harg5 arg6 harg6 arg7 harg7 arg8 harg8 arg9 harg9 a0 k0_h1 w1 w2 X1 X4 X5 X9) (by decide) rfl
    (fun k => pb_k0_t1_succ (F := Ideal) 𝒱 c bd i arg1 harg1 arg2 harg2 arg3 harg3 arg4 harg4 arg5 harg5 arg6 harg6 arg7 harg7 arg8 harg8 arg9 harg9 a0 k0_h1 w1 w2 X1 X4 X5 X9 k) (fun k => ?_)
  have hY : Tile.IsTile X W k.val 0 _ := Tile.isTile_matmul
      (Tile.isRows_readAt (off := k0_off57 k) (inb := k0_off57_inb i k k0_h1) hX ClosedOff.eq rfl rfl)
      (Tile.isCols_readAt (inb := inb_S7168x512_S7168x512_0_0) hW)
  unfold tripL_k0_t1 trip_k0_t1
  repeat'
      refine Tile.Blocks.rotated_cons (hs := by decide) (hs' := by decide) (hr := rotates_S8x128_d1) (hr' := rotates_S8x128_d1)
          (hl := shapeCasts_S8x128_S1x8x1x128) (hh := shapeCasts_S8x128_S1x8x1x128) (hlt := bitsLt_bf16_f32) (hlt' := bitsLt_bf16_f32)
          (hb := bitcasts_S1x8x2x128_w16_S1x8x1x128_w32) hY ClosedOff.eq rfl rfl rfl rfl rfl (Tile.isTab_readAt hcs ClosedOff.eq rfl rfl)
          (Tile.isTab_readAt hsn ClosedOff.eq rfl rfl) (Tile.isTab_readAt hcs ClosedOff.eq rfl rfl) (Tile.isTab_readAt hsn ClosedOff.eq rfl rfl) rfl rfl ?_
  exact Tile.Blocks.nil

/-- The second query loop fills heads 4–7 of its block with the tile's values. -/
theorem fills_t2 {k0_h1 : k0_cond1 i = 1#1}
    (hX : arg1.view.read (Elt Ideal) X1 = X) (hcs : arg4.view.read (Elt Ideal) X4 = cs) (hsn : arg5.view.read (Elt Ideal) X5 = sn)
    (hW : Tile.IsCols W 1 (arg9.view.read (Elt Ideal) X9)) :
    Tile.Fills (Tile.rotated X W cs sn) 1 (pb_k0_t2 (F := Ideal) 𝒱 c bd i arg1 harg1 arg2 harg2 arg3 harg3 arg4 harg4 arg5 harg5 arg6 harg6 arg7 harg7 arg8 harg8 arg9 harg9 k0_h1 X1 X4 X5 X9 k0_t2_loop.trips) := by
  refine Tile.fills_of_trips (T := tripL_k0_t2 (F := Ideal) 𝒱 c bd i arg1 harg1 arg2 harg2 arg3 harg3 arg4 harg4 arg5 harg5 arg6 harg6 arg7 harg7 arg8 harg8 arg9 harg9 k0_h1 X1 X4 X5 X9) (by decide) rfl
    (fun k => pb_k0_t2_succ (F := Ideal) 𝒱 c bd i arg1 harg1 arg2 harg2 arg3 harg3 arg4 harg4 arg5 harg5 arg6 harg6 arg7 harg7 arg8 harg8 arg9 harg9 k0_h1 X1 X4 X5 X9 k) (fun k => ?_)
  have hY : Tile.IsTile X W k.val 1 _ := Tile.isTile_matmul
      (Tile.isRows_readAt (off := k0_off155 k) (inb := k0_off155_inb i k k0_h1) hX ClosedOff.eq rfl rfl)
      (Tile.isCols_readAt (inb := inb_S7168x512_S7168x512_0_0) hW)
  unfold tripL_k0_t2 trip_k0_t2
  repeat'
      refine Tile.Blocks.rotated_cons (hs := by decide) (hs' := by decide) (hr := rotates_S8x128_d1) (hr' := rotates_S8x128_d1)
          (hl := shapeCasts_S8x128_S1x8x1x128) (hh := shapeCasts_S8x128_S1x8x1x128) (hlt := bitsLt_bf16_f32) (hlt' := bitsLt_bf16_f32)
          (hb := bitcasts_S1x8x2x128_w16_S1x8x1x128_w32) hY ClosedOff.eq rfl rfl rfl rfl rfl (Tile.isTab_readAt hcs ClosedOff.eq rfl rfl)
          (Tile.isTab_readAt hsn ClosedOff.eq rfl rfl) (Tile.isTab_readAt hcs ClosedOff.eq rfl rfl) (Tile.isTab_readAt hsn ClosedOff.eq rfl rfl) rfl rfl ?_
  exact Tile.Blocks.nil

/-- The first key loop fills heads 0–3 of its block with the tile's values. -/
theorem fills_t3 {a0 : BitVec 32} {k0_h2 : k0_cond2 i = 1#1} {w1 : FVec Ideal S128x128 .f32} {w2 : FVec Ideal S128x128 .bf16}
    (hX : arg1.view.read (Elt Ideal) X1 = X) (hcs : arg4.view.read (Elt Ideal) X4 = cs) (hsn : arg5.view.read (Elt Ideal) X5 = sn)
    (hW : Tile.IsCols W 0 (arg9.view.read (Elt Ideal) X9)) :
    Tile.Fills (Tile.rotated X W cs sn) 0 (pb_k0_t3 (F := Ideal) 𝒱 c bd i arg1 harg1 arg2 harg2 arg3 harg3 arg4 harg4 arg5 harg5 arg6 harg6 arg7 harg7 arg8 harg8 arg9 harg9 a0 k0_h2 w1 w2 X1 X4 X5 X9 k0_t3_loop.trips) := by
  refine Tile.fills_of_trips (T := tripL_k0_t3 (F := Ideal) 𝒱 c bd i arg1 harg1 arg2 harg2 arg3 harg3 arg4 harg4 arg5 harg5 arg6 harg6 arg7 harg7 arg8 harg8 arg9 harg9 a0 k0_h2 w1 w2 X1 X4 X5 X9) (by decide) rfl
    (fun k => pb_k0_t3_succ (F := Ideal) 𝒱 c bd i arg1 harg1 arg2 harg2 arg3 harg3 arg4 harg4 arg5 harg5 arg6 harg6 arg7 harg7 arg8 harg8 arg9 harg9 a0 k0_h2 w1 w2 X1 X4 X5 X9 k) (fun k => ?_)
  have hY : Tile.IsTile X W k.val 0 _ := Tile.isTile_matmul
      (Tile.isRows_readAt (off := k0_off309 k) (inb := k0_off309_inb i k k0_h2) hX ClosedOff.eq rfl rfl)
      (Tile.isCols_readAt (inb := inb_S7168x512_S7168x512_0_0) hW)
  unfold tripL_k0_t3 trip_k0_t3
  repeat'
      refine Tile.Blocks.rotated_cons (hs := by decide) (hs' := by decide) (hr := rotates_S8x128_d1) (hr' := rotates_S8x128_d1)
          (hl := shapeCasts_S8x128_S1x8x1x128) (hh := shapeCasts_S8x128_S1x8x1x128) (hlt := bitsLt_bf16_f32) (hlt' := bitsLt_bf16_f32)
          (hb := bitcasts_S1x8x2x128_w16_S1x8x1x128_w32) hY ClosedOff.eq rfl rfl rfl rfl rfl (Tile.isTab_readAt hcs ClosedOff.eq rfl rfl)
          (Tile.isTab_readAt hsn ClosedOff.eq rfl rfl) (Tile.isTab_readAt hcs ClosedOff.eq rfl rfl) (Tile.isTab_readAt hsn ClosedOff.eq rfl rfl) rfl rfl ?_
  exact Tile.Blocks.nil

/-- The second key loop fills heads 4–7 of its block with the tile's values. -/
theorem fills_t4 {k0_h2 : k0_cond2 i = 1#1}
    (hX : arg1.view.read (Elt Ideal) X1 = X) (hcs : arg4.view.read (Elt Ideal) X4 = cs) (hsn : arg5.view.read (Elt Ideal) X5 = sn)
    (hW : Tile.IsCols W 1 (arg9.view.read (Elt Ideal) X9)) :
    Tile.Fills (Tile.rotated X W cs sn) 1 (pb_k0_t4 (F := Ideal) 𝒱 c bd i arg1 harg1 arg2 harg2 arg3 harg3 arg4 harg4 arg5 harg5 arg6 harg6 arg7 harg7 arg8 harg8 arg9 harg9 k0_h2 X1 X4 X5 X9 k0_t4_loop.trips) := by
  refine Tile.fills_of_trips (T := tripL_k0_t4 (F := Ideal) 𝒱 c bd i arg1 harg1 arg2 harg2 arg3 harg3 arg4 harg4 arg5 harg5 arg6 harg6 arg7 harg7 arg8 harg8 arg9 harg9 k0_h2 X1 X4 X5 X9) (by decide) rfl
    (fun k => pb_k0_t4_succ (F := Ideal) 𝒱 c bd i arg1 harg1 arg2 harg2 arg3 harg3 arg4 harg4 arg5 harg5 arg6 harg6 arg7 harg7 arg8 harg8 arg9 harg9 k0_h2 X1 X4 X5 X9 k) (fun k => ?_)
  have hY : Tile.IsTile X W k.val 1 _ := Tile.isTile_matmul
      (Tile.isRows_readAt (off := k0_off407 k) (inb := k0_off407_inb i k k0_h2) hX ClosedOff.eq rfl rfl)
      (Tile.isCols_readAt (inb := inb_S7168x512_S7168x512_0_0) hW)
  unfold tripL_k0_t4 trip_k0_t4
  repeat'
      refine Tile.Blocks.rotated_cons (hs := by decide) (hs' := by decide) (hr := rotates_S8x128_d1) (hr' := rotates_S8x128_d1)
          (hl := shapeCasts_S8x128_S1x8x1x128) (hh := shapeCasts_S8x128_S1x8x1x128) (hlt := bitsLt_bf16_f32) (hlt' := bitsLt_bf16_f32)
          (hb := bitcasts_S1x8x2x128_w16_S1x8x1x128_w32) hY ClosedOff.eq rfl rfl rfl rfl rfl (Tile.isTab_readAt hcs ClosedOff.eq rfl rfl)
          (Tile.isTab_readAt hsn ClosedOff.eq rfl rfl) (Tile.isTab_readAt hcs ClosedOff.eq rfl rfl) (Tile.isTab_readAt hsn ClosedOff.eq rfl rfl) rfl rfl ?_
  exact Tile.Blocks.nil

/-- The first value loop fills heads 0–3 of its block with the tile's values. -/
theorem fills_t5 {a0 : BitVec 32} {k0_h3 : k0_cond3 i = 1#1} {w1 : FVec Ideal S128x128 .f32} {w2 : FVec Ideal S128x128 .bf16}
    (hX : arg1.view.read (Elt Ideal) X1 = X)
    (hW : Tile.IsCols W 0 (arg9.view.read (Elt Ideal) X9)) :
    Tile.Fills (Tile.plain X W) 0 (pb_k0_t5 (F := Ideal) 𝒱 c bd i arg1 harg1 arg2 harg2 arg3 harg3 arg4 harg4 arg5 harg5 arg6 harg6 arg7 harg7 arg8 harg8 arg9 harg9 a0 k0_h3 w1 w2 X1 X9 k0_t5_loop.trips) := by
  refine Tile.fills_of_trips (T := tripL_k0_t5 (F := Ideal) 𝒱 c bd i arg1 harg1 arg2 harg2 arg3 harg3 arg4 harg4 arg5 harg5 arg6 harg6 arg7 harg7 arg8 harg8 arg9 harg9 a0 k0_h3 w1 w2 X1 X9) (by decide) rfl
    (fun k => pb_k0_t5_succ (F := Ideal) 𝒱 c bd i arg1 harg1 arg2 harg2 arg3 harg3 arg4 harg4 arg5 harg5 arg6 harg6 arg7 harg7 arg8 harg8 arg9 harg9 a0 k0_h3 w1 w2 X1 X9 k) (fun k => ?_)
  have hY : Tile.IsTile X W k.val 0 _ := Tile.isTile_matmul
      (Tile.isRows_readAt (off := k0_off561 k) (inb := k0_off561_inb i k k0_h3) hX ClosedOff.eq rfl rfl)
      (Tile.isCols_readAt (inb := inb_S7168x512_S7168x512_0_0) hW)
  unfold tripL_k0_t5 trip_k0_t5
  repeat'
      refine Tile.Blocks.plain_cons (hs := by decide) (hs' := by decide)
          (hl := shapeCasts_S8x128_S1x8x1x128) (hh := shapeCasts_S8x128_S1x8x1x128) (hlt := bitsLt_bf16_f32) (hlt' := bitsLt_bf16_f32)
          (hb := bitcasts_S1x8x2x128_w16_S1x8x1x128_w32) hY ClosedOff.eq rfl rfl rfl rfl rfl rfl rfl ?_
  exact Tile.Blocks.nil

/-- The second value loop fills heads 4–7 of its block with the tile's values. -/
theorem fills_t6 {k0_h3 : k0_cond3 i = 1#1}
    (hX : arg1.view.read (Elt Ideal) X1 = X)
    (hW : Tile.IsCols W 1 (arg9.view.read (Elt Ideal) X9)) :
    Tile.Fills (Tile.plain X W) 1 (pb_k0_t6 (F := Ideal) 𝒱 c bd i arg1 harg1 arg2 harg2 arg3 harg3 arg4 harg4 arg5 harg5 arg6 harg6 arg7 harg7 arg8 harg8 arg9 harg9 k0_h3 X1 X9 k0_t6_loop.trips) := by
  refine Tile.fills_of_trips (T := tripL_k0_t6 (F := Ideal) 𝒱 c bd i arg1 harg1 arg2 harg2 arg3 harg3 arg4 harg4 arg5 harg5 arg6 harg6 arg7 harg7 arg8 harg8 arg9 harg9 k0_h3 X1 X9) (by decide) rfl
    (fun k => pb_k0_t6_succ (F := Ideal) 𝒱 c bd i arg1 harg1 arg2 harg2 arg3 harg3 arg4 harg4 arg5 harg5 arg6 harg6 arg7 harg7 arg8 harg8 arg9 harg9 k0_h3 X1 X9 k) (fun k => ?_)
  have hY : Tile.IsTile X W k.val 1 _ := Tile.isTile_matmul
      (Tile.isRows_readAt (off := k0_off658 k) (inb := k0_off658_inb i k k0_h3) hX ClosedOff.eq rfl rfl)
      (Tile.isCols_readAt (inb := inb_S7168x512_S7168x512_0_0) hW)
  unfold tripL_k0_t6 trip_k0_t6
  repeat'
      refine Tile.Blocks.plain_cons (hs := by decide) (hs' := by decide)
          (hl := shapeCasts_S8x128_S1x8x1x128) (hh := shapeCasts_S8x128_S1x8x1x128) (hlt := bitsLt_bf16_f32) (hlt' := bitsLt_bf16_f32)
          (hb := bitcasts_S1x8x2x128_w16_S1x8x1x128_w32) hY ClosedOff.eq rfl rfl rfl rfl rfl rfl rfl ?_
  exact Tile.Blocks.nil

end Cert.KernelIdeal.Body
-- ==== Proof.Weights.lean ====
/- The weight scratch: 128×128 blocks of the fp8 weights, each times its scale, written one after the
   other over whatever the scratch held. -/
module

public import proofs.«01_k».proof.Proof.Pieces

@[expose] public section

noncomputable section

namespace Cert.KernelIdeal.Tile

open Idealize.ShloMosaic hiding ix2 ix4
open Idealize.ShloMosaic.ValueIdx

/-- Tile `t`'s 1024 columns of the dequantised weights: each element times the scale of its 128×128 block. -/
def tileW (w : S7168x1024.Idx → EReal) (s : S56x80.Idx → EReal) (t : Fin 10) (y : S7168x1024.Idx) : EReal :=
  w y * s (ix2 ⟨(y 0).val / 128, by have : (y 0).val < 7168 := (y 0).isLt; omega⟩
    ⟨8 * t.val + (y 1).val / 128, by have : (y 1).val < 1024 := (y 1).isLt; omega⟩)

/-- `A` is the block of `w` at `(o, q)`. -/
def IsBlock (w : S7168x1024.Idx → EReal) (o q : ℕ) (A : S128x128.Idx → EReal) : Prop :=
  ∀ (a b : Fin 128) (a' : Fin 7168) (b' : Fin 1024), a'.val = o + a.val → b'.val = q + b.val → A (ix2 a b) = w (ix2 a' b')

/-- `x` is the scale at `(g, j)`. -/
def IsScale (s : S56x80.Idx → EReal) (g j : ℕ) (x : EReal) : Prop :=
  ∀ (g' : Fin 56) (j' : Fin 80), g'.val = g → j'.val = j → x = s (ix2 g' j')

/-- A 128×128 block loaded from the weight tile is the tile's block there. -/
theorem isBlock_readAt {w : S7168x1024.Idx → EReal} {v : View sig .tc .vmem S7168x1024 .fp8e4m3} {f : v.ty.Contents (Elt Ideal)}
    (hw : v.read (Elt Ideal) f = w) {o q : ℕ} {inb : ∀ a : Fin 2, ![o, q] a + S128x128.size a ≤ S7168x1024.size a} :
    IsBlock w o q (v.readAt (Elt Ideal) (Rect.unit (s := S7168x1024) ![o, q] S128x128.size inb).toLoadRect f) := by
  subst hw
  intro a b a' b' ha hb
  refine congrArg (v.read (Elt Ideal) f) (funext fun d => Fin.ext ?_)
  match d with
  | ⟨0, _⟩ => show o + 1 * a.val = a'.val; omega
  | ⟨1, _⟩ => show q + 1 * b.val = b'.val; omega

/-- One scale loaded is the table's scale there. -/
theorem isScale_readAt {s : S56x80.Idx → EReal} {v : View sig .tc .smem S56x80 .f32} {f : v.ty.Contents (Elt Ideal)}
    (hs : v.read (Elt Ideal) f = s) {g j : ℕ} {off h : Fin 2 → ℕ}
    {inb : ∀ a : Fin 2, off a + S1x1.size a ≤ S56x80.size a} {x : S1x1.Idx}
    (hoff : off = h) (h0 : h 0 = g) (h1 : h 1 = j) :
    IsScale s g j (v.readAt (Elt Ideal) (Rect.unit (s := S56x80) off S1x1.size inb).toLoadRect f x) := by
  subst hoff hs
  intro g' j' hg hj
  have x0 : (x 0).val < 1 := (x 0).isLt
  have x1 : (x 1).val < 1 := (x 1).isLt
  refine congrArg (v.read (Elt Ideal) f) (funext fun d => Fin.ext ?_)
  match d with
  | ⟨0, _⟩ => show off 0 + 1 * (x 0).val = g'.val; omega
  | ⟨1, _⟩ => show off 1 + 1 * (x 1).val = j'.val; omega

/-- After the first `n` blocks of columns `512*c …` the scratch holds the dequantised weights there,
    whatever was written before: block `m` holds rows `128*(m/4) …` and columns `128*(m%4) …`. -/
def Dequantised (W : S7168x1024.Idx → EReal) (c n : ℕ) (L : List (View.Piece (Elt Ideal) S7168x512 .bf16)) : Prop :=
  ∀ (v : View sig .tc .vmem S7168x512 .bf16) (f : v.ty.Contents (Elt Ideal)),
    ∀ m < n, ∀ (j : Fin 7168) (l : Fin 512) (l' : Fin 1024), l'.val = 512 * c + l.val →
      j.val / 128 = m / 4 → l.val / 128 = m % 4 → v.read (Elt Ideal) (v.writes (Elt Ideal) f L) (ix2 j l) = W (ix2 j l')

theorem Dequantised.nil {W : S7168x1024.Idx → EReal} {c : ℕ} {L : List (View.Piece (Elt Ideal) S7168x512 .bf16)} :
    Dequantised W c 0 L := fun _ _ _ h => absurd h (Nat.not_lt_zero _)

/-- One more block: its product with its scale, over the blocks before. -/
theorem Dequantised.cons {w : S7168x1024.Idx → EReal} {s : S56x80.Idx → EReal} {t : Fin 10} {c n o p q g j : ℕ}
    {A : S128x128.Idx → EReal} {x : EReal} {hc : S128x128.ShapeCasts S128x128}
    {hlt : FTy.bits .fp8e4m3 < FTy.bits .bf16} {hlt' : FTy.bits .bf16 < FTy.bits .f32}
    {inb : ∀ a : Fin 2, ![o, p] a + S128x128.size a ≤ S7168x512.size a}
    {L : List (View.Piece (Elt Ideal) S7168x512 .bf16)}
    (hA : IsBlock w o q A) (hx : IsScale s g (8 * t.val + 4 * c + j) x) (hg : o = 128 * g) (hq : q = 512 * c + p) (hj : p = 128 * j)
    (ho : o = 128 * (n / 4)) (hp : p = 128 * (n % 4)) (hL : Dequantised (tileW w s t) c n L) :
    Dequantised (tileW w s t) c (n + 1) (⟨Rect.unit (s := S7168x512) ![o, p] S128x128.size inb,
      shapeCast S128x128 (mulf (F := Ideal) (φ := .bf16) (extf (F := Ideal) (φ := .fp8e4m3) .bf16 A hlt)
        (truncf (F := Ideal) .bf16 (φ := .f32) (broadcast S128x128 x) hlt')) hc⟩ :: L) := by
  intro v f m hm a l l' hl hma hml
  by_cases hmn : m = n
  · subst hmn
    refine (View.read_writes_cons_hit_of_coords v f _ _ L
      (ix2 ⟨a.val - o, by omega⟩ ⟨l.val - p, by omega⟩ : S128x128.Idx) _ fun d => ?_).trans ?_
    · match d with
      | ⟨0, _⟩ => show a.val = o + 1 * (a.val - o); omega
      | ⟨1, _⟩ => show l.val = p + 1 * (l.val - p); omega
    · refine (shapeCast_apply _ hc (ix2 ⟨a.val - o, by omega⟩ ⟨l.val - p, by omega⟩) _ rfl).trans ?_
      refine (congrArg₂ (· * ·) (hA _ _ a l' (by show a.val = o + (a.val - o); omega) (by show l'.val = q + (l.val - p); omega))
        (hx ⟨a.val / 128, by omega⟩ ⟨8 * t.val + l'.val / 128, by omega⟩ (by show a.val / 128 = g; omega)
          (by show 8 * t.val + l'.val / 128 = 8 * t.val + 4 * c + j; omega))).trans rfl
  · refine (View.read_writes_cons_miss v f _ L _ fun hy => ?_).trans (hL v f m (by omega) a l l' hl hma hml)
    have h0 : o ≤ a.val ∧ a.val < o + 128 := (Rect.mem_set_unit (inb := inb)).mp hy 0
    have h1 : p ≤ l.val ∧ l.val < p + 128 := (Rect.mem_set_unit (inb := inb)).mp hy 1
    omega

/-- With all 224 blocks written the scratch holds its 512 columns. -/
theorem Dequantised.isCols {W : S7168x1024.Idx → EReal} {c : ℕ} {L : List (View.Piece (Elt Ideal) S7168x512 .bf16)}
    (h : Dequantised W c 224 L) (v : View sig .tc .vmem S7168x512 .bf16) (f : v.ty.Contents (Elt Ideal)) :
    IsCols W c (v.read (Elt Ideal) (v.writes (Elt Ideal) f L)) := fun j l l' hl =>
  h v f (4 * (j.val / 128) + l.val / 128) (by omega) j l l' hl (by omega) (by omega)

end Cert.KernelIdeal.Tile
-- ==== Proof.RunA.lean ====
/- The run of the whole body at a grid point of the query columns. -/
module

public import proofs.«01_k».proof.Proof.Points
public import proofs.«01_k».proof.Proof.Trips
public import proofs.«01_k».proof.Proof.Weights

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 17676000 in
/-- On whole staging buffers holding the activations `x0`, the weight tile `x1`, the scales `x2` and the
    rotary tables `x3`, `x4`, the body at a point of the query columns leaves the tile's values in the
    query block, and every other block as it was. -/
theorem runA (c : Dev nD) (i : grid0.Coords) (arg1 : Memref sig .tc .vmem S1152x7168 .bf16) (harg1 : arg1.IsWhole) (arg2 : Memref sig .tc .vmem S7168x1024 .fp8e4m3) (harg2 : arg2.IsWhole) (arg3 : Memref sig .tc .smem S56x80 .f32) (harg3 : arg3.IsWhole) (arg4 : Memref sig .tc .vmem S1152x128 .f32) (harg4 : arg4.IsWhole) (arg5 : Memref sig .tc .vmem S1152x128 .f32) (harg5 : arg5.IsWhole) (arg6 : Memref sig .tc .vmem S3x384x8x128 .bf16) (harg6 : arg6.IsWhole) (arg7 : Memref sig .tc .vmem S3x384x8x128 .bf16) (harg7 : arg7.IsWhole) (arg8 : Memref sig .tc .vmem S3x384x8x128 .bf16) (harg8 : arg8.IsWhole) (arg9 : Memref sig .tc .vmem S7168x512 .bf16) (harg9 : arg9.IsWhole) (hc0 : cond0_0 i) (hc1 : ¬cond0_1 i) (hc2 : ¬cond0_2 i)
    (x0 : Vec Ideal S1152x7168 .bf16) (x1 : Vec Ideal S7168x1024 .fp8e4m3) (x2 : Vec Ideal S56x80 .f32) (x3 : Vec Ideal S1152x128 .f32) (x4 : Vec Ideal S1152x128 .f32)
    (y6 y7 : Vec Ideal S3x384x8x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (Tile.rotated x0 (Tile.tileW x1 x2 (i 0)) x3 x4) ∗ owns (c : Thread nD τ) arg7 fullShare y6 ∗ owns (c : Thread nD τ) arg8 fullShare y7 ∗ (∃ d, owns (c : Thread nD τ) arg9 fullShare d)) -∗ K ⟨⟩))
          ⊢ wp frame (wpE (defs₀ (F := Ideal)) Variants.none c none) E (cc0_proj i arg1 harg1 arg2 harg2 arg3 harg3 arg4 harg4 arg5 harg5 arg6 harg6 arg7 harg7 arg8 harg8 arg9 harg9) K := by
    intro E K
    simp only [cc0_proj_eq_skeleton]; unfold cc0_proj_skel
    simp only [
    k0_part305_eq_skeleton, k0_part141_eq_skeleton, k0_part142_eq_skeleton, k0_part143_eq_skeleton,
    k0_part144_eq_skeleton, k0_part145_eq_skeleton, k0_part146_eq_skeleton, k0_part147_eq_skeleton,
    k0_part148_eq_skeleton, k0_part149_eq_skeleton, k0_part150_eq_skeleton, k0_part151_eq_skeleton,
    k0_part152_eq_skeleton, k0_part153_eq_skeleton, k0_part154_eq_skeleton, k0_part155_eq_skeleton,
    k0_part156_eq_skeleton, k0_part157_eq_skeleton, k0_part158_eq_skeleton, k0_part159_eq_skeleton,
    k0_part160_eq_skeleton, k0_part161_eq_skeleton, k0_part162_eq_skeleton, k0_part163_eq_skeleton,
    k0_part164_eq_skeleton, k0_part165_eq_skeleton, k0_part166_eq_skeleton, k0_part167_eq_skeleton,
    k0_part168_eq_skeleton, k0_part169_eq_skeleton, k0_part170_eq_skeleton, k0_part171_eq_skeleton,
    k0_part172_eq_skeleton, k0_part173_eq_skeleton, k0_part174_eq_skeleton, k0_part175_eq_skeleton,
    k0_part176_eq_skeleton, k0_part177_eq_skeleton, k0_part178_eq_skeleton, k0_part179_eq_skeleton,
    k0_part180_eq_skeleton, k0_part181_eq_skeleton, k0_part182_eq_skeleton, k0_part183_eq_skeleton,
    k0_part184_eq_skeleton, k0_part185_eq_skeleton, k0_part186_eq_skeleton, k0_part187_eq_skeleton,
    k0_part188_eq_skeleton, k0_part189_eq_skeleton, k0_part190_eq_skeleton, k0_part191_eq_skeleton,
    k0_part192_eq_skeleton, k0_part193_eq_skeleton, k0_part194_eq_skeleton, k0_part195_eq_skeleton,
    k0_part196_eq_skeleton, k0_part197_eq_skeleton, k0_part198_eq_skeleton, k0_part199_eq_skeleton,
    k0_part200_eq_skeleton, k0_part306_eq_skeleton, k0_part201_eq_skeleton, k0_part202_eq_skeleton,
    k0_part203_eq_skeleton, k0_part204_eq_skeleton, k0_part205_eq_skeleton, k0_part206_eq_skeleton,
    k0_part207_eq_skeleton, k0_part208_eq_skeleton, k0_part209_eq_skeleton, k0_part210_eq_skeleton,
    k0_part211_eq_skeleton, k0_part212_eq_skeleton, k0_part213_eq_skeleton, k0_part214_eq_skeleton,
    k0_part215_eq_skeleton, k0_part216_eq_skeleton, k0_part217_eq_skeleton, k0_part218_eq_skeleton,
    k0_part219_eq_skeleton, k0_part220_eq_skeleton, k0_part221_eq_skeleton, k0_part222_eq_skeleton,
    k0_part223_eq_skeleton, k0_part224_eq_skeleton, k0_part225_eq_skeleton, k0_part226_eq_skeleton,
    k0_part227_eq_skeleton, k0_part228_eq_skeleton, k0_part229_eq_skeleton, k0_part230_eq_skeleton,
    k0_part231_eq_skeleton, k0_part232_eq_skeleton, k0_part233_eq_skeleton, k0_part234_eq_skeleton,
    k0_part235_eq_skeleton, k0_part236_eq_skeleton, k0_part237_eq_skeleton, k0_part238_eq_skeleton,
    k0_part239_eq_skeleton, k0_part240_eq_skeleton, k0_part241_eq_skeleton, k0_part242_eq_skeleton,
    k0_part243_eq_skeleton, k0_part244_eq_skeleton, k0_part245_eq_skeleton, k0_part246_eq_skeleton,
    k0_part247_eq_skeleton, k0_part248_eq_skeleton, k0_part249_eq_skeleton, k0_part250_eq_skeleton,
    k0_part251_eq_skeleton, k0_part252_eq_skeleton, k0_part253_eq_skeleton, k0_part254_eq_skeleton,
    k0_part255_eq_skeleton, k0_part256_eq_skeleton, k0_part257_eq_skeleton, k0_part258_eq_skeleton,
    k0_part259_eq_skeleton, k0_part260_eq_skeleton, k0_part307_eq_skeleton, k0_part261_eq_skeleton,
    k0_part262_eq_skeleton, k0_part263_eq_skeleton, k0_part264_eq_skeleton, k0_part265_eq_skeleton,
    k0_part266_eq_skeleton, k0_part267_eq_skeleton, k0_part268_eq_skeleton, k0_part269_eq_skeleton,
    k0_part270_eq_skeleton, k0_part271_eq_skeleton, k0_part272_eq_skeleton, k0_part273_eq_skeleton,
    k0_part274_eq_skeleton, k0_part275_eq_skeleton, k0_part276_eq_skeleton, k0_part277_eq_skeleton,
    k0_part278_eq_skeleton, k0_part279_eq_skeleton, k0_part280_eq_skeleton, k0_part281_eq_skeleton,
    k0_part282_eq_skeleton, k0_part283_eq_skeleton, k0_part284_eq_skeleton, k0_part285_eq_skeleton,
    k0_part286_eq_skeleton, k0_part287_eq_skeleton, k0_part288_eq_skeleton, k0_part289_eq_skeleton,
    k0_part290_eq_skeleton, k0_part291_eq_skeleton, k0_part292_eq_skeleton, k0_part293_eq_skeleton,
    k0_part294_eq_skeleton, k0_part295_eq_skeleton, k0_part296_eq_skeleton, k0_part297_eq_skeleton,
    k0_part298_eq_skeleton, k0_part299_eq_skeleton, k0_part300_eq_skeleton, k0_part301_eq_skeleton,
    k0_part302_eq_skeleton, k0_part303_eq_skeleton, k0_part304_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine Tile.read_fills (fills_t2 hf0 hf3 hf4 (Tile.Dequantised.isCols ?_ _ _)) (fills_t1 hf0 hf3 hf4 (Tile.Dequantised.isCols ?_ _ _)) _ _
      all_goals
        repeat'
          refine Tile.Dequantised.cons (hc := shapeCasts_S128x128_S128x128) (hlt := bitsLt_fp8e4m3_bf16) (hlt' := bitsLt_bf16_f32)
            (Tile.isBlock_readAt hf1) (Tile.isScale_readAt hf2 ClosedOff.eq rfl rfl) rfl rfl rfl rfl rfl ?_
        exact Tile.Dequantised.nil
    isplitl [H6]
    · iexists _; isplitr; swap; · iexact H6
      ipureintro; exact hf6
    isplitl [H7]
    · iexists _; isplitr; swap; · iexact H7
      ipureintro; exact hf7
    iexists _, _; isplitr; swap; · iexact HS0
    ipureintro; rfl

end Cert.KernelIdeal.Body
-- ==== Proof.RunB.lean ====
/- The run of the whole body at a grid point of the key columns. -/
module

public import proofs.«01_k».proof.Proof.RunA
public import proofs.«01_k».proof.Proof.Trips
public import proofs.«01_k».proof.Proof.Weights

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 17676000 in
/-- On whole staging buffers holding the activations `x0`, the weight tile `x1`, the scales `x2` and the
    rotary tables `x3`, `x4`, the body at a point of the key columns leaves the tile's values in the
    key block, and every other block as it was. -/
theorem runB (c : Dev nD) (i : grid0.Coords) (arg1 : Memref sig .tc .vmem S1152x7168 .bf16) (harg1 : arg1.IsWhole) (arg2 : Memref sig .tc .vmem S7168x1024 .fp8e4m3) (harg2 : arg2.IsWhole) (arg3 : Memref sig .tc .smem S56x80 .f32) (harg3 : arg3.IsWhole) (arg4 : Memref sig .tc .vmem S1152x128 .f32) (harg4 : arg4.IsWhole) (arg5 : Memref sig .tc .vmem S1152x128 .f32) (harg5 : arg5.IsWhole) (arg6 : Memref sig .tc .vmem S3x384x8x128 .bf16) (harg6 : arg6.IsWhole) (arg7 : Memref sig .tc .vmem S3x384x8x128 .bf16) (harg7 : arg7.IsWhole) (arg8 : Memref sig .tc .vmem S3x384x8x128 .bf16) (harg8 : arg8.IsWhole) (arg9 : Memref sig .tc .vmem S7168x512 .bf16) (harg9 : arg9.IsWhole) (hc0 : ¬cond0_0 i) (hc1 : cond0_1 i) (hc2 : ¬cond0_2 i)
    (x0 : Vec Ideal S1152x7168 .bf16) (x1 : Vec Ideal S7168x1024 .fp8e4m3) (x2 : Vec Ideal S56x80 .f32) (x3 : Vec Ideal S1152x128 .f32) (x4 : Vec Ideal S1152x128 .f32)
    (y5 y7 : Vec Ideal S3x384x8x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ owns (c : Thread nD τ) arg8 fullShare y7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare (Tile.rotated x0 (Tile.tileW x1 x2 (i 0)) x3 x4) ∗ owns (c : Thread nD τ) arg8 fullShare y7 ∗ (∃ d, owns (c : Thread nD τ) arg9 fullShare d)) -∗ K ⟨⟩))
          ⊢ wp frame (wpE (defs₀ (F := Ideal)) Variants.none c none) E (cc0_proj i arg1 harg1 arg2 harg2 arg3 harg3 arg4 harg4 arg5 harg5 arg6 harg6 arg7 harg7 arg8 harg8 arg9 harg9) K := by
    intro E K
    simp only [cc0_proj_eq_skeleton]; unfold cc0_proj_skel
    simp only [
    k0_part612_eq_skeleton, k0_part448_eq_skeleton, k0_part449_eq_skeleton, k0_part450_eq_skeleton,
    k0_part451_eq_skeleton, k0_part452_eq_skeleton, k0_part453_eq_skeleton, k0_part454_eq_skeleton,
    k0_part455_eq_skeleton, k0_part456_eq_skeleton, k0_part457_eq_skeleton, k0_part458_eq_skeleton,
    k0_part459_eq_skeleton, k0_part460_eq_skeleton, k0_part461_eq_skeleton, k0_part462_eq_skeleton,
    k0_part463_eq_skeleton, k0_part464_eq_skeleton, k0_part465_eq_skeleton, k0_part466_eq_skeleton,
    k0_part467_eq_skeleton, k0_part468_eq_skeleton, k0_part469_eq_skeleton, k0_part470_eq_skeleton,
    k0_part471_eq_skeleton, k0_part472_eq_skeleton, k0_part473_eq_skeleton, k0_part474_eq_skeleton,
    k0_part475_eq_skeleton, k0_part476_eq_skeleton, k0_part477_eq_skeleton, k0_part478_eq_skeleton,
    k0_part479_eq_skeleton, k0_part480_eq_skeleton, k0_part481_eq_skeleton, k0_part482_eq_skeleton,
    k0_part483_eq_skeleton, k0_part484_eq_skeleton, k0_part485_eq_skeleton, k0_part486_eq_skeleton,
    k0_part487_eq_skeleton, k0_part488_eq_skeleton, k0_part489_eq_skeleton, k0_part490_eq_skeleton,
    k0_part491_eq_skeleton, k0_part492_eq_skeleton, k0_part493_eq_skeleton, k0_part494_eq_skeleton,
    k0_part495_eq_skeleton, k0_part496_eq_skeleton, k0_part497_eq_skeleton, k0_part498_eq_skeleton,
    k0_part499_eq_skeleton, k0_part500_eq_skeleton, k0_part501_eq_skeleton, k0_part502_eq_skeleton,
    k0_part503_eq_skeleton, k0_part504_eq_skeleton, k0_part505_eq_skeleton, k0_part506_eq_skeleton,
    k0_part507_eq_skeleton, k0_part613_eq_skeleton, k0_part508_eq_skeleton, k0_part509_eq_skeleton,
    k0_part510_eq_skeleton, k0_part511_eq_skeleton, k0_part512_eq_skeleton, k0_part513_eq_skeleton,
    k0_part514_eq_skeleton, k0_part515_eq_skeleton, k0_part516_eq_skeleton, k0_part517_eq_skeleton,
    k0_part518_eq_skeleton, k0_part519_eq_skeleton, k0_part520_eq_skeleton, k0_part521_eq_skeleton,
    k0_part522_eq_skeleton, k0_part523_eq_skeleton, k0_part524_eq_skeleton, k0_part525_eq_skeleton,
    k0_part526_eq_skeleton, k0_part527_eq_skeleton, k0_part528_eq_skeleton, k0_part529_eq_skeleton,
    k0_part530_eq_skeleton, k0_part531_eq_skeleton, k0_part532_eq_skeleton, k0_part533_eq_skeleton,
    k0_part534_eq_skeleton, k0_part535_eq_skeleton, k0_part536_eq_skeleton, k0_part537_eq_skeleton,
    k0_part538_eq_skeleton, k0_part539_eq_skeleton, k0_part540_eq_skeleton, k0_part541_eq_skeleton,
    k0_part542_eq_skeleton, k0_part543_eq_skeleton, k0_part544_eq_skeleton, k0_part545_eq_skeleton,
    k0_part546_eq_skeleton, k0_part547_eq_skeleton, k0_part548_eq_skeleton, k0_part549_eq_skeleton,
    k0_part550_eq_skeleton, k0_part551_eq_skeleton, k0_part552_eq_skeleton, k0_part553_eq_skeleton,
    k0_part554_eq_skeleton, k0_part555_eq_skeleton, k0_part556_eq_skeleton, k0_part557_eq_skeleton,
    k0_part558_eq_skeleton, k0_part559_eq_skeleton, k0_part560_eq_skeleton, k0_part561_eq_skeleton,
    k0_part562_eq_skeleton, k0_part563_eq_skeleton, k0_part564_eq_skeleton, k0_part565_eq_skeleton,
    k0_part566_eq_skeleton, k0_part567_eq_skeleton, k0_part614_eq_skeleton, k0_part568_eq_skeleton,
    k0_part569_eq_skeleton, k0_part570_eq_skeleton, k0_part571_eq_skeleton, k0_part572_eq_skeleton,
    k0_part573_eq_skeleton, k0_part574_eq_skeleton, k0_part575_eq_skeleton, k0_part576_eq_skeleton,
    k0_part577_eq_skeleton, k0_part578_eq_skeleton, k0_part579_eq_skeleton, k0_part580_eq_skeleton,
    k0_part581_eq_skeleton, k0_part582_eq_skeleton, k0_part583_eq_skeleton, k0_part584_eq_skeleton,
    k0_part585_eq_skeleton, k0_part586_eq_skeleton, k0_part587_eq_skeleton, k0_part588_eq_skeleton,
    k0_part589_eq_skeleton, k0_part590_eq_skeleton, k0_part591_eq_skeleton, k0_part592_eq_skeleton,
    k0_part593_eq_skeleton, k0_part594_eq_skeleton, k0_part595_eq_skeleton, k0_part596_eq_skeleton,
    k0_part597_eq_skeleton, k0_part598_eq_skeleton, k0_part599_eq_skeleton, k0_part600_eq_skeleton,
    k0_part601_eq_skeleton, k0_part602_eq_skeleton, k0_part603_eq_skeleton, k0_part604_eq_skeleton,
    k0_part605_eq_skeleton, k0_part606_eq_skeleton, k0_part607_eq_skeleton, k0_part608_eq_skeleton,
    k0_part609_eq_skeleton, k0_part610_eq_skeleton, k0_part611_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact hf5
    isplitl [H6]
    · iexists _; isplitr; swap; · iexact H6
      ipureintro
      refine Tile.read_fills (fills_t4 hf0 hf3 hf4 (Tile.Dequantised.isCols ?_ _ _)) (fills_t3 hf0 hf3 hf4 (Tile.Dequantised.isCols ?_ _ _)) _ _
      all_goals
        repeat'
          refine Tile.Dequantised.cons (hc := shapeCasts_S128x128_S128x128) (hlt := bitsLt_fp8e4m3_bf16) (hlt' := bitsLt_bf16_f32)
            (Tile.isBlock_readAt hf1) (Tile.isScale_readAt hf2 ClosedOff.eq rfl rfl) rfl rfl rfl rfl rfl ?_
        exact Tile.Dequantised.nil
    isplitl [H7]
    · iexists _; isplitr; swap; · iexact H7
      ipureintro; exact hf7
    iexists _, _; isplitr; swap; · iexact HS0
    ipureintro; rfl

end Cert.KernelIdeal.Body
-- ==== Proof.RunC.lean ====
/- The run of the whole body at a grid point of the value columns. -/
module

public import proofs.«01_k».proof.Proof.RunB
public import proofs.«01_k».proof.Proof.Trips
public import proofs.«01_k».proof.Proof.Weights

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 17676000 in
/-- On whole staging buffers holding the activations `x0`, the weight tile `x1`, the scales `x2` and the
    rotary tables `x3`, `x4`, the body at a point of the value columns leaves the tile's values in the
    value block, and every other block as it was. -/
theorem runC (c : Dev nD) (i : grid0.Coords) (arg1 : Memref sig .tc .vmem S1152x7168 .bf16) (harg1 : arg1.IsWhole) (arg2 : Memref sig .tc .vmem S7168x1024 .fp8e4m3) (harg2 : arg2.IsWhole) (arg3 : Memref sig .tc .smem S56x80 .f32) (harg3 : arg3.IsWhole) (arg4 : Memref sig .tc .vmem S1152x128 .f32) (harg4 : arg4.IsWhole) (arg5 : Memref sig .tc .vmem S1152x128 .f32) (harg5 : arg5.IsWhole) (arg6 : Memref sig .tc .vmem S3x384x8x128 .bf16) (harg6 : arg6.IsWhole) (arg7 : Memref sig .tc .vmem S3x384x8x128 .bf16) (harg7 : arg7.IsWhole) (arg8 : Memref sig .tc .vmem S3x384x8x128 .bf16) (harg8 : arg8.IsWhole) (arg9 : Memref sig .tc .vmem S7168x512 .bf16) (harg9 : arg9.IsWhole) (hc0 : ¬cond0_0 i) (hc1 : ¬cond0_1 i) (hc2 : cond0_2 i)
    (x0 : Vec Ideal S1152x7168 .bf16) (x1 : Vec Ideal S7168x1024 .fp8e4m3) (x2 : Vec Ideal S56x80 .f32) (x3 : Vec Ideal S1152x128 .f32) (x4 : Vec Ideal S1152x128 .f32)
    (y5 y6 : Vec Ideal S3x384x8x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare (Tile.plain x0 (Tile.tileW x1 x2 (i 0))) ∗ (∃ d, owns (c : Thread nD τ) arg9 fullShare d)) -∗ K ⟨⟩))
          ⊢ wp frame (wpE (defs₀ (F := Ideal)) Variants.none c none) E (cc0_proj i arg1 harg1 arg2 harg2 arg3 harg3 arg4 harg4 arg5 harg5 arg6 harg6 arg7 harg7 arg8 harg8 arg9 harg9) K := by
    intro E K
    simp only [cc0_proj_eq_skeleton]; unfold cc0_proj_skel
    simp only [
    k0_part821_eq_skeleton, k0_part657_eq_skeleton, k0_part658_eq_skeleton, k0_part659_eq_skeleton,
    k0_part660_eq_skeleton, k0_part661_eq_skeleton, k0_part662_eq_skeleton, k0_part663_eq_skeleton,
    k0_part664_eq_skeleton, k0_part665_eq_skeleton, k0_part666_eq_skeleton, k0_part667_eq_skeleton,
    k0_part668_eq_skeleton, k0_part669_eq_skeleton, k0_part670_eq_skeleton, k0_part671_eq_skeleton,
    k0_part672_eq_skeleton, k0_part673_eq_skeleton, k0_part674_eq_skeleton, k0_part675_eq_skeleton,
    k0_part676_eq_skeleton, k0_part677_eq_skeleton, k0_part678_eq_skeleton, k0_part679_eq_skeleton,
    k0_part680_eq_skeleton, k0_part681_eq_skeleton, k0_part682_eq_skeleton, k0_part683_eq_skeleton,
    k0_part684_eq_skeleton, k0_part685_eq_skeleton, k0_part686_eq_skeleton, k0_part687_eq_skeleton,
    k0_part688_eq_skeleton, k0_part689_eq_skeleton, k0_part690_eq_skeleton, k0_part691_eq_skeleton,
    k0_part692_eq_skeleton, k0_part693_eq_skeleton, k0_part694_eq_skeleton, k0_part695_eq_skeleton,
    k0_part696_eq_skeleton, k0_part697_eq_skeleton, k0_part698_eq_skeleton, k0_part699_eq_skeleton,
    k0_part700_eq_skeleton, k0_part701_eq_skeleton, k0_part702_eq_skeleton, k0_part703_eq_skeleton,
    k0_part704_eq_skeleton, k0_part705_eq_skeleton, k0_part706_eq_skeleton, k0_part707_eq_skeleton,
    k0_part708_eq_skeleton, k0_part709_eq_skeleton, k0_part710_eq_skeleton, k0_part711_eq_skeleton,
    k0_part712_eq_skeleton, k0_part713_eq_skeleton, k0_part714_eq_skeleton, k0_part715_eq_skeleton,
    k0_part716_eq_skeleton, k0_part822_eq_skeleton, k0_part717_eq_skeleton, k0_part718_eq_skeleton,
    k0_part719_eq_skeleton, k0_part720_eq_skeleton, k0_part721_eq_skeleton, k0_part722_eq_skeleton,
    k0_part723_eq_skeleton, k0_part724_eq_skeleton, k0_part725_eq_skeleton, k0_part726_eq_skeleton,
    k0_part727_eq_skeleton, k0_part728_eq_skeleton, k0_part729_eq_skeleton, k0_part730_eq_skeleton,
    k0_part731_eq_skeleton, k0_part732_eq_skeleton, k0_part733_eq_skeleton, k0_part734_eq_skeleton,
    k0_part735_eq_skeleton, k0_part736_eq_skeleton, k0_part737_eq_skeleton, k0_part738_eq_skeleton,
    k0_part739_eq_skeleton, k0_part740_eq_skeleton, k0_part741_eq_skeleton, k0_part742_eq_skeleton,
    k0_part743_eq_skeleton, k0_part744_eq_skeleton, k0_part745_eq_skeleton, k0_part746_eq_skeleton,
    k0_part747_eq_skeleton, k0_part748_eq_skeleton, k0_part749_eq_skeleton, k0_part750_eq_skeleton,
    k0_part751_eq_skeleton, k0_part752_eq_skeleton, k0_part753_eq_skeleton, k0_part754_eq_skeleton,
    k0_part755_eq_skeleton, k0_part756_eq_skeleton, k0_part757_eq_skeleton, k0_part758_eq_skeleton,
    k0_part759_eq_skeleton, k0_part760_eq_skeleton, k0_part761_eq_skeleton, k0_part762_eq_skeleton,
    k0_part763_eq_skeleton, k0_part764_eq_skeleton, k0_part765_eq_skeleton, k0_part766_eq_skeleton,
    k0_part767_eq_skeleton, k0_part768_eq_skeleton, k0_part769_eq_skeleton, k0_part770_eq_skeleton,
    k0_part771_eq_skeleton, k0_part772_eq_skeleton, k0_part773_eq_skeleton, k0_part774_eq_skeleton,
    k0_part775_eq_skeleton, k0_part776_eq_skeleton, k0_part823_eq_skeleton, k0_part777_eq_skeleton,
    k0_part778_eq_skeleton, k0_part779_eq_skeleton, k0_part780_eq_skeleton, k0_part781_eq_skeleton,
    k0_part782_eq_skeleton, k0_part783_eq_skeleton, k0_part784_eq_skeleton, k0_part785_eq_skeleton,
    k0_part786_eq_skeleton, k0_part787_eq_skeleton, k0_part788_eq_skeleton, k0_part789_eq_skeleton,
    k0_part790_eq_skeleton, k0_part791_eq_skeleton, k0_part792_eq_skeleton, k0_part793_eq_skeleton,
    k0_part794_eq_skeleton, k0_part795_eq_skeleton, k0_part796_eq_skeleton, k0_part797_eq_skeleton,
    k0_part798_eq_skeleton, k0_part799_eq_skeleton, k0_part800_eq_skeleton, k0_part801_eq_skeleton,
    k0_part802_eq_skeleton, k0_part803_eq_skeleton, k0_part804_eq_skeleton, k0_part805_eq_skeleton,
    k0_part806_eq_skeleton, k0_part807_eq_skeleton, k0_part808_eq_skeleton, k0_part809_eq_skeleton,
    k0_part810_eq_skeleton, k0_part811_eq_skeleton, k0_part812_eq_skeleton, k0_part813_eq_skeleton,
    k0_part814_eq_skeleton, k0_part815_eq_skeleton, k0_part816_eq_skeleton, k0_part817_eq_skeleton,
    k0_part818_eq_skeleton, k0_part819_eq_skeleton, k0_part820_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro
      refine Tile.read_fills (fills_t6 hf0 (Tile.Dequantised.isCols ?_ _ _)) (fills_t5 hf0 (Tile.Dequantised.isCols ?_ _ _)) _ _
      all_goals
        repeat'
          refine Tile.Dequantised.cons (hc := shapeCasts_S128x128_S128x128) (hlt := bitsLt_fp8e4m3_bf16) (hlt' := bitsLt_bf16_f32)
            (Tile.isBlock_readAt hf1) (Tile.isScale_readAt hf2 ClosedOff.eq rfl rfl) rfl rfl rfl rfl rfl ?_
        exact Tile.Dequantised.nil
    iexists _, _; isplitr; swap; · iexact HS0
    ipureintro; rfl

end Cert.KernelIdeal.Body
-- ==== Proof.Region.lean ====
/- The whole call: what each staging block holds at each grid point, the body obligation from the three
   runs, and the arrays' final contents. -/
module

public import proofs.«01_k».proof.Proof.RunC
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The heads of tile `t`'s 1024 columns, rotated, -/
def rotatedAt (c : Dev nD) (t : Fin cfg0.N) : Vec Ideal S3x384x8x128 .bf16 :=
  Tile.rotated (iblk m c 0 t) (Tile.tileW (iblk m c 1 t) (iblk m c 2 t) (grid0.coords t 0)) (iblk m c 3 t) (iblk m c 4 t)

/-- and as they are. -/
def plainAt (c : Dev nD) (t : Fin cfg0.N) : Vec Ideal S3x384x8x128 .bf16 :=
  Tile.plain (iblk m c 0 t) (Tile.tileW (iblk m c 1 t) (iblk m c 2 t) (grid0.coords t 0))

/-- What each staging block holds after each point: the inputs their blocks; the query block the heads of
    the last query tile up to the point; the key and the value block, from the one point that stores each,
    that tile's heads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if t.val < 8 then rotatedAt m c t else rotatedAt m c t0_7
    | ⟨6, _⟩ => rotatedAt m c t0_8
    | ⟨7, _⟩ => plainAt m c t0_9
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = if t.val < 8 then rotatedAt m c t else rotatedAt m c t0_7 := by dsimp only [dats]
theorem after0_6 (c : Dev nD) (t : Fin cfg0.N) : (dats m 0 c).after 6 t = rotatedAt m c t0_8 := by dsimp only [dats]
theorem after0_7 (c : Dev nD) (t : Fin cfg0.N) : (dats m 0 c).after 7 t = plainAt m c t0_9 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The points at which an output block is not stored -/

theorem idle0_5 (t : Fin cfg0.N) (h : ¬t.val < 8) : cfg0.idle 5 (grid0.coords t) = true := by
  show (!(k0_cond1 (grid0.coords t) == 1#1)) = true
  rw [beq_false_of_ne (fun e => h ((hcond0_0 t).mp e))]; rfl
theorem idle0_6 (t : Fin cfg0.N) (h : ¬t.val % 10 = 8) : cfg0.idle 6 (grid0.coords t) = true := by
  show (!(k0_cond2 (grid0.coords t) == 1#1)) = true
  rw [beq_false_of_ne (fun e => h ((hcond0_1 t).mp e))]; rfl
theorem idle0_7 (t : Fin cfg0.N) (h : ¬t.val % 10 = 9) : cfg0.idle 7 (grid0.coords t) = true := by
  show (!(k0_cond3 (grid0.coords t) == 1#1)) = true
  rw [beq_false_of_ne (fun e => h ((hcond0_2 t).mp e))]; rfl
theorem live0_5 (t : Fin cfg0.N) (h : t.val < 8) : cfg0.idle 5 (grid0.coords t) = false := by
  show (!(k0_cond1 (grid0.coords t) == 1#1)) = false
  rw [(hcond0_0 t).mpr h]; rfl
theorem live0_6 (t : Fin cfg0.N) (h : t.val % 10 = 8) : cfg0.idle 6 (grid0.coords t) = false := by
  show (!(k0_cond2 (grid0.coords t) == 1#1)) = false
  rw [(hcond0_1 t).mpr h]; rfl
theorem live0_7 (t : Fin cfg0.N) (h : t.val % 10 = 9) : cfg0.idle 7 (grid0.coords t) = false := by
  show (!(k0_cond3 (grid0.coords t) == 1#1)) = false
  rw [(hcond0_2 t).mpr h]; rfl

/-- The query block is not written back after its last tile until the last point. -/
theorem keeps0_5 : (cfg0.win 5).flush t0_7 = false ∧ (cfg0.win 5).flush t0_8 = false ∧ (cfg0.win 5).flush t0_9 = true := by
  decide +kernel

/-- What the key and the query block hold when the last point begins. -/
theorem before0_5_last (c : Dev nD) (d) : (dats m 0 c).before 5 t0_9 d = rotatedAt m c t0_7 := by
  rw [(dats m 0 c).before_of_pos 5 t0_9 (by decide) rfl]
  show (if (cfg0.win 5).flush t0_8 = true then d else (dats m 0 c).left 5 t0_8 d) = _
  rw [keeps0_5.2.1, if_neg Bool.false_ne_true]
  unfold Dat.left; rw [idle0_5 t0_8 (by decide)]
  show (dats m 0 c).before 5 t0_8 d = _
  rw [(dats m 0 c).before_of_pos 5 t0_8 (by decide) rfl]
  show (if (cfg0.win 5).flush t0_7 = true then d else (dats m 0 c).left 5 t0_7 d) = _
  rw [keeps0_5.1, if_neg Bool.false_ne_true]
  unfold Dat.left; rw [live0_5 t0_7 (by decide)]
  show (dats m 0 c).after 5 t0_7 = _
  rw [after0_5]; exact if_pos (by decide)

theorem before0_6_last (c : Dev nD) (d) : (dats m 0 c).before 6 t0_9 d = rotatedAt m c t0_8 := by
  rw [(dats m 0 c).before_of_pos 6 t0_9 (by decide) rfl]
  show (if (cfg0.win 6).flush t0_8 = true then d else (dats m 0 c).left 6 t0_8 d) = _
  rw [show (cfg0.win 6).flush t0_8 = false from Bool.eq_false_iff.mpr fun h => absurd ((flush0_6 t0_8).mp h) (by decide), if_neg Bool.false_ne_true]
  unfold Dat.left; rw [live0_6 t0_8 (by decide)]
  show (dats m 0 c).after 6 t0_8 = _
  rw [after0_6]

/-- What the body leaves in each input block, -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

/-- and in each output block: where it is stored, the tile's heads, -/
theorem leaves0_5 (c : Dev nD) (t : Fin cfg0.N) (h : t.val < 8) :
    (dats m 0 c).leavesExact 5 t = owns (c : Thread nD τ) (ms0_5 t) fullShare (rotatedAt m c t) := by
  unfold Dat.leavesExact; rw [live0_5 t h, after0_5, if_pos h]
theorem leaves0_6 (c : Dev nD) (t : Fin cfg0.N) (h : t.val % 10 = 8) (ht : t = t0_8) :
    (dats m 0 c).leavesExact 6 t = owns (c : Thread nD τ) (ms0_6 t) fullShare (rotatedAt m c t) := by
  unfold Dat.leavesExact; rw [live0_6 t h, after0_6, ht]
theorem leaves0_7 (c : Dev nD) (t : Fin cfg0.N) (h : t.val % 10 = 9) (ht : t = t0_9) :
    (dats m 0 c).leavesExact 7 t = owns (c : Thread nD τ) (ms0_7 t) fullShare (plainAt m c t) := by
  unfold Dat.leavesExact; rw [live0_7 t h, after0_7, ht]

/-- at the last point, where the query and the key block are written back unstored, what they held. -/
theorem leaves0_5_last (c : Dev nD) :
    (dats m 0 c).leavesExact 5 t0_9 = owns (c : Thread nD τ) (ms0_5 t0_9) fullShare (rotatedAt m c t0_7) := by
  unfold Dat.leavesExact; rw [idle0_5 t0_9 (by decide), keeps0_5.2.2, after0_5]; rfl
theorem leaves0_6_last (c : Dev nD) :
    (dats m 0 c).leavesExact 6 t0_9 = owns (c : Thread nD τ) (ms0_6 t0_9) fullShare (rotatedAt m c t0_8) := by
  unfold Dat.leavesExact; rw [idle0_6 t0_9 (by decide), (flush0_6 t0_9).mpr (by decide), after0_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
/-- The body at any point: the closed forms of the conditions say which of the three runs applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [leaves0_0, leaves0_1, leaves0_2, leaves0_3, leaves0_4,
    show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  have hN : t.val < 10 := lt_of_lt_of_eq t.isLt (show cfg0.N = 10 from N_0)
  by_cases h0 : t.val < 8
  · have h1 : ¬t.val % 10 = 8 := by omega
    have h2 : ¬t.val % 10 = 9 := by omega
    rw [leaves0_5 m c t h0,
      (dats m 0 c).leavesExact_idle 6 t (idle0_6 t h1) (Bool.eq_false_iff.mpr fun h => h2 ((flush0_6 t).mp h)),
      (dats m 0 c).leavesExact_idle 7 t (idle0_7 t h2) (Bool.eq_false_iff.mpr fun h => h2 ((flush0_7 t).mp h))]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) _ _) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · by_cases h1 : t.val % 10 = 8
    · have h2 : ¬t.val % 10 = 9 := by omega
      have ht : t = t0_8 := Fin.ext (by show t.val = 8; omega)
      rw [(dats m 0 c).leavesExact_idle 5 t (idle0_5 t h0) (by rw [ht]; exact keeps0_5.2.1), leaves0_6 m c t h1 ht,
        (dats m 0 c).leavesExact_idle 7 t (idle0_7 t h2) (Bool.eq_false_iff.mpr fun h => h2 ((flush0_7 t).mp h))]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      iexists d7; iexact H7
    · have h2 : t.val % 10 = 9 := by omega
      have ht : t = t0_9 := Fin.ext (by show t.val = 9; omega)
      subst ht
      simp only [before0_5_last, before0_6_last]
      rw [leaves0_5_last, leaves0_6_last, leaves0_7 m c t0_9 h2 rfl]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t0_9) _ _ _ _ _ _ _ _ _ _ _ _ _ _ _ _ _ _ (fun h => h0 ((hcond0_0 t0_9).mp h)) (fun h => h1 ((hcond0_1 t0_9).mp h)) ((hcond0_2 t0_9).mpr h2) (iblk m c 0 t0_9) (iblk m c 1 t0_9) (iblk m c 2 t0_9) (iblk m c 3 t0_9) (iblk m c 4 t0_9) _ _) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body at that point. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
/-- Every fair execution terminates with each array as the blocks written back leave it and every
    semaphore counter at zero. -/
theorem run_main : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- with every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

end Cert.KernelIdeal.Body
-- ==== Proof.Heads.lean ====
/- The projection as a function of the whole arrays: activations, weights, weight scales and the two rotary
   tables. The 10240 columns are 80 heads of 128 lanes: 64 query heads, then 8 key heads, then 8 value heads.
   A tile of the kernel holds eight consecutive heads. -/
module

public import proofs.«01_k».proof.Proof.Weights

@[expose] public section

noncomputable section

namespace Cert.Heads

open Idealize.ShloMosaic hiding ix2 ix4
open Idealize.ShloMosaic.ValueIdx
open Cert.KernelIdeal.Tile (halfTurn rowOf)

/-- The shapes of the activations, the weights, the weight scales and a rotary table. -/
abbrev Acts : Shape := ⟨2, ![1152, 7168]⟩
abbrev Wts : Shape := ⟨2, ![7168, 10240]⟩
abbrev Scales : Shape := ⟨2, ![56, 80]⟩
abbrev Table : Shape := ⟨2, ![1152, 128]⟩

variable (X : Acts.Idx → EReal) (w : Wts.Idx → EReal) (s : Scales.Idx → EReal) (cs sn : Table.Idx → EReal)

/-- The dequantised weight at row `k`, column `n`: the stored value times the scale of its 128 by 128 block. -/
def weight (k : Fin 7168) (n : Fin 10240) : EReal :=
  w (ix2 k n) * s (ix2 ⟨k.val / 128, by omega⟩ ⟨n.val / 128, by omega⟩)

/-- Row `r`, column `n` of the projection. -/
def dot (r : Fin 1152) (n : Fin 10240) : EReal := ∑ k : Fin 7168, X (ix2 r k) * weight w s k n

/-- Lane `d` of head `g`, as a column. -/
def lane (g : Fin 80) (d : Fin 128) : Fin 10240 := ⟨128 * g.val + d.val, by omega⟩

/-- Lane `d` of head `g` for token `l` of sequence `b`, -/
def plain (g : Fin 80) (b : Fin 3) (l : Fin 384) (d : Fin 128) : EReal := dot X w s (rowOf b l) (lane g d)

/-- and after the rotary embedding: the lane times its cosine plus the lane half a head away times the
    signed sine. -/
def rotated (g : Fin 80) (b : Fin 3) (l : Fin 384) (d : Fin 128) : EReal :=
  plain X w s g b l d * cs (ix2 (rowOf b l) d) + plain X w s g b l (halfTurn d) * sn (ix2 (rowOf b l) d)

/-- The queries: heads 0 to 63, rotated. -/
def queries (y : (⟨4, ![3, 384, 64, 128]⟩ : Shape).Idx) : EReal :=
  rotated X w s cs sn ⟨(y 2).val, lt_trans (y 2).isLt (by decide : 64 < 80)⟩ (y 0) (y 1) (y 3)

/-- The keys: heads 64 to 71, rotated. -/
def keys (y : (⟨4, ![3, 384, 8, 128]⟩ : Shape).Idx) : EReal :=
  rotated X w s cs sn ⟨64 + (y 2).val, Nat.add_lt_add_left (show (y 2).val < 16 from lt_trans (y 2).isLt (by decide : 8 < 16)) 64⟩ (y 0) (y 1) (y 3)

/-- The values: heads 72 to 79. -/
def values (y : (⟨4, ![3, 384, 8, 128]⟩ : Shape).Idx) : EReal :=
  plain X w s ⟨72 + (y 2).val, Nat.add_lt_add_left (show (y 2).val < 8 from (y 2).isLt) 72⟩ (y 0) (y 1) (y 3)

section Tile
variable {X w s} {wb : Cert.KernelIdeal.S7168x1024.Idx → EReal} {t : Fin 10}
  (hw : ∀ (k : Fin 7168) (n : Fin 1024) (n' : Fin 10240), n'.val = 1024 * t.val + n.val → wb (ix2 k n) = w (ix2 k n'))
include hw

/-- A column of the product with tile `t` is the column of the projection it stands for, -/
theorem prod_tile (r : Fin 1152) (n : Fin 1024) (n' : Fin 10240) (hn : n'.val = 1024 * t.val + n.val) :
    Cert.KernelIdeal.Tile.prod X (Cert.KernelIdeal.Tile.tileW wb s t) r n = dot X w s r n' := by
  unfold Cert.KernelIdeal.Tile.prod dot
  refine Finset.sum_congr rfl fun k _ => congrArg (X (ix2 r k) * ·) ?_
  show wb (ix2 k n) * s _ = w (ix2 k n') * s _
  rw [hw k n n' hn]
  refine congrArg (fun j => w (ix2 k n') * s j) ?_
  refine congrArg₂ ix2 rfl (Fin.ext ?_)
  show 8 * t.val + n.val / 128 = n'.val / 128
  omega

/-- so head `h` of the tile is head `8 t + h`, -/
theorem plain_tile (y : Cert.KernelIdeal.S3x384x8x128.Idx) (g : Fin 80) (hg : g.val = 8 * t.val + (y 2).val) :
    Cert.KernelIdeal.Tile.plain X (Cert.KernelIdeal.Tile.tileW wb s t) y = plain X w s g (y 0) (y 1) (y 3) :=
  prod_tile hw _ _ _ (by
    show 128 * g.val + (y 3).val = 1024 * t.val + (128 * (y 2).val + (y 3).val)
    omega)

/-- rotated or not. -/
theorem rotated_tile (y : Cert.KernelIdeal.S3x384x8x128.Idx) (g : Fin 80) (hg : g.val = 8 * t.val + (y 2).val) :
    Cert.KernelIdeal.Tile.rotated X (Cert.KernelIdeal.Tile.tileW wb s t) cs sn y
      = rotated X w s cs sn g (y 0) (y 1) (y 3) := by
  unfold Cert.KernelIdeal.Tile.rotated rotated
  rw [plain_tile hw y g hg, prod_tile hw _ (Cert.KernelIdeal.Tile.colOf (y 2) (halfTurn (y 3))) (lane g (halfTurn (y 3))) (by
    show 128 * g.val + (halfTurn (y 3)).val = 1024 * t.val + (128 * (y 2).val + (halfTurn (y 3)).val)
    omega)]
  rfl

end Tile

end Cert.Heads
-- ==== Proof.Arrays.lean ====
/- What the three result arrays of the kernel hold after the call: every head is a lane of the projection
   of the argument arrays. -/
module

public import proofs.«01_k».proof.Proof.Region
public import proofs.«01_k».proof.Proof.Heads
public import Idealize.ShloMosaic.Lib.Pipeline.ValueKit

@[expose] public section

set_option maxRecDepth 16384

noncomputable section

namespace Cert.KernelIdeal.Body

open Cert.KernelIdeal.Gen
open Idealize.ShloMosaic hiding ix2 ix4
open Idealize.ShloMosaic.ValueIdx
open Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (ρ : Dev nD → PrngReg)

/-- The argument arrays, as functions of their indices. -/
def acts (c : Dev nD) : Cert.Heads.Acts.Idx → EReal := m ((c : Thread nD τ).loc main_arg0)
def wts (c : Dev nD) : Cert.Heads.Wts.Idx → EReal := m ((c : Thread nD τ).loc main_arg1)
def scales (c : Dev nD) : Cert.Heads.Scales.Idx → EReal := m ((c : Thread nD τ).loc main_arg2)
def cosines (c : Dev nD) : Cert.Heads.Table.Idx → EReal := m ((c : Thread nD τ).loc main_arg3)
def sines (c : Dev nD) : Cert.Heads.Table.Idx → EReal := m ((c : Thread nD τ).loc main_arg4)

/-! ## The input blocks -/

/-- Four inputs are staged whole at every point, -/
theorem index0_0 : ∀ t : Fin cfg0.N, win0_0.index t = ![0, 0] :=
  (by decide +kernel : ∀ t : Fin grid0.N, win0_0.index t = ![0, 0])
theorem index0_2 : ∀ t : Fin cfg0.N, win0_2.index t = ![0, 0] :=
  (by decide +kernel : ∀ t : Fin grid0.N, win0_2.index t = ![0, 0])
theorem index0_3 : ∀ t : Fin cfg0.N, win0_3.index t = ![0, 0] :=
  (by decide +kernel : ∀ t : Fin grid0.N, win0_3.index t = ![0, 0])
theorem index0_4 : ∀ t : Fin cfg0.N, win0_4.index t = ![0, 0] :=
  (by decide +kernel : ∀ t : Fin grid0.N, win0_4.index t = ![0, 0])
/-- the weights a tile of 1024 columns at a time, -/
theorem index0_1 : ∀ t : Fin cfg0.N, win0_1.index t = ![0, (grid0.coords t 0).val] :=
  (by decide +kernel : ∀ t : Fin grid0.N, win0_1.index t = ![0, (grid0.coords t 0).val])
/-- and the query heads eight at a time. -/
theorem index0_5 : ∀ t : Fin cfg0.N, win0_5.index t = ![0, 0, min (grid0.coords t 0).val 7, 0] :=
  (by decide +kernel : ∀ t : Fin grid0.N, win0_5.index t = ![0, 0, min (grid0.coords t 0).val 7, 0])
theorem index0_6 : ∀ t : Fin cfg0.N, win0_6.index t = ![0, 0, 0, 0] :=
  (by decide +kernel : ∀ t : Fin grid0.N, win0_6.index t = ![0, 0, 0, 0])
theorem index0_7 : ∀ t : Fin cfg0.N, win0_7.index t = ![0, 0, 0, 0] :=
  (by decide +kernel : ∀ t : Fin grid0.N, win0_7.index t = ![0, 0, 0, 0])

theorem coord0 : ∀ t : Fin cfg0.N, (grid0.coords t 0).val = t.val :=
  (by decide +kernel : ∀ t : Fin grid0.N, (grid0.coords t 0).val = t.val)

theorem iblk0_0 (c : Dev nD) (t : Fin cfg0.N) : (iblk m c 0 t : Cert.Heads.Acts.Idx → EReal) = acts m c := by
  funext x
  show (iblk m c 0 t) x = _
  blk_simp [iblk, index0_0]
  refine congrArg (acts m c) ?_
  blk_ext [index0_0]

theorem iblk0_2 (c : Dev nD) (t : Fin cfg0.N) : (iblk m c 2 t : Cert.Heads.Scales.Idx → EReal) = scales m c := by
  funext x
  show (iblk m c 2 t) x = _
  blk_simp [iblk, index0_2]
  refine congrArg (scales m c) ?_
  blk_ext [index0_2]

theorem iblk0_3 (c : Dev nD) (t : Fin cfg0.N) : (iblk m c 3 t : Cert.Heads.Table.Idx → EReal) = cosines m c := by
  funext x
  show (iblk m c 3 t) x = _
  blk_simp [iblk, index0_3]
  refine congrArg (cosines m c) ?_
  blk_ext [index0_3]

theorem iblk0_4 (c : Dev nD) (t : Fin cfg0.N) : (iblk m c 4 t : Cert.Heads.Table.Idx → EReal) = sines m c := by
  funext x
  show (iblk m c 4 t) x = _
  blk_simp [iblk, index0_4]
  refine congrArg (sines m c) ?_
  blk_ext [index0_4]

theorem iblk0_1 (c : Dev nD) (t : Fin cfg0.N) (k : Fin 7168) (n : Fin 1024) (n' : Fin 10240)
    (hn : n'.val = 1024 * (grid0.coords t 0).val + n.val) : (iblk m c 1 t) (ix2 k n) = wts m c (ix2 k n') := by
  show (iblk m c 1 t) (ix2 k n) = _
  blk_simp [iblk, index0_1]
  refine congrArg (wts m c) (funext fun a => Fin.ext ?_)
  match a with
  | ⟨0, _⟩ => blk_simp [index0_1]
  | ⟨1, _⟩ => blk_simp [index0_1]; show (grid0.coords t 0).val * 1024 + n.val = n'.val; omega

/-! ## What a point's tile is of the projection -/

theorem rotatedAt_apply (c : Dev nD) (t : Fin cfg0.N) (y : S3x384x8x128.Idx) (g : Fin 80) (hg : g.val = 8 * t.val + (y 2).val) :
    rotatedAt m c t y = Cert.Heads.rotated (acts m c) (wts m c) (scales m c) (cosines m c) (sines m c) g (y 0) (y 1) (y 3) := by
  unfold rotatedAt
  rw [iblk0_0, iblk0_2, iblk0_3, iblk0_4]
  exact Cert.Heads.rotated_tile _ _ (iblk0_1 m c t) y g (by rw [coord0]; exact hg)

theorem plainAt_apply (c : Dev nD) (t : Fin cfg0.N) (y : S3x384x8x128.Idx) (g : Fin 80) (hg : g.val = 8 * t.val + (y 2).val) :
    plainAt m c t y = Cert.Heads.plain (acts m c) (wts m c) (scales m c) g (y 0) (y 1) (y 3) := by
  unfold plainAt
  rw [iblk0_0, iblk0_2]
  exact Cert.Heads.plain_tile (iblk0_1 m c t) y g (by rw [coord0]; exact hg)

/-! ## The result arrays -/

/-- The query array. -/
def queriesOf (c : Dev nD) : S3x384x64x128.Idx → EReal :=
  Cert.Heads.queries (acts m c) (wts m c) (scales m c) (cosines m c) (sines m c)
/-- The key array. -/
def keysOf (c : Dev nD) : S3x384x8x128.Idx → EReal :=
  Cert.Heads.keys (acts m c) (wts m c) (scales m c) (cosines m c) (sines m c)
/-- The value array. -/
def valuesOf (c : Dev nD) : S3x384x8x128.Idx → EReal := Cert.Heads.values (acts m c) (wts m c) (scales m c)

theorem final_queries (c : Dev nD) : (dats m 0 c).arrAt 5 cfg0.N = queriesOf m c := by
  refine (dats m 0 c).arrAt_eq_of_covers 5 _ (by decide +kernel) fun t hf y => ?_
  blk_simp
  rw [after0_5]
  have e0 : (win0_5.blk t).view.emb y 0 = y 0 := Fin.ext (by blk_simp [index0_5])
  have e1 : (win0_5.blk t).view.emb y 1 = y 1 := Fin.ext (by blk_simp [index0_5])
  have e3 : (win0_5.blk t).view.emb y 3 = y 3 := Fin.ext (by blk_simp [index0_5])
  have e2 : ((win0_5.blk t).view.emb y 2).val = min t.val 7 * 8 + (y 2).val := by
    blk_simp [index0_5, coord0]
  have key : ∀ t' : Fin cfg0.N, t'.val = min t.val 7 → rotatedAt m c t' y = queriesOf m c ((win0_5.blk t).view.emb y) := fun t' ht' => by
    unfold queriesOf Cert.Heads.queries
    rw [e0, e1, e3]
    exact rotatedAt_apply m c t' y _ (by show ((win0_5.blk t).view.emb y 2).val = _; rw [e2, ht']; omega)
  by_cases h : t.val < 8
  · rw [if_pos h]; exact key t (by omega)
  · rw [if_neg h]; exact key t0_7 (by show 7 = _; omega)

theorem final_keys (c : Dev nD) : (dats m 0 c).arrAt 6 cfg0.N = keysOf m c := by
  refine (dats m 0 c).arrAt_eq_of_covers 6 _ (by decide +kernel) fun t hf y => ?_
  blk_simp
  rw [after0_6]
  have e : (win0_6.blk t).view.emb y = y := by blk_ext [index0_6]
  rw [e]
  exact rotatedAt_apply m c t0_8 y _ rfl

theorem final_values (c : Dev nD) : (dats m 0 c).arrAt 7 cfg0.N = valuesOf m c := by
  refine (dats m 0 c).arrAt_eq_of_covers 7 _ (by decide +kernel) fun t hf y => ?_
  blk_simp
  rw [after0_7]
  have e : (win0_7.blk t).view.emb y = y := by blk_ext [index0_7]
  rw [e]
  exact plainAt_apply m c t0_9 y _ rfl

/-- Every execution ends with the three result arrays the projection of the argument arrays, these unchanged. -/
theorem values : θ_run defs (onTc (τ := τ) (main (F := Ideal))) ⟨m, fun _ => 0, ρ⟩ (fun r => ∀ c : Dev nD,
      r.2.mem ((c.tc : Thread nD τ).loc main_v0_0) = queriesOf m c
      ∧ r.2.mem ((c.tc : Thread nD τ).loc main_v0_1) = keysOf m c
      ∧ r.2.mem ((c.tc : Thread nD τ).loc main_v0_2) = valuesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 5).trans (final_queries m c), ((h.1.1 c).1 6).trans (final_keys m c),
    ((h.1.1 c).1 7).trans (final_values m c), h.2 c⟩) (θ_run_and (run_main m ρ) (unchanged m ρ))

end Cert.KernelIdeal.Body
-- ==== Proof.HostTerms.lean ====
/- The reference's host lines, read at an index: the dequantised weights, the product, and the rotary embedding
   of the query and of the key heads. -/
module

public import proofs.«01_k».proof.Proof.Heads
public import proofs.«01_k».proof.Proof.Gen.ReferenceIdeal.Launch
public import Idealize.ShloMosaic.Lib.Pointwise

@[expose] public section

set_option maxRecDepth 16384

noncomputable section

namespace Cert.ReferenceIdeal.Host

open Cert.ReferenceIdeal.Gen
open Idealize.ShloMosaic
open Cert.KernelIdeal.Tile (rowOf halfTurn)

variable (X : S1152x7168.Idx → EReal) (w : S7168x10240.Idx → EReal) (s : S56x80.Idx → EReal) (cs sn : S1152x128.Idx → EReal)

/-- The dequantised weights: the weights as 56 by 80 blocks times the scales. -/
def dequantised : FVec Ideal S7168x10240 .bf16 :=
  shapeCast S7168x10240
    (mulf (F := Ideal) (φ := .bf16)
      (shapeCast S56x128x80x128 w shapeCasts_S7168x10240_S56x128x80x128)
      (broadcastInDim S56x128x80x128 ![0, 1, 2, 3] bcast_S56x1x80x1_S56x128x80x128_0_1_2_3
        (broadcastInDim S56x1x80x1 ![0, 2] bcast_S56x80_S56x1x80x1_0_2
          (truncf (F := Ideal) (φ := .f32) .bf16 s bitsLt_bf16_f32))))
    shapeCasts_S56x128x80x128_S7168x10240

/-- The product of the activations, as 3 sequences of 384 tokens, with them. -/
def product : FVec Ideal S3x384x10240 .f32 :=
  Host.dotGeneral (F := Ideal) (φ₁ := .bf16) (φ₂ := .bf16) dot_S3x384x7168_S7168x10240_S3x384x10240_2_0_01_1_n_n none
    (shapeCast S3x384x7168 X shapeCasts_S1152x7168_S3x384x7168) (dequantised w s)

/-- A token's row, as the row-major position of its sequence and its place there. -/
theorem rowOf_eq (b : Fin 3) (l : Fin 384) (h : b.val * 384 + l.val < 1152) : (⟨b.val * 384 + l.val, h⟩ : Fin 1152) = rowOf b l :=
  Fin.ext (by show b.val * 384 + l.val = 384 * b.val + l.val; omega)

/-- At sequence `b`, token `l`, column `n` it is the projection there. -/
theorem product_apply (b : Fin 3) (l : Fin 384) (n : Fin 10240) :
    product X w s (ix3 b l n) = Cert.Heads.dot X w s (rowOf b l) n := by
  unfold product dequantised
  pointwise
  unfold Cert.Heads.dot Cert.Heads.weight
  simp only [← ix2_eq_valueIdx]
  refine Finset.sum_congr rfl fun k _ => ?_
  rw [rowOf_eq]

/-- A rotary table as one row per token. -/
def table (T : S1152x128.Idx → EReal) : FVec Ideal S3x384x1x128 .f32 := shapeCast S3x384x1x128 T shapeCasts_S1152x128_S3x384x1x128

/-- The two halves of a head, lane by lane, are the one formula with the half turn. -/
theorem halves {n : ℕ} (y : (⟨4, ![3, 384, n, 128]⟩ : Shape).Idx → EReal) (cs sn : S1152x128.Idx → EReal) (b : Fin 3) (l : Fin 384) (h : Fin n) (d : Fin 128) :
    (if hd : d.val < 64 then
        y (ix4 b l h d) * cs (ix2 (rowOf b l) d) + y (ix4 b l h ⟨64 + d.val, by omega⟩) * sn (ix2 (rowOf b l) d)
      else y (ix4 b l h ⟨64 + (d.val - 64), by omega⟩) * cs (ix2 (rowOf b l) ⟨64 + (d.val - 64), by omega⟩)
        + y (ix4 b l h ⟨d.val - 64, by omega⟩) * sn (ix2 (rowOf b l) ⟨64 + (d.val - 64), by omega⟩))
      = y (ix4 b l h d) * cs (ix2 (rowOf b l) d) + y (ix4 b l h (halfTurn d)) * sn (ix2 (rowOf b l) d) := by
  by_cases hd : d.val < 64
  · rw [dif_pos hd, show (⟨64 + d.val, by omega⟩ : Fin 128) = halfTurn d from
      Fin.ext (by show 64 + d.val = (d.val + 64) % 128; omega)]
  · rw [dif_neg hd, show (⟨64 + (d.val - 64), by omega⟩ : Fin 128) = d from Fin.ext (by show 64 + (d.val - 64) = d.val; omega),
      show (⟨d.val - 64, by omega⟩ : Fin 128) = halfTurn d from Fin.ext (by show d.val - 64 = (d.val + 64) % 128; omega)]

/-- The rotary embedding of 64 heads: the two half heads, each times its cosines plus the other half times its sines. -/
def rotated64 (y : FVec Ideal S3x384x64x128 .f32) (cs sn : FVec Ideal S3x384x1x128 .f32) : FVec Ideal S3x384x64x128 .f32 :=
  concatenate S3x384x64x128 3
    [⟨S3x384x64x64, addf
        (mulf (extractStridedSlice S3x384x64x64 ![0, 0, 0, 0] y slices_S3x384x64x128_S3x384x64x64_0_0_0_0)
          (broadcastInDim S3x384x64x64 ![0, 1, 2, 3] bcast_S3x384x1x64_S3x384x64x64_0_1_2_3
            (extractStridedSlice S3x384x1x64 ![0, 0, 0, 0] cs slices_S3x384x1x128_S3x384x1x64_0_0_0_0)))
        (mulf (extractStridedSlice S3x384x64x64 ![0, 0, 0, 64] y slices_S3x384x64x128_S3x384x64x64_0_0_0_64)
          (broadcastInDim S3x384x64x64 ![0, 1, 2, 3] bcast_S3x384x1x64_S3x384x64x64_0_1_2_3
            (extractStridedSlice S3x384x1x64 ![0, 0, 0, 0] sn slices_S3x384x1x128_S3x384x1x64_0_0_0_0)))⟩,
      ⟨S3x384x64x64, addf
        (mulf (extractStridedSlice S3x384x64x64 ![0, 0, 0, 64] y slices_S3x384x64x128_S3x384x64x64_0_0_0_64)
          (broadcastInDim S3x384x64x64 ![0, 1, 2, 3] bcast_S3x384x1x64_S3x384x64x64_0_1_2_3
            (extractStridedSlice S3x384x1x64 ![0, 0, 0, 64] cs slices_S3x384x1x128_S3x384x1x64_0_0_0_64)))
        (mulf (extractStridedSlice S3x384x64x64 ![0, 0, 0, 0] y slices_S3x384x64x128_S3x384x64x64_0_0_0_0)
          (broadcastInDim S3x384x64x64 ![0, 1, 2, 3] bcast_S3x384x1x64_S3x384x64x64_0_1_2_3
            (extractStridedSlice S3x384x1x64 ![0, 0, 0, 64] sn slices_S3x384x1x128_S3x384x1x64_0_0_0_64)))⟩]
    concatenates_S3x384x64x64_S3x384x64x64_S3x384x64x128_d3

/-- At a lane: the lane times its cosine plus the lane half a head away times its sine. -/
theorem rotated64_apply (y : FVec Ideal S3x384x64x128 .f32) (b : Fin 3) (l : Fin 384) (h : Fin 64) (d : Fin 128) :
    rotated64 y (table cs) (table sn) (ix4 b l h d)
      = y (ix4 b l h d) * cs (ix2 (rowOf b l) d)
        + y (ix4 b l h (halfTurn d)) * sn (ix2 (rowOf b l) d) := by
  unfold rotated64 table
  pointwise
  rw [rowOf_eq]
  exact halves y cs sn b l h d

/-- The rotary embedding of 8 heads: the two half heads, each times its cosines plus the other half times its sines. -/
def rotated8 (y : FVec Ideal S3x384x8x128 .f32) (cs sn : FVec Ideal S3x384x1x128 .f32) : FVec Ideal S3x384x8x128 .f32 :=
  concatenate S3x384x8x128 3
    [⟨S3x384x8x64, addf
        (mulf (extractStridedSlice S3x384x8x64 ![0, 0, 0, 0] y slices_S3x384x8x128_S3x384x8x64_0_0_0_0)
          (broadcastInDim S3x384x8x64 ![0, 1, 2, 3] bcast_S3x384x1x64_S3x384x8x64_0_1_2_3
            (extractStridedSlice S3x384x1x64 ![0, 0, 0, 0] cs slices_S3x384x1x128_S3x384x1x64_0_0_0_0)))
        (mulf (extractStridedSlice S3x384x8x64 ![0, 0, 0, 64] y slices_S3x384x8x128_S3x384x8x64_0_0_0_64)
          (broadcastInDim S3x384x8x64 ![0, 1, 2, 3] bcast_S3x384x1x64_S3x384x8x64_0_1_2_3
            (extractStridedSlice S3x384x1x64 ![0, 0, 0, 0] sn slices_S3x384x1x128_S3x384x1x64_0_0_0_0)))⟩,
      ⟨S3x384x8x64, addf
        (mulf (extractStridedSlice S3x384x8x64 ![0, 0, 0, 64] y slices_S3x384x8x128_S3x384x8x64_0_0_0_64)
          (broadcastInDim S3x384x8x64 ![0, 1, 2, 3] bcast_S3x384x1x64_S3x384x8x64_0_1_2_3
            (extractStridedSlice S3x384x1x64 ![0, 0, 0, 64] cs slices_S3x384x1x128_S3x384x1x64_0_0_0_64)))
        (mulf (extractStridedSlice S3x384x8x64 ![0, 0, 0, 0] y slices_S3x384x8x128_S3x384x8x64_0_0_0_0)
          (broadcastInDim S3x384x8x64 ![0, 1, 2, 3] bcast_S3x384x1x64_S3x384x8x64_0_1_2_3
            (extractStridedSlice S3x384x1x64 ![0, 0, 0, 64] sn slices_S3x384x1x128_S3x384x1x64_0_0_0_64)))⟩]
    concatenates_S3x384x8x64_S3x384x8x64_S3x384x8x128_d3

/-- At a lane: the lane times its cosine plus the lane half a head away times its sine. -/
theorem rotated8_apply (y : FVec Ideal S3x384x8x128 .f32) (b : Fin 3) (l : Fin 384) (h : Fin 8) (d : Fin 128) :
    rotated8 y (table cs) (table sn) (ix4 b l h d)
      = y (ix4 b l h d) * cs (ix2 (rowOf b l) d)
        + y (ix4 b l h (halfTurn d)) * sn (ix2 (rowOf b l) d) := by
  unfold rotated8 table
  pointwise
  rw [rowOf_eq]
  exact halves y cs sn b l h d

/-- The query, key and value columns of the product, as heads. -/
def queryHeads (P : FVec Ideal S3x384x10240 .f32) : FVec Ideal S3x384x64x128 .f32 :=
  shapeCast S3x384x64x128 (extractStridedSlice S3x384x8192 ![0, 0, 0] P slices_S3x384x10240_S3x384x8192_0_0_0) shapeCasts_S3x384x8192_S3x384x64x128
def keyHeads (P : FVec Ideal S3x384x10240 .f32) : FVec Ideal S3x384x8x128 .f32 :=
  shapeCast S3x384x8x128 (extractStridedSlice S3x384x1024 ![0, 0, 8192] P slices_S3x384x10240_S3x384x1024_0_0_8192) shapeCasts_S3x384x1024_S3x384x8x128
def valueHeads (P : FVec Ideal S3x384x10240 .f32) : FVec Ideal S3x384x8x128 .f32 :=
  shapeCast S3x384x8x128 (extractStridedSlice S3x384x1024 ![0, 0, 9216] P slices_S3x384x10240_S3x384x1024_0_0_9216) shapeCasts_S3x384x1024_S3x384x8x128

/-- Lane `d` of a query, a key and a value head is that lane of the projection's head. -/
theorem queryHeads_apply (b : Fin 3) (l : Fin 384) (h : Fin 64) (d : Fin 128) (g : Fin 80) (hg : g.val = h.val) :
    queryHeads (product X w s) (ix4 b l h d) = Cert.Heads.plain X w s g b l d := by
  unfold queryHeads
  pointwise
  rw [product_apply]
  exact congrArg (Cert.Heads.dot X w s (rowOf b l)) (Fin.ext (by show _ = 128 * g.val + d.val; simp only []; omega))
theorem keyHeads_apply (b : Fin 3) (l : Fin 384) (h : Fin 8) (d : Fin 128) (g : Fin 80) (hg : g.val = 64 + h.val) :
    keyHeads (product X w s) (ix4 b l h d) = Cert.Heads.plain X w s g b l d := by
  unfold keyHeads
  pointwise
  rw [product_apply]
  exact congrArg (Cert.Heads.dot X w s (rowOf b l)) (Fin.ext (by show _ = 128 * g.val + d.val; simp only []; omega))
theorem valueHeads_apply (b : Fin 3) (l : Fin 384) (h : Fin 8) (d : Fin 128) (g : Fin 80) (hg : g.val = 72 + h.val) :
    valueHeads (product X w s) (ix4 b l h d) = Cert.Heads.plain X w s g b l d := by
  unfold valueHeads
  pointwise
  rw [product_apply]
  exact congrArg (Cert.Heads.dot X w s (rowOf b l)) (Fin.ext (by show _ = 128 * g.val + d.val; simp only []; omega))

/-- The three results of the reference are the queries, the keys and the values of the projection. -/
theorem queries_eq : truncf (F := Ideal) .bf16 (rotated64 (queryHeads (product X w s)) (table cs) (table sn)) bitsLt_bf16_f32
    = Cert.Heads.queries X w s cs sn := by
  funext y
  obtain ⟨b, l, h, d, rfl⟩ : ∃ b l h d, y = ix4 b l h d := ⟨y 0, y 1, y 2, y 3, eq_ix4 y⟩
  have e := queryHeads_apply X w s b l h (g := ⟨h.val, by omega⟩) (hg := rfl)
  refine (rotated64_apply cs sn _ b l h d).trans ?_
  rw [e, e, ix2_eq_valueIdx]
  rfl
theorem keys_eq : truncf (F := Ideal) .bf16 (rotated8 (keyHeads (product X w s)) (table cs) (table sn)) bitsLt_bf16_f32
    = Cert.Heads.keys X w s cs sn := by
  funext y
  obtain ⟨b, l, h, d, rfl⟩ : ∃ b l h d, y = ix4 b l h d := ⟨y 0, y 1, y 2, y 3, eq_ix4 y⟩
  have e := keyHeads_apply X w s b l h (g := ⟨64 + h.val, by omega⟩) (hg := rfl)
  refine (rotated8_apply cs sn _ b l h d).trans ?_
  rw [e, e, ix2_eq_valueIdx]
  rfl
theorem values_eq : truncf (F := Ideal) .bf16 (valueHeads (product X w s)) bitsLt_bf16_f32 = Cert.Heads.values X w s := by
  funext y
  obtain ⟨b, l, h, d, rfl⟩ : ∃ b l h d, y = ix4 b l h d := ⟨y 0, y 1, y 2, y 3, eq_ix4 y⟩
  exact valueHeads_apply X w s b l h d ⟨72 + h.val, by omega⟩ rfl

end Cert.ReferenceIdeal.Host
-- ==== Proof.Host.lean ====
/- What the reference computes: its result arrays are the projection of the argument arrays. -/
module

public import proofs.«01_k».proof.Proof.HostTerms
public import proofs.«01_k».proof.Proof.Gen.ReferenceIdeal.Frame
public import Idealize.ShloMosaic.Lib.StableHlo.RunRead
public import Idealize.ShloMosaic.Lib.Pipeline.ValueKit
public import Idealize.ShloMosaic.Lib.Pointwise

@[expose] public section

set_option maxRecDepth 16384

noncomputable section

namespace Cert.ReferenceIdeal.Host

open Cert.ReferenceIdeal.Gen
open Idealize.ShloMosaic
open Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (ρ : Dev nD → PrngReg)

/-- The argument arrays, as functions of their indices. -/
def acts (c : Dev nD) : Cert.Heads.Acts.Idx → EReal := m ((c : Thread nD τ).loc main_arg0)
def wts (c : Dev nD) : Cert.Heads.Wts.Idx → EReal := m ((c : Thread nD τ).loc main_arg1)
def scales (c : Dev nD) : Cert.Heads.Scales.Idx → EReal := m ((c : Thread nD τ).loc main_arg2)
def cosines (c : Dev nD) : Cert.Heads.Table.Idx → EReal := m ((c : Thread nD τ).loc main_arg3)
def sines (c : Dev nD) : Cert.Heads.Table.Idx → EReal := m ((c : Thread nD τ).loc main_arg4)

/-- The one block of the widened weights is the whole array, as is that of the weights. -/
theorem index0_0 : ∀ t : Fin cfg0.N, win0_0.index t = ![0, 0] := (by decide +kernel : ∀ t : Fin grid0.N, win0_0.index t = ![0, 0])
theorem index0_1 : ∀ t : Fin cfg0.N, win0_1.index t = ![0, 0] := (by decide +kernel : ∀ t : Fin grid0.N, win0_1.index t = ![0, 0])

/-- The widened weights are the weights. -/
theorem widened (c : Dev nD) : (dats m 0 c).arrAt 1 cfg0.N = wts m c := by
  refine (dats m 0 c).arrAt_eq_of_covers 1 _ (by decide +kernel) fun t hf y => ?_
  blk_simp
  rw [after0_1]
  have e : (win0_1.blk t).view.emb y = y := by blk_ext [index0_1]
  rw [e]
  frame_out
  show iblk m c 0 t y = _
  blk_simp [iblk, index0_0]
  refine congrArg (wts m c) ?_
  blk_ext [index0_0]

/-- What the lines after the widening find in the buffers they read. -/
abbrev found (c : Dev nD) : Valuation τ sig (Elt Ideal) := Pipeline.withArrays (cfgs 0).spec c (V0 m c) fun w => (dats m 0 c).arrAt w (cfgs 0).N

theorem found_v0 (c : Dev nD) : found m c (Proc.devRef .tc main_v0) = wts m c :=
  (Pipeline.withArrays_arr (cfgs 0).spec launch0.win.arr_inj c (V0 m c) _ 1).trans (widened m c)
theorem found_arg0 (c : Dev nD) : found m c (Proc.devRef .tc main_arg0) = acts m c :=
  Pipeline.withArrays_of_ne _ c (V0 m c) _ main_arg0 (by exact (by decide : ∀ w, Pipeline.arrRef spec0 w ≠ main_arg0))
theorem found_arg2 (c : Dev nD) : found m c (Proc.devRef .tc main_arg2) = scales m c :=
  Pipeline.withArrays_of_ne _ c (V0 m c) _ main_arg2 (by exact (by decide : ∀ w, Pipeline.arrRef spec0 w ≠ main_arg2))
theorem found_arg3 (c : Dev nD) : found m c (Proc.devRef .tc main_arg3) = cosines m c :=
  Pipeline.withArrays_of_ne _ c (V0 m c) _ main_arg3 (by exact (by decide : ∀ w, Pipeline.arrRef spec0 w ≠ main_arg3))
theorem found_arg4 (c : Dev nD) : found m c (Proc.devRef .tc main_arg4) = sines m c :=
  Pipeline.withArrays_of_ne _ c (V0 m c) _ main_arg4 (by exact (by decide : ∀ w, Pipeline.arrRef spec0 w ≠ main_arg4))

section Lines
variable (W : Valuation τ sig (Elt Ideal))

/-- What the lines leave in the three results, from whatever they find. -/
theorem line_values : StableHlo.after hostOps1 W (Proc.devRef .tc main_v53)
    = truncf (F := Ideal) .bf16 (valueHeads (product (W (Proc.devRef .tc main_arg0)) (W (Proc.devRef .tc main_v0)) (W (Proc.devRef .tc main_arg2)))) bitsLt_bf16_f32 := by
  after_reads_simp
  rfl

theorem line_keys : StableHlo.after hostOps1 W (Proc.devRef .tc main_v52)
    = truncf (F := Ideal) .bf16 (rotated8 (keyHeads (product (W (Proc.devRef .tc main_arg0)) (W (Proc.devRef .tc main_v0)) (W (Proc.devRef .tc main_arg2))))
        (table (W (Proc.devRef .tc main_arg3))) (table (W (Proc.devRef .tc main_arg4)))) bitsLt_bf16_f32 := by
  after_reads_simp
  generalize h₁ : StableHlo.upto hostOps1 W 50 (Proc.devRef .tc main_v45) = y₁
  generalize h₂ : StableHlo.upto hostOps1 W 50 (Proc.devRef .tc main_v50) = y₂
  revert h₁ h₂
  after_reads_simp
  rintro rfl rfl
  rfl

theorem line_queries : StableHlo.after hostOps1 W (Proc.devRef .tc main_v34)
    = truncf (F := Ideal) .bf16 (rotated64 (queryHeads (product (W (Proc.devRef .tc main_arg0)) (W (Proc.devRef .tc main_v0)) (W (Proc.devRef .tc main_arg2))))
        (table (W (Proc.devRef .tc main_arg3))) (table (W (Proc.devRef .tc main_arg4)))) bitsLt_bf16_f32 := by
  after_reads_simp
  generalize h₁ : StableHlo.upto hostOps1 W 32 (Proc.devRef .tc main_v27) = y₁
  generalize h₂ : StableHlo.upto hostOps1 W 32 (Proc.devRef .tc main_v32) = y₂
  revert h₁ h₂
  after_reads_simp
  rintro rfl rfl
  rfl

end Lines

/-- The reference's three results. -/
theorem result_values (c : Dev nD) : Pipeline.afterTail₀ cfgs (dats m) 0 (V0 m) [hostOps1] c main_v53
    = (Cert.Heads.values (acts m c) (wts m c) (scales m c) : S3x384x8x128.Idx → EReal) := by
  refine (line_values (found m c)).trans ?_
  rw [found_v0, found_arg0, found_arg2]
  exact values_eq _ _ _

theorem result_keys (c : Dev nD) : Pipeline.afterTail₀ cfgs (dats m) 0 (V0 m) [hostOps1] c main_v52
    = (Cert.Heads.keys (acts m c) (wts m c) (scales m c) (cosines m c) (sines m c) : S3x384x8x128.Idx → EReal) := by
  refine (line_keys (found m c)).trans ?_
  rw [found_v0, found_arg0, found_arg2, found_arg3, found_arg4]
  exact keys_eq _ _ _ _ _

theorem result_queries (c : Dev nD) : Pipeline.afterTail₀ cfgs (dats m) 0 (V0 m) [hostOps1] c main_v34
    = (Cert.Heads.queries (acts m c) (wts m c) (scales m c) (cosines m c) (sines m c) : S3x384x64x128.Idx → EReal) := by
  refine (line_queries (found m c)).trans ?_
  rw [found_v0, found_arg0, found_arg2, found_arg3, found_arg4]
  exact queries_eq _ _ _ _ _

/-- Every execution ends with the three results the projection of the argument arrays, these unchanged. -/
theorem values : θ_run defs (onTc (τ := τ) (main (F := Ideal))) ⟨m, fun _ => 0, ρ⟩ (fun r => ∀ c : Dev nD,
      r.2.mem ((c.tc : Thread nD τ).loc main_v34) = (Cert.Heads.queries (acts m c) (wts m c) (scales m c) (cosines m c) (sines m c) : S3x384x64x128.Idx → EReal)
      ∧ r.2.mem ((c.tc : Thread nD τ).loc main_v52) = (Cert.Heads.keys (acts m c) (wts m c) (scales m c) (cosines m c) (sines m c) : S3x384x8x128.Idx → EReal)
      ∧ r.2.mem ((c.tc : Thread nD τ).loc main_v53) = (Cert.Heads.values (acts m c) (wts m c) (scales m c) : S3x384x8x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).2 main_v34 (Pipeline.mem_restRefs_of main_v34 (by decide) (by decide))).trans (result_queries m c),
        ((h.1 c).2 main_v52 (Pipeline.mem_restRefs_of main_v52 (by decide) (by decide))).trans (result_keys m c),
        ((h.1 c).2 main_v53 (Pipeline.mem_restRefs_of main_v53 (by decide) (by decide))).trans (result_values m c), h.2 c⟩)
    (θ_run_and (run_main m ρ) (unchanged m ρ))

end Cert.ReferenceIdeal.Host
-- ==== Proof.SumTile.lean ====
/- What the quantising call's body leaves in its first output block, at any values: the sum of its two input
   blocks, taken wide and rounded once. -/
module

public import proofs.«01_k».proof.Proof.Gen.Sum.Frame
public import Idealize.ShloMosaic.Lib.Pipeline.ValueKit
public import Idealize.ShloMosaic.Lib.Pointwise

@[expose] public section

set_option maxRecDepth 16384

noncomputable section

namespace Cert.Sum.Body

open Cert.Sum.Gen
open Idealize.ShloMosaic Idealize.ShloMosaic.TcCoe Idealize.ShloMosaic.Tactic
open Idealize.SL Idealize.SL.RA
open Idealize.ShloMosaic.Pipeline (Dat Cfg Window)

variable {F : FTy → Type} [BitOps F]

/-- The sum of two arrays, taken wide and rounded once. -/
def sumOf {s : Shape} (x r : FVec F s .bf16) : FVec F s .bf16 :=
  truncf .bf16 (addf (extf .f32 x bitsLt_bf16_f32) (extf .f32 r bitsLt_bf16_f32)) bitsLt_bf16_f32

/-- The sum of two blocks loaded at a rectangle is the sum's block there. -/
theorem sumOf_readAt {X R : S32x7168.Idx → F .bf16} {v w : View sig .tc .vmem S32x7168 .bf16} {f : v.ty.Contents (Elt F)}
    {g : w.ty.Contents (Elt F)} (hX : v.read (Elt F) f = X) (hR : w.read (Elt F) g = R) {off : Fin 2 → ℕ}
    {inb : ∀ a : Fin 2, off a + S32x128.size a ≤ S32x7168.size a} {hc hc' : S32x128.ShapeCasts S32x128} (x : S32x128.Idx) :
    sumOf (shapeCast S32x128 (v.readAt (Elt F) (Rect.unit (s := S32x7168) off S32x128.size inb).toLoadRect f) hc)
      (shapeCast S32x128 (w.readAt (Elt F) (Rect.unit (s := S32x7168) off S32x128.size inb).toLoadRect g) hc') x
      = sumOf X R ((Rect.unit (s := S32x7168) off S32x128.size inb).emb x) := by
  subst hX hR
  exact congrArg₂ (fun a b => sumOf (F := F) a b x) (shapeCast_self _ hc) (shapeCast_self _ hc')

section
variable (c : Dev nD) (i : grid0.Coords) (arg2 : Memref sig .tc .vmem S32x7168 .bf16) (harg2 : arg2.IsWhole) (arg3 : Memref sig .tc .vmem S32x7168 .bf16) (harg3 : arg3.IsWhole) (arg4 : Memref sig .tc .vmem S1x7168 .f32) (harg4 : arg4.IsWhole) (arg5 : Memref sig .tc .vmem S32x7168 .bf16) (harg5 : arg5.IsWhole) (arg6 : Memref sig .tc .vmem S32x7168 .fp8e4m3) (harg6 : arg6.IsWhole) (arg7 : Memref sig .tc .vmem S32x56 .f32) (harg7 : arg7.IsWhole) (arg8 : Memref sig .tc .vmem S32x7168 .bf16) (harg8 : arg8.IsWhole) (arg9 : Memref sig .tc .vmem S32x128 .f32) (harg9 : arg9.IsWhole) (arg10 : Memref sig .tc .vmem S32x128 .f32) (harg10 : arg10.IsWhole)
    (x0 : Vec F S32x7168 .bf16) (x1 : Vec F S32x7168 .bf16) (x2 : Vec F S1x7168 .f32) (xt0 : TbBuf0 (F := F) c tbM0_0)

/-- Every piece the run stores into the first output block is the sum's block at its rectangle. -/
theorem pieces : ∀ p ∈ (kernelRun0_A c i arg2 harg2 arg3 harg3 arg4 harg4 arg5 harg5 arg6 harg6 arg7 harg7 arg8 harg8 arg9 harg9 arg10 harg10 x0 x1 x2 xt0).1,
    ∀ x : p.1.shape.Idx, p.2 x = sumOf x0 x1 (p.1.emb x) := by
  unfold kernelRun0_A
  dsimp only
  sl_unfold_words
  repeat' (refine List.forall_mem_cons.mpr ⟨fun x => sumOf_readAt (harg2.read_unread _) (harg3.read_unread _) x, ?_⟩)
  exact fun p hp => absurd hp List.not_mem_nil

/-- The first output block after the run is the sum of the two input blocks. -/
theorem out_sum : out0_A_3 c i arg2 harg2 arg3 harg3 arg4 harg4 arg5 harg5 arg6 harg6 arg7 harg7 arg8 harg8 arg9 harg9 arg10 harg10 x0 x1 x2 xt0 = sumOf x0 x1 := by
  funext y
  exact View.read_writes_apply_of_pieces VO0_3 VO0_3.junk (sumOf x0 x1) _
    (pieces c i arg2 harg2 arg3 harg3 arg4 harg4 arg5 harg5 arg6 harg6 arg7 harg7 arg8 harg8 arg9 harg9 arg10 harg10 x0 x1 x2 xt0) y
    (cover0_A_3 c i arg2 harg2 arg3 harg3 arg4 harg4 arg5 harg5 arg6 harg6 arg7 harg7 arg8 harg8 arg9 harg9 arg10 harg10 x0 x1 x2 xt0 y)

end

end Cert.Sum.Body
-- ==== Proof.SumArray.lean ====
/- What the quantising call leaves in its first result: the sum of the residual stream and the sublayer's output. -/
module

public import proofs.«01_k».proof.Proof.SumTile
public import Idealize.ShloMosaic.Lib.StableHlo.RunRead

@[expose] public section

set_option maxRecDepth 16384

noncomputable section

namespace Cert.Sum.Body

open Cert.Sum.Gen
open Idealize.ShloMosaic Idealize.ShloMosaic.TcCoe Idealize.ShloMosaic.Tactic
open Idealize.SL Idealize.SL.RA
open Idealize.ShloMosaic.Pipeline (Dat Cfg Window)

variable {F : FTy → Type} [BitOps F]
variable (m : (ℓ : Loc nD τ sig) → Buf (Elt F) ℓ) (ρ : Dev nD → PrngReg)

/-- No window's index map reads the prefetched table, so nothing is asked of it. -/
theorem ok : Ok m := trivial

/-- The two input windows and the first output window move down 32 rows at every point. -/
theorem index_rows0 : ∀ t : Fin grid0.N, cc0_transform_0 (grid0.coords t) = ![t.val, 0] := by decide +kernel
theorem index_rows1 : ∀ t : Fin grid0.N, cc0_transform_1 (grid0.coords t) = ![t.val, 0] := by decide +kernel
theorem index_rows3 : ∀ t : Fin grid0.N, cc0_transform_3 (grid0.coords t) = ![t.val, 0] := by decide +kernel

theorem index0_0 (t : Fin (cfgM m (ok m)).N) : ((cfgM m (ok m)).win 0).index t = ![t.val, 0] := index_rows0 t
theorem index0_1 (t : Fin (cfgM m (ok m)).N) : ((cfgM m (ok m)).win 1).index t = ![t.val, 0] := index_rows1 t
theorem index0_3 (t : Fin (cfgM m (ok m)).N) : ((cfgM m (ok m)).win 3).index t = ![t.val, 0] := index_rows3 t

/-- The blocks of the first output window tile its array. -/
theorem covers : ((cfgM m (ok m)).win 3).Covers := by
  have n0 : ((cfgM m (ok m)).win 3).nblk (0 : Fin 2) = 36 := by
    show (1152 + 32 - 1) / 32 = 36
    norm_num
  have n1 : ((cfgM m (ok m)).win 3).nblk (1 : Fin 2) = 1 := by
    show (7168 + 7168 - 1) / 7168 = 1
    norm_num
  have nG : grid0.N = 36 := by decide
  refine ⟨fun a => ?_, fun β => ⟨⟨(β (0 : Fin 2)).val, ((β (0 : Fin 2)).isLt.trans_eq n0).trans_eq nG.symm⟩, flush0_3 _ _, fun a => ⟨?_, .inl rfl⟩⟩⟩
  · match a with
    | ⟨0, _⟩ => exact (by decide : 0 < 32)
    | ⟨1, _⟩ => exact (by decide : 0 < 7168)
  · rw [index0_3]
    match a with
    | ⟨0, _⟩ => rfl
    | ⟨1, _⟩ => exact (Nat.lt_one_iff.mp ((β (1 : Fin 2)).isLt.trans_eq n1)).symm

/-- Where two arrays agree with two others, so do the sums. -/
theorem sumOf_congr {s t : Shape} {x r : FVec F s .bf16} {x' r' : FVec F t .bf16} {i : s.Idx} {j : t.Idx}
    (hx : x i = x' j) (hr : r i = r' j) : sumOf x r i = sumOf x' r' j := by
  simp only [sumOf, truncf, addf, extf, hx, hr]

/-- The first output block after a point is the sum of the two input blocks there. -/
theorem after_sum (c : Dev nD) (t : Fin (cfgM m (ok m)).N) : (dats m (ok m) 0 c).after 3 t
    = sumOf (s := S32x7168) (iblk m (ok m) c 0 t) (iblk m (ok m) c 1 t) := by
  refine (after0_3 m (ok m) c t).trans ?_
  unfold outsAt0
  exact out_sum c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (tbl m 0)

/-- The two input blocks lie where the first output block lies. -/
theorem iblk_rows0 (c : Dev nD) (t : Fin (cfgM m (ok m)).N) (y : S32x7168.Idx) (z : S1152x7168.Idx)
    (h0 : (z 0).val = 32 * t.val + (y 0).val) (h1 : (z 1).val = (y 1).val) :
    iblk m (ok m) c 0 t y = V m c main_v0 z := by
  unfold iblk
  refine congrArg (V m c main_v0) (funext fun a => Fin.ext ?_)
  have e := index0_0 m t
  match a with
  | ⟨0, _⟩ => show ((cfgM m (ok m)).win 0).index t (0 : Fin 2) * 32 + 1 * (y 0).val = (z 0).val; rw [e, h0]; show t.val * 32 + _ = _; omega
  | ⟨1, _⟩ => show ((cfgM m (ok m)).win 0).index t (1 : Fin 2) * 7168 + 1 * (y 1).val = (z 1).val; rw [e, h1]; show 0 * 7168 + _ = _; omega

theorem iblk_rows1 (c : Dev nD) (t : Fin (cfgM m (ok m)).N) (y : S32x7168.Idx) (z : S1152x7168.Idx)
    (h0 : (z 0).val = 32 * t.val + (y 0).val) (h1 : (z 1).val = (y 1).val) :
    iblk m (ok m) c 1 t y = V m c main_v1 z := by
  unfold iblk
  refine congrArg (V m c main_v1) (funext fun a => Fin.ext ?_)
  have e := index0_1 m t
  match a with
  | ⟨0, _⟩ => show ((cfgM m (ok m)).win 1).index t (0 : Fin 2) * 32 + 1 * (y 0).val = (z 0).val; rw [e, h0]; show t.val * 32 + _ = _; omega
  | ⟨1, _⟩ => show ((cfgM m (ok m)).win 1).index t (1 : Fin 2) * 7168 + 1 * (y 1).val = (z 1).val; rw [e, h1]; show 0 * 7168 + _ = _; omega

/-- What the call leaves in its first result array. -/
theorem final_sum (c : Dev nD) : (dats m (ok m) 0 c).arrAt 3 (cfgM m (ok m)).N
    = (sumOf (s := S1152x7168) (V m c main_v0) (V m c main_v1)) := by
  refine (dats m (ok m) 0 c).arrAt_eq_of_covers 3 _ (covers m) fun t hf y => ?_
  have e := index0_3 m t
  have h0 : ((((cfgM m (ok m)).win 3).blk t).view.emb y (0 : Fin 2)).val = 32 * t.val + (y (0 : Fin 2)).val := by
    show ((cfgM m (ok m)).win 3).index t (0 : Fin 2) * 32 + 1 * (y (0 : Fin 2)).val = _
    rw [e]; show t.val * 32 + _ = _; omega
  have h1 : ((((cfgM m (ok m)).win 3).blk t).view.emb y (1 : Fin 2)).val = (y (1 : Fin 2)).val := by
    show ((cfgM m (ok m)).win 3).index t (1 : Fin 2) * 7168 + 1 * (y (1 : Fin 2)).val = _
    rw [e]; show 0 * 7168 + _ = _; omega
  refine Eq.trans (congrFun (after_sum m c t) y) ?_
  exact sumOf_congr (iblk_rows0 m c t y _ h0 h1) (iblk_rows1 m c t y _ h0 h1)

/-- The sum of two reshaped arrays, reshaped back, is the arrays' sum. -/
theorem sumOf_shapeCast {s t : Shape} (x r : FVec F s .bf16) (h : s.ShapeCasts t) (h' : t.ShapeCasts s) :
    shapeCast s (sumOf (shapeCast t x h) (shapeCast t r h)) h' = sumOf x r := by
  funext j
  exact sumOf_congr (congrFun (shapeCast_shapeCast x h h') j) (congrFun (shapeCast_shapeCast r h h') j)

theorem found0 (c : Dev nD) : V m c main_v0 = shapeCast S1152x7168 (m ((c : Thread nD τ).loc main_arg0)) shapeCasts_S3x384x7168_S1152x7168 := by
  after_reads_simp
  rfl
theorem found1 (c : Dev nD) : V m c main_v1 = shapeCast S1152x7168 (m ((c : Thread nD τ).loc main_arg1)) shapeCasts_S3x384x7168_S1152x7168 := by
  after_reads_simp
  rfl

/-- What the line after the call leaves in the result, from whatever it finds. -/
theorem line (W : Valuation τ sig (Elt F)) : StableHlo.after hostOps1 W (Proc.devRef .tc main_v4)
    = shapeCast S3x384x7168 (W (Proc.devRef .tc main_v3_0)) shapeCasts_S1152x7168_S3x384x7168 := by
  after_reads_simp
  rfl

theorem result (c : Dev nD) : Pipeline.afterTail pcfgs (fun _ => adm m (ok m)) (dats m (ok m)) 0 (V0 m) [hostOps1] c main_v4
    = sumOf (s := S3x384x7168) (m ((c : Thread nD τ).loc main_arg0)) (m ((c : Thread nD τ).loc main_arg1)) := by
  refine (line (F := F) _).trans ?_
  refine Eq.trans (congrArg (fun u => shapeCast S3x384x7168 u shapeCasts_S1152x7168_S3x384x7168) (a₂ := sumOf (F := F) (s := S1152x7168) (V m c main_v0) (V m c main_v1)) ?_) ?_
  · exact (Pipeline.withArrays_arr spec0 (launch0 (F := F)).win.arr_inj c (V0 m c) _ 3).trans (final_sum m c)
  · rw [found0, found1]
    exact sumOf_shapeCast (F := F) _ _ _ _

/-- Every execution ends with the result the sum of the first two arguments, these unchanged. -/
theorem values : θ_run defs (onTc (τ := τ) (main (F := F))) ⟨m, fun _ => 0, ρ⟩ (fun r => ∀ c : Dev nD,
      r.2.mem ((c.tc : Thread nD τ).loc main_v4) = sumOf (s := S3x384x7168) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v4 (by decide : main_v4 ∈ Pipeline.restRefs sig spec0)).trans (result m c), h.2 c⟩)
    (θ_run_and (run_main m ρ (ok m)) (unchanged m ρ (ok m)))

end Cert.Sum.Body
-- ==== Proof.SumClaims.lean ====
/- The claims about the quantising call and its reference: each runs with its arguments unchanged and every
   counter at zero, and from equal arguments they end with equal sums, bit for bit. -/
module

public import proofs.«01_k».proof.Defs
public import proofs.«01_k».proof.Proof.SumArray
public import proofs.«01_k».proof.Proof.Gen.SumReference.Run
public import Idealize.ShloMosaic.Lib.Quiescent

@[expose] public section

noncomputable section

open Idealize.ShloMosaic

/-- The quantising call runs, whatever its arguments. -/
theorem Cert.Proof.quiescent_Sum : Cert.quiescent_Sum (hSum := Cert.Sum.Gen.facts) :=
  fun m g _ => Cert.Sum.Gen.frame m g (Cert.Sum.Body.ok m)

/-- Its reference runs: it has no semaphore. -/
theorem Cert.Proof.quiescent_SumReference : Cert.quiescent_SumReference (hSumReference := Cert.SumReference.Gen.facts) :=
  fun m g _ => (θ_run Cert.SumReference.defs _ _).mono
    (fun r h => ⟨fun c => (h c).2, Idealize.ShloMosaic.sem_eq_zero_of_no_sems (by decide) r.2⟩) (Cert.SumReference.Value.run m g)

/-- From equal arguments both end with the rounded sum of the first two. -/
theorem Cert.Proof.bitexact_Sum : Cert.bitexact_Sum_SumReference
    (hSum := Cert.Sum.Gen.facts) (hSumReference := Cert.SumReference.Gen.facts) := by
  intro m g m' g' _ hargs
  refine ⟨fun c => Cert.Sum.Body.sumOf (F := Bits) (s := Cert.Sum.S3x384x7168) (m ((c.tc : Idealize.ShloMosaic.Thread Cert.Sum.nD Cert.Sum.τ).loc Cert.Sum.main_arg0))
    (m ((c.tc : Idealize.ShloMosaic.Thread Cert.Sum.nD Cert.Sum.τ).loc Cert.Sum.main_arg1)), Cert.Sum.Body.values m g, ?_⟩
  refine (θ_run Cert.SumReference.defs _ _).mono (fun r h c => ⟨?_, (h c).2⟩) (Cert.SumReference.Value.run m' g')
  refine (h c).1.trans ?_
  rw [(hargs c).1, (hargs c).2.1]
  rfl
-- ==== Proof.Quantiser.lean ====
/- The quantiser over the reals, row by row: the root mean square norm of a row, the largest magnitude of a group of
   128 columns, the power of two above it, and the clipped codes. -/
module

public import Idealize.ShloMosaic.Lib.Pointwise

@[expose] public section

noncomputable section

namespace Cert.Quantiser

open Idealize.ShloMosaic

/-- Column `l` of group `g`. -/
def col (g : Fin 56) (l : Fin 128) : Fin 7168 := ⟨128 * g.val + l.val, by omega⟩
/-- The group of a column. -/
def grp (k : Fin 7168) : Fin 56 := ⟨k.val / 128, by omega⟩

/-- The reciprocal of the natural logarithm of two. -/
def invLog2 : EReal := (((Real.log 2)⁻¹ : ℝ) : EReal)

/-- The exponents, from the largest magnitudes: one more than the whole part of the logarithm of a 448th of them, and zero for zero. -/
def expo {s : Shape} (c : Ideal .f32) (a : FVec Ideal s .f32) : FVec Ideal s .f32 :=
  select (cmpf .oeq a (broadcast s (Scalar.ofBits .f32 0x00000000#32))) (broadcast s (Scalar.ofBits .f32 0x00000000#32))
    (addf (floor (mulf (log (mulf a (broadcast s (Scalar.ofBits .f32 0x3B124925#32)))) (broadcast s c)))
      (broadcast s (Scalar.ofBits .f32 0x3F800000#32)))

/-- The codes, from the values and their exponents: the value over the power of two, clipped to the format's range. -/
def clip {s : Shape} (x e : FVec Ideal s .f32) : FVec Ideal s .fp8e4m3 :=
  truncf .fp8e4m3 (minimumf (broadcast s (Scalar.ofBits .f32 0x43E00000#32)) (maximumf (broadcast s (Scalar.ofBits .f32 0xC3E00000#32))
    (mulf x (exp2 (subf (broadcast s (Scalar.ofBits .f32 0x00000000#32)) e))))) (by decide)

theorem expo_congr {s t : Shape} {c : Ideal .f32} {a : FVec Ideal s .f32} {b : FVec Ideal t .f32} {i : s.Idx} {j : t.Idx} (h : a i = b j) :
    expo c a i = expo c b j := by
  simp only [expo, select, cmpf, broadcast, addf, floor, mulf, log, h]

theorem clip_congr {s t : Shape} {x e : FVec Ideal s .f32} {x' e' : FVec Ideal t .f32} {i : s.Idx} {j : t.Idx} (hx : x i = x' j) (he : e i = e' j) :
    clip x e i = clip x' e' j := by
  simp only [clip, truncf, minimumf, maximumf, broadcast, mulf, exp2, subf, hx, he]

/-- The largest magnitude of a group of a row. -/
def groupMax (x : Fin 7168 → EReal) (g : Fin 56) : EReal :=
  Finset.univ.fold max (FloatOps.ofBits (F := Ideal) .f32 0xFF800000#32) fun l : Fin 128 => FloatOps.absf (F := Ideal) (φ := .f32) (x (col g l))

/-- The exponent, the scale and the code. -/
def exponent (x : Fin 7168 → EReal) (g : Fin 56) : EReal := expo (s := ⟨0, ![]⟩) invLog2 (fun _ => groupMax x g) (fun a => a.elim0)
def scaleOf (x : Fin 7168 → EReal) (g : Fin 56) : EReal := exp2 (F := Ideal) (s := ⟨0, ![]⟩) (φ := .f32) (fun _ => exponent x g) (fun a => a.elim0)
def codeOf (x : Fin 7168 → EReal) (k : Fin 7168) : EReal := clip (s := ⟨0, ![]⟩) (fun _ => x k) (fun _ => exponent x (grp k)) (fun a => a.elim0)

/-- The reciprocal root mean square of a row. -/
def invRms (h : Fin 7168 → EReal) : EReal :=
  FloatOps.rsqrt (F := Ideal) (φ := .f32) ((∑ k, h k * h k) * (((1 / 7168 : ℝ)) : EReal) + FloatOps.ofBits (F := Ideal) .f32 0x358637BD#32)

/-- The normed row. -/
def normed (h w : Fin 7168 → EReal) (k : Fin 7168) : EReal := h k * invRms h * w k

/-- The codes and the scales of 3 sequences of 384 tokens. -/
def codes (H : Fin 3 → Fin 384 → Fin 7168 → EReal) (w : Fin 7168 → EReal) (z : (⟨3, ![3, 384, 7168]⟩ : Shape).Idx) : EReal :=
  codeOf (normed (H (z 0) (z 1)) w) (z 2)
def scales (H : Fin 3 → Fin 384 → Fin 7168 → EReal) (w : Fin 7168 → EReal) (z : (⟨3, ![3, 384, 56]⟩ : Shape).Idx) : EReal :=
  scaleOf (normed (H (z 0) (z 1)) w) (z 2)

/-- The columns, group by group. -/
theorem sum_groups (f : Fin 7168 → EReal) : ∑ k, f k = ∑ l : Fin 128, ∑ g : Fin 56, f (col g l) := by
  rw [Finset.sum_comm, ← Finset.sum_product', ]
  refine (Finset.sum_bij' (fun (p : Fin 56 × Fin 128) _ => col p.1 p.2) (fun k _ => (grp k, ⟨k.val % 128, Nat.mod_lt _ (by decide)⟩)) ?_ ?_ ?_ ?_ ?_).symm
  · intros; exact Finset.mem_univ _
  · intros; exact Finset.mem_product.mpr ⟨Finset.mem_univ _, Finset.mem_univ _⟩
  · rintro ⟨g, l⟩ _
    refine Prod.ext (Fin.ext ?_) (Fin.ext ?_)
    · show (128 * g.val + l.val) / 128 = g.val; omega
    · show (128 * g.val + l.val) % 128 = l.val; omega
  · intro k _; refine Fin.ext ?_; show 128 * (k.val / 128) + k.val % 128 = k.val; omega
  · intros; rfl

end Cert.Quantiser
-- ==== Proof.QuantTile.lean ====
/- What the quantising call's body leaves in its second and third output block over the reals. -/
module

public import proofs.«01_k».proof.Proof.Gen.QuantIdeal.Frame
public import proofs.«01_k».proof.Proof.Quantiser
public import Idealize.ShloMosaic.Lib.Pipeline.ValueKit

@[expose] public section

set_option maxRecDepth 16384

noncomputable section

namespace Cert.QuantIdeal.Body

open Cert.QuantIdeal.Gen
open Idealize.ShloMosaic Idealize.ShloMosaic.TcCoe Idealize.ShloMosaic.Tactic
open Idealize.SL Idealize.SL.RA
open Idealize.ShloMosaic.Pipeline (Dat Cfg Window)
open Cert.Quantiser

/-- The normed row `r` of a block, from the rows' reciprocal root mean squares. -/
def row (RS : S32x1.Idx → EReal) (H : S32x7168.Idx → EReal) (W : S1x7168.Idx → EReal) (r : Fin 32) (k : Fin 7168) : EReal :=
  H (ix2 r k) * RS (ix2 r 0) * W (ix2 0 k)

/-- The columns from `n` on of a block, and of the weights' row. -/
def hTile (H : S32x7168.Idx → EReal) (g : Fin 56) : Vec Ideal S32x128 .bf16 := fun x => H (ix2 (x 0) (col g (x 1)))
def wTile (W : S1x7168.Idx → EReal) (g : Fin 56) : Vec Ideal S1x128 .f32 := fun x => W (ix2 0 (col g (x 1)))

theorem tile_x (RS : S32x1.Idx → EReal) (H : S32x7168.Idx → EReal) (W : S1x7168.Idx → EReal) (g : Fin 56) (x : S32x128.Idx) :
    k0_pay91 (F := Ideal) RS (hTile H g) (wTile W g) x = row RS H W (x 0) (col g (x 1)) := by
  unfold k0_pay91
  pointwise
  rfl

theorem tile_e (RS : S32x1.Idx → EReal) (H : S32x7168.Idx → EReal) (W : S1x7168.Idx → EReal) (g : Fin 56) (x : S32x128.Idx) :
    k0_pay92 (F := Ideal) RS (hTile H g) (wTile W g) x = exponent (row RS H W (x 0)) g := by
  refine expo_congr (c := invLog2) (j := fun a => a.elim0) (b := fun _ => groupMax (row RS H W (x 0)) g) ?_
  pointwise
  simp only [tile_x]
  rfl

theorem tile_scale (RS : S32x1.Idx → EReal) (H : S32x7168.Idx → EReal) (W : S1x7168.Idx → EReal) (g : Fin 56) (x : S32x128.Idx) :
    k0_pay93 (F := Ideal) RS (hTile H g) (wTile W g) x = scaleOf (row RS H W (x 0)) g := by
  show exp2 (F := Ideal) (φ := .f32) _ x = exp2 (F := Ideal) (φ := .f32) _ _
  simp only [exp2, tile_e]

theorem tile_code (RS : S32x1.Idx → EReal) (H : S32x7168.Idx → EReal) (W : S1x7168.Idx → EReal) (g : Fin 56) (x : S32x128.Idx) :
    k0_pay94 (F := Ideal) RS (hTile H g) (wTile W g) x = codeOf (row RS H W (x 0)) (col g (x 1)) := by
  refine clip_congr (x' := fun _ => row RS H W (x 0) (col g (x 1))) (e' := fun _ => exponent (row RS H W (x 0)) (grp (col g (x 1)))) (j := fun a => a.elim0) (tile_x RS H W g x) ?_
  rw [tile_e]
  congr 1
  refine Fin.ext ?_
  show g.val = (128 * g.val + (x 1).val) / 128
  have h : (x 1).val < 128 := (x 1).isLt
  omega

/-- The sum of two arrays. -/
def sumOf {s : Shape} (x r : FVec Ideal s .bf16) : FVec Ideal s .bf16 :=
  truncf .bf16 (addf (extf .f32 x bitsLt_bf16_f32) (extf .f32 r bitsLt_bf16_f32)) bitsLt_bf16_f32

/-- The sum of two blocks loaded at a rectangle is the sum's block there. -/
theorem sumOf_readAt {X R : S32x7168.Idx → Ideal .bf16} {v w : View sig .tc .vmem S32x7168 .bf16} {f : v.ty.Contents (Elt Ideal)}
    {g : w.ty.Contents (Elt Ideal)} (hX : v.read (Elt Ideal) f = X) (hR : w.read (Elt Ideal) g = R) {off : Fin 2 → ℕ}
    {inb : ∀ a : Fin 2, off a + S32x128.size a ≤ S32x7168.size a} {hc hc' : S32x128.ShapeCasts S32x128} (x : S32x128.Idx) :
    sumOf (shapeCast S32x128 (v.readAt (Elt Ideal) (Rect.unit (s := S32x7168) off S32x128.size inb).toLoadRect f) hc)
      (shapeCast S32x128 (w.readAt (Elt Ideal) (Rect.unit (s := S32x7168) off S32x128.size inb).toLoadRect g) hc') x
      = sumOf X R ((Rect.unit (s := S32x7168) off S32x128.size inb).emb x) := by
  subst hX hR
  exact congrArg₂ (fun a b => sumOf a b x) (shapeCast_self _ hc) (shapeCast_self _ hc')

/-- The rectangle of a group of columns. -/
theorem emb_group {n : ℕ} (g : Fin 56) (hn : n = 128 * g.val) (inb : ∀ a : Fin 2, (![0, n] : Fin 2 → ℕ) a + S32x128.size a ≤ S32x7168.size a) (x : S32x128.Idx) :
    (Rect.unit (s := S32x7168) ![0, n] S32x128.size inb).emb x = ix2 (x 0) (col g (x 1)) := by
  subst hn
  refine funext fun a => Fin.ext ?_
  match a with
  | ⟨0, _⟩ => show 0 + 1 * (x 0).val = (x 0).val; omega
  | ⟨1, _⟩ => show 128 * g.val + 1 * (x 1).val = 128 * g.val + (x 1).val; omega

theorem emb_wgroup {n : ℕ} (g : Fin 56) (hn : n = 128 * g.val) (inb : ∀ a : Fin 2, (![0, n] : Fin 2 → ℕ) a + S1x128.size a ≤ S1x7168.size a) (x : S1x128.Idx) :
    (Rect.unit (s := S1x7168) ![0, n] S1x128.size inb).emb x = ix2 0 (col g (x 1)) := by
  subst hn
  refine funext fun a => Fin.ext ?_
  match a with
  | ⟨0, _⟩ => have h : (x 0).val < 1 := (x 0).isLt; show 0 + 1 * (x 0).val = 0; omega
  | ⟨1, _⟩ => show 128 * g.val + 1 * (x 1).val = 128 * g.val + (x 1).val; omega

section
variable (c : Dev nD) (i : grid0.Coords) (arg2 : Memref sig .tc .vmem S32x7168 .bf16) (harg2 : arg2.IsWhole) (arg3 : Memref sig .tc .vmem S32x7168 .bf16) (harg3 : arg3.IsWhole) (arg4 : Memref sig .tc .vmem S1x7168 .f32) (harg4 : arg4.IsWhole) (arg5 : Memref sig .tc .vmem S32x7168 .bf16) (harg5 : arg5.IsWhole) (arg6 : Memref sig .tc .vmem S32x7168 .fp8e4m3) (harg6 : arg6.IsWhole) (arg7 : Memref sig .tc .vmem S32x56 .f32) (harg7 : arg7.IsWhole) (arg8 : Memref sig .tc .vmem S32x7168 .bf16) (harg8 : arg8.IsWhole) (arg9 : Memref sig .tc .vmem S32x128 .f32) (harg9 : arg9.IsWhole) (arg10 : Memref sig .tc .vmem S32x128 .f32) (harg10 : arg10.IsWhole)
    (x0 : Vec Ideal S32x7168 .bf16) (x1 : Vec Ideal S32x7168 .bf16) (x2 : Vec Ideal S1x7168 .f32) (xt0 : TbBuf0 (F := Ideal) c tbM0_0)

/-- The block of sums, read back group by group. -/
abbrev stored : List (View.Piece (Elt Ideal) S32x7168 .bf16) := kernelRun0_A.sl.H3_56 c arg2 harg2 arg3 harg3 x0 x1
/-- The rows' reciprocal root mean squares. -/
abbrev rms : Vec Ideal S32x1 .f32 := kernelRun0_A.sl.r_2 c arg2 harg2 arg3 harg3 x0 x1

theorem stored_pieces : ∀ p ∈ stored c arg2 harg2 arg3 harg3 x0 x1, ∀ x : p.1.shape.Idx, p.2 x = sumOf x0 x1 (p.1.emb x) := by
  unfold stored
  sl_unfold_words
  repeat' (refine List.forall_mem_cons.mpr ⟨fun x => sumOf_readAt (harg2.read_unread _) (harg3.read_unread _) x, ?_⟩)
  exact fun p hp => absurd hp List.not_mem_nil

theorem stored_cover (y : S32x7168.Idx) : ∃ p ∈ stored c arg2 harg2 arg3 harg3 x0 x1, y ∈ p.1.set :=
  View.cover_of_tiledL (stored c arg2 harg2 arg3 harg3 x0 x1) S32x128.size (by sl_kernel_rfl) y

theorem read_stored (g : Fin 56) {n : ℕ} (hn : n = 128 * g.val) (inb : ∀ a : Fin 2, (![0, n] : Fin 2 → ℕ) a + S32x128.size a ≤ S32x7168.size a) :
    arg5.view.readCov (stored c arg2 harg2 arg3 harg3 x0 x1) (Rect.unit (s := S32x7168) ![0, n] S32x128.size inb).toLoadRect = hTile (sumOf x0 x1) g := by
  funext x
  refine (View.read_writes_apply_of_pieces arg5.view arg5.view.junk (sumOf x0 x1) _ (stored_pieces c arg2 harg2 arg3 harg3 x0 x1) _ (stored_cover c arg2 harg2 arg3 harg3 x0 x1 _)).trans ?_
  exact congrArg (sumOf x0 x1) (emb_group g hn inb x)

theorem read_weights (g : Fin 56) {n : ℕ} (hn : n = 128 * g.val) (inb : ∀ a : Fin 2, (![0, n] : Fin 2 → ℕ) a + S1x128.size a ≤ S1x7168.size a) :
    arg4.view.readAt (Elt Ideal) (Rect.unit (s := S1x7168) ![0, n] S1x128.size inb).toLoadRect (harg4.unread x2) = wTile x2 g := by
  funext x
  refine (congrFun (harg4.read_unread x2) _).trans ?_
  exact congrArg x2 (emb_wgroup g hn inb x)

/-- The second output block: the codes. -/
def codesBlock (y : S32x7168.Idx) : EReal := codeOf (row (rms c arg2 harg2 arg3 harg3 x0 x1) (sumOf x0 x1) x2 (y 0)) (y 1)

theorem piece_code {n : ℕ} (hn : n = 128 * (n / 128)) (hlt : n < 7168) (inb : ∀ a : Fin 2, (![0, n] : Fin 2 → ℕ) a + S32x128.size a ≤ S32x7168.size a) (inbw : ∀ a : Fin 2, (![0, n] : Fin 2 → ℕ) a + S1x128.size a ≤ S1x7168.size a)
    (v : S32x128.Idx → EReal) (hv : v = k0_pay94 (F := Ideal) (rms c arg2 harg2 arg3 harg3 x0 x1) (arg5.view.readCov (stored c arg2 harg2 arg3 harg3 x0 x1) (Rect.unit (s := S32x7168) ![0, n] S32x128.size inb).toLoadRect)
        (arg4.view.readAt (Elt Ideal) (Rect.unit (s := S1x7168) ![0, n] S1x128.size inbw).toLoadRect (harg4.unread x2))) (x : S32x128.Idx) :
    v x = codesBlock c arg2 harg2 arg3 harg3 x0 x1 x2 ((Rect.unit (s := S32x7168) ![0, n] S32x128.size inb).emb x) := by
  rw [hv, read_stored c arg2 harg2 arg3 harg3 arg5 x0 x1 ⟨n / 128, by omega⟩ hn inb, read_weights arg4 harg4 x2 ⟨n / 128, by omega⟩ hn inbw, tile_code, emb_group ⟨n / 128, by omega⟩ hn inb]
  rfl

set_option maxHeartbeats 4000000 in
theorem pieces : ∀ p ∈ (kernelRun0_A c i arg2 harg2 arg3 harg3 arg4 harg4 arg5 harg5 arg6 harg6 arg7 harg7 arg8 harg8 arg9 harg9 arg10 harg10 x0 x1 x2 xt0).2.1,
    ∀ x : p.1.shape.Idx, p.2 x = codesBlock c arg2 harg2 arg3 harg3 x0 x1 x2 (p.1.emb x) := by
  unfold kernelRun0_A
  dsimp only
  repeat' (refine List.forall_mem_cons.mpr ⟨fun x => piece_code c arg2 harg2 arg3 harg3 arg4 harg4 arg5 x0 x1 x2 (by decide) (by decide) _ (by decide) _ rfl x, ?_⟩)
  exact fun p hp => absurd hp List.not_mem_nil

/-- The second output block after the run: the codes. -/
theorem out_codes : out0_A_4 c i arg2 harg2 arg3 harg3 arg4 harg4 arg5 harg5 arg6 harg6 arg7 harg7 arg8 harg8 arg9 harg9 arg10 harg10 x0 x1 x2 xt0 = codesBlock c arg2 harg2 arg3 harg3 x0 x1 x2 := by
  funext y
  exact View.read_writes_apply_of_pieces VO0_4 VO0_4.junk (codesBlock c arg2 harg2 arg3 harg3 x0 x1 x2) _ (pieces c i arg2 harg2 arg3 harg3 arg4 harg4 arg5 harg5 arg6 harg6 arg7 harg7 arg8 harg8 arg9 harg9 arg10 harg10 x0 x1 x2 xt0) y (cover0_A_4 c i arg2 harg2 arg3 harg3 arg4 harg4 arg5 harg5 arg6 harg6 arg7 harg7 arg8 harg8 arg9 harg9 arg10 harg10 x0 x1 x2 xt0 y)

theorem inb_group (k : ℕ) (h : k < 56) (a : Fin 2) : (![0, 128 * k] : Fin 2 → ℕ) a + S32x128.size a ≤ S32x7168.size a := by
  match a with
  | ⟨0, _⟩ => show 0 + 32 ≤ 32; omega
  | ⟨1, _⟩ => show 128 * k + 128 ≤ 7168; omega
theorem inb_wgroup (k : ℕ) (h : k < 56) (a : Fin 2) : (![0, 128 * k] : Fin 2 → ℕ) a + S1x128.size a ≤ S1x7168.size a := by
  match a with
  | ⟨0, _⟩ => show 0 + 1 ≤ 1; omega
  | ⟨1, _⟩ => show 128 * k + 128 ≤ 7168; omega

/-- The scales of group `k`, at every lane, as the body computes them. -/
def scaleTile (k : ℕ) : Vec Ideal S32x128 .f32 :=
  if h : k < 56 then
    k0_pay93 (F := Ideal) (rms c arg2 harg2 arg3 harg3 x0 x1) (arg5.view.readCov (stored c arg2 harg2 arg3 harg3 x0 x1) (Rect.unit (s := S32x7168) ![0, 128 * k] S32x128.size (inb_group k h)).toLoadRect)
      (arg4.view.readAt (Elt Ideal) (Rect.unit (s := S1x7168) ![0, 128 * k] S1x128.size (inb_wgroup k h)).toLoadRect (harg4.unread x2))
  else k0_pay93 (F := Ideal) (rms c arg2 harg2 arg3 harg3 x0 x1) (hTile (sumOf x0 x1) 0) (wTile x2 0)

/-- The block of scales after `k` groups: lane `g` holds the scale of group `g`. -/
def scales : ℕ → Vec Ideal S32x56 .f32
  | 0 => k0_pay90 (F := Ideal)
  | k + 1 => select (cmpi .eq (iota .tc S32x56 32 [1] iota_S32x56_d1_w32) (broadcast S32x56 (BitVec.ofNat 32 k)))
      (extractStridedSlice S32x56 ![0, 0] (scaleTile c arg2 harg2 arg3 harg3 arg4 harg4 arg5 x0 x1 x2 k) slices_S32x128_o0_0_S32x56) (scales k)

set_option maxHeartbeats 4000000 in
theorem scales_eq : (kernelRun0_A c i arg2 harg2 arg3 harg3 arg4 harg4 arg5 harg5 arg6 harg6 arg7 harg7 arg8 harg8 arg9 harg9 arg10 harg10 x0 x1 x2 xt0).2.2.1 = [⟨Rect.unit (s := S32x56) ![0, 0] S32x56.size inb_S32x56_S32x56_0_0, scales c arg2 harg2 arg3 harg3 arg4 harg4 arg5 x0 x1 x2 56⟩] := by
  unfold kernelRun0_A
  dsimp only
  rfl

theorem scaleTile_apply (g : Fin 56) (x : S32x128.Idx) :
    scaleTile c arg2 harg2 arg3 harg3 arg4 harg4 arg5 x0 x1 x2 g.val x = scaleOf (row (rms c arg2 harg2 arg3 harg3 x0 x1) (sumOf x0 x1) x2 (x 0)) g := by
  unfold scaleTile
  rw [dif_pos g.isLt, read_stored c arg2 harg2 arg3 harg3 arg5 x0 x1 g rfl, read_weights arg4 harg4 x2 g rfl, tile_scale]

/-- A lane's word is a group's exactly where the lane is the group. -/
theorem lane_word (l : Fin 56) (k : ℕ) (hk : k < 56) : (BitVec.ofNat 32 l.val = BitVec.ofNat 32 k) ↔ l.val = k := by
  constructor
  · intro h
    have := congrArg BitVec.toNat h
    simp only [BitVec.toNat_ofNat] at this
    omega
  · intro h; rw [h]

theorem select_lane (l : Fin 56) (k : ℕ) (hk : k < 56) (a b : EReal) :
    Scalar.select (IntOp.cmpi .eq (BitVec.ofNat 32 l.val) (BitVec.ofNat 32 k)) a b = if l.val = k then a else b := by
  show (if BitVec.ofBool (BitVec.ofNat 32 l.val == BitVec.ofNat 32 k) = 1 then a else b) = _
  by_cases e : l.val = k
  · rw [if_pos e, e, beq_self_eq_true]; rfl
  · rw [if_neg e, beq_false_of_ne (fun h => e ((lane_word l k hk).mp h))]; rfl

theorem scales_apply (r : Fin 32) (l : Fin 56) : ∀ k : ℕ, k ≤ 56 → l.val < k →
    scales c arg2 harg2 arg3 harg3 arg4 harg4 arg5 x0 x1 x2 k (ix2 r l) = scaleOf (row (rms c arg2 harg2 arg3 harg3 x0 x1) (sumOf x0 x1) x2 r) l
  | 0, _, h => absurd h (Nat.not_lt_zero _)
  | k + 1, hk, h => by
    unfold scales
    pointwise
    refine (select_lane l k (by omega) _ _).trans ?_
    by_cases e : l.val = k
    · subst e
      rw [if_pos rfl]
      exact scaleTile_apply c arg2 harg2 arg3 harg3 arg4 harg4 arg5 x0 x1 x2 l _
    · rw [if_neg e]
      exact scales_apply r l k (by omega) (by omega)

/-- The third output block after the run: the scales. -/
def scalesBlock (y : S32x56.Idx) : EReal := scaleOf (row (rms c arg2 harg2 arg3 harg3 x0 x1) (sumOf x0 x1) x2 (y 0)) (y 1)

theorem out_scales : out0_A_5 c i arg2 harg2 arg3 harg3 arg4 harg4 arg5 harg5 arg6 harg6 arg7 harg7 arg8 harg8 arg9 harg9 arg10 harg10 x0 x1 x2 xt0 = scalesBlock c arg2 harg2 arg3 harg3 x0 x1 x2 := by
  funext y
  refine View.read_writes_apply_of_pieces VO0_5 VO0_5.junk (scalesBlock c arg2 harg2 arg3 harg3 x0 x1 x2) _ ?_ y (cover0_A_5 c i arg2 harg2 arg3 harg3 arg4 harg4 arg5 harg5 arg6 harg6 arg7 harg7 arg8 harg8 arg9 harg9 arg10 harg10 x0 x1 x2 xt0 y)
  rw [scales_eq]
  refine List.forall_mem_cons.mpr ⟨fun x => ?_, fun p hp => absurd hp List.not_mem_nil⟩
  have e : (Rect.unit (s := S32x56) ![0, 0] S32x56.size inb_S32x56_S32x56_0_0).emb x = x := by
    refine funext fun a => Fin.ext ?_
    match a with
    | ⟨0, _⟩ => show 0 + 1 * (x 0).val = (x 0).val; omega
    | ⟨1, _⟩ => show 0 + 1 * (x 1).val = (x 1).val; omega
  rw [e, show x = ix2 (x 0) (x 1) from eq_ix2 x]
  exact scales_apply c arg2 harg2 arg3 harg3 arg4 harg4 arg5 x0 x1 x2 (x 0) (x 1) 56 le_rfl (x 1).isLt

/-- The sums of group `k`, as the body loads and rounds them. -/
def loaded (k : ℕ) : Vec Ideal S32x128 .bf16 :=
  if h : k < 56 then
    sumOf (shapeCast S32x128 (arg2.view.readAt (Elt Ideal) (Rect.unit (s := S32x7168) ![0, 128 * k] S32x128.size (inb_group k h)).toLoadRect (harg2.unread x0)) shapeCasts_S32x128_S32x128)
      (shapeCast S32x128 (arg3.view.readAt (Elt Ideal) (Rect.unit (s := S32x7168) ![0, 128 * k] S32x128.size (inb_group k h)).toLoadRect (harg3.unread x1)) shapeCasts_S32x128_S32x128)
  else fun _ => (0 : EReal)

/-- The squares of `k` groups, added lane by lane. -/
def squares : ℕ → Vec Ideal S32x128 .f32
  | 0 => broadcast S32x128 (Scalar.ofBits (F := Ideal) .f32 0x00000000#32)
  | k + 1 => addf (squares k) (mulf (extf (F := Ideal) .f32 (loaded arg2 harg2 arg3 harg3 x0 x1 k) bitsLt_bf16_f32) (extf .f32 (loaded arg2 harg2 arg3 harg3 x0 x1 k) bitsLt_bf16_f32))

set_option maxHeartbeats 4000000 in
theorem rms_eq : rms c arg2 harg2 arg3 harg3 x0 x1 = rsqrt (F := Ideal) (φ := .f32) (addf
    (mulf (shapeCast S32x1 (multiReduction (F := Ideal) (φ := .f32) .add [1] S32 (squares arg2 harg2 arg3 harg3 x0 x1 56) 0x00000000#32 reduces_S32x128_S32 (.inl rfl) rfl) shapeCasts_S32_S32x1)
      (broadcast S32x1 (Named.named κ "inv_d" 0x39124925#32)))
    (broadcast S32x1 (Scalar.ofBits .f32 0x358637BD#32))) := rfl

theorem loaded_apply (g : Fin 56) (x : S32x128.Idx) : loaded arg2 harg2 arg3 harg3 x0 x1 g.val x = sumOf x0 x1 (ix2 (x 0) (col g (x 1))) := by
  unfold loaded
  rw [dif_pos g.isLt]
  refine (sumOf_readAt (harg2.read_unread x0) (harg3.read_unread x1) x).trans ?_
  exact congrArg (sumOf x0 x1) (emb_group g rfl _ x)

theorem squares_apply (x : S32x128.Idx) : ∀ k : ℕ, squares arg2 harg2 arg3 harg3 x0 x1 k x
    = ∑ g ∈ Finset.range k, (loaded arg2 harg2 arg3 harg3 x0 x1 g x : EReal) * loaded arg2 harg2 arg3 harg3 x0 x1 g x
  | 0 => by
    rw [Finset.range_zero, Finset.sum_empty]
    exact Ideal.ofBits_zero_f32
  | k + 1 => by
    rw [Finset.sum_range_succ, ← squares_apply x k]
    rfl

/-- A row's reciprocal root mean square is that of its sums. -/
theorem rms_apply (r : Fin 32) : rms c arg2 harg2 arg3 harg3 x0 x1 (ix2 r 0) = invRms (fun k => sumOf x0 x1 (ix2 r k)) := by
  rw [rms_eq]
  unfold invRms
  pointwise
  simp only [squares_apply]
  have e : Named.named (F := Ideal) Cert.QuantIdeal.κ "inv_d" (φ := .f32) 0x39124925#32 = ((1 / 7168 : ℝ) : EReal) :=
    IdealRules.named_const.ideal_named_scalar _ _ _ _ rfl
  have e' : (∑ l : Fin 128, ∑ g ∈ Finset.range 56, (loaded arg2 harg2 arg3 harg3 x0 x1 g (ix2 r l) : EReal) * loaded arg2 harg2 arg3 harg3 x0 x1 g (ix2 r l))
      = ∑ k, (sumOf x0 x1 (ix2 r k) : EReal) * sumOf x0 x1 (ix2 r k) := by
    rw [sum_groups]
    refine Finset.sum_congr rfl fun l _ => ?_
    rw [Finset.sum_range]
    exact Finset.sum_congr rfl fun g _ => by rw [loaded_apply]; rfl
  exact congrArg Ideal.rsqrt (congrArg₂ (· + ·) (congrArg₂ (· * ·) e' e) rfl)

/-- A block's row, normed. -/
theorem row_eq (r : Fin 32) : row (rms c arg2 harg2 arg3 harg3 x0 x1) (sumOf x0 x1) x2 r = normed (fun k => sumOf x0 x1 (ix2 r k)) (fun k => x2 (ix2 0 k)) := by
  funext k
  unfold row normed
  rw [rms_apply]

end

end Cert.QuantIdeal.Body
-- ==== Proof.QuantArray.lean ====
/- What the quantising call leaves in its codes and its scales over the reals. -/
module

public import proofs.«01_k».proof.Proof.QuantTile
public import Idealize.ShloMosaic.Lib.StableHlo.RunRead

@[expose] public section

set_option maxRecDepth 16384

noncomputable section

namespace Cert.QuantIdeal.Body

open Cert.QuantIdeal.Gen
open Idealize.ShloMosaic Idealize.ShloMosaic.TcCoe Idealize.ShloMosaic.Tactic
open Idealize.SL Idealize.SL.RA
open Idealize.ShloMosaic.Pipeline (Dat Cfg Window)
open Cert.Quantiser

variable (m : (ℓ : Loc nD τ sig) → Buf (Elt Ideal) ℓ) (ρ : Dev nD → PrngReg)

/-- No window's index map reads the prefetched table, so nothing is asked of it. -/
theorem ok : Ok m := trivial

/-- The input windows and the output windows move down 32 rows at every point; the weights' window stays. -/
theorem index_rows0 : ∀ t : Fin grid0.N, cc0_transform_0 (grid0.coords t) = ![t.val, 0] := by decide +kernel
theorem index0_0 (t : Fin (cfgM m (ok m)).N) : ((cfgM m (ok m)).win 0).index t = ![t.val, 0] := index_rows0 t
theorem index_rows1 : ∀ t : Fin grid0.N, cc0_transform_1 (grid0.coords t) = ![t.val, 0] := by decide +kernel
theorem index0_1 (t : Fin (cfgM m (ok m)).N) : ((cfgM m (ok m)).win 1).index t = ![t.val, 0] := index_rows1 t
theorem index_rows4 : ∀ t : Fin grid0.N, cc0_transform_4 (grid0.coords t) = ![t.val, 0] := by decide +kernel
theorem index0_4 (t : Fin (cfgM m (ok m)).N) : ((cfgM m (ok m)).win 4).index t = ![t.val, 0] := index_rows4 t
theorem index_rows5 : ∀ t : Fin grid0.N, cc0_transform_5 (grid0.coords t) = ![t.val, 0] := by decide +kernel
theorem index0_5 (t : Fin (cfgM m (ok m)).N) : ((cfgM m (ok m)).win 5).index t = ![t.val, 0] := index_rows5 t
theorem index_rows2 : ∀ t : Fin grid0.N, cc0_transform_2 (grid0.coords t) = ![0, 0] := by decide +kernel
theorem index0_2 (t : Fin (cfgM m (ok m)).N) : ((cfgM m (ok m)).win 2).index t = ![0, 0] := index_rows2 t

/-- The blocks of this output window tile its array. -/
theorem covers4 : ((cfgM m (ok m)).win 4).Covers := by
  have n0 : ((cfgM m (ok m)).win 4).nblk (0 : Fin 2) = 36 := by
    show (1152 + 32 - 1) / 32 = 36
    norm_num
  have n1 : ((cfgM m (ok m)).win 4).nblk (1 : Fin 2) = 1 := by
    show (7168 + 7168 - 1) / 7168 = 1
    norm_num
  have nG : grid0.N = 36 := by decide
  refine ⟨fun a => ?_, fun β => ⟨⟨(β (0 : Fin 2)).val, ((β (0 : Fin 2)).isLt.trans_eq n0).trans_eq nG.symm⟩, flush0_4 _ _, fun a => ⟨?_, .inl rfl⟩⟩⟩
  · match a with
    | ⟨0, _⟩ => exact (by decide : 0 < 32)
    | ⟨1, _⟩ => exact (by decide : 0 < 7168)
  · rw [index0_4]
    match a with
    | ⟨0, _⟩ => rfl
    | ⟨1, _⟩ => exact (Nat.lt_one_iff.mp ((β (1 : Fin 2)).isLt.trans_eq n1)).symm

/-- The blocks of this output window tile its array. -/
theorem covers5 : ((cfgM m (ok m)).win 5).Covers := by
  have n0 : ((cfgM m (ok m)).win 5).nblk (0 : Fin 2) = 36 := by
    show (1152 + 32 - 1) / 32 = 36
    norm_num
  have n1 : ((cfgM m (ok m)).win 5).nblk (1 : Fin 2) = 1 := by
    show (56 + 56 - 1) / 56 = 1
    norm_num
  have nG : grid0.N = 36 := by decide
  refine ⟨fun a => ?_, fun β => ⟨⟨(β (0 : Fin 2)).val, ((β (0 : Fin 2)).isLt.trans_eq n0).trans_eq nG.symm⟩, flush0_5 _ _, fun a => ⟨?_, .inl rfl⟩⟩⟩
  · match a with
    | ⟨0, _⟩ => exact (by decide : 0 < 32)
    | ⟨1, _⟩ => exact (by decide : 0 < 56)
  · rw [index0_5]
    match a with
    | ⟨0, _⟩ => rfl
    | ⟨1, _⟩ => exact (Nat.lt_one_iff.mp ((β (1 : Fin 2)).isLt.trans_eq n1)).symm

/-- The two input blocks lie where the output blocks lie. -/
theorem iblk_rows0 (c : Dev nD) (t : Fin (cfgM m (ok m)).N) (y : S32x7168.Idx) (z : S1152x7168.Idx)
    (h0 : (z 0).val = 32 * t.val + (y 0).val) (h1 : (z 1).val = (y 1).val) :
    iblk m (ok m) c 0 t y = V m c main_v0 z := by
  unfold iblk
  refine congrArg (V m c main_v0) (funext fun a => Fin.ext ?_)
  have e := index0_0 m t
  match a with
  | ⟨0, _⟩ => show ((cfgM m (ok m)).win 0).index t (0 : Fin 2) * 32 + 1 * (y 0).val = (z 0).val; rw [e, h0]; show t.val * 32 + _ = _; omega
  | ⟨1, _⟩ => show ((cfgM m (ok m)).win 0).index t (1 : Fin 2) * 7168 + 1 * (y 1).val = (z 1).val; rw [e, h1]; show 0 * 7168 + _ = _; omega

theorem iblk_rows1 (c : Dev nD) (t : Fin (cfgM m (ok m)).N) (y : S32x7168.Idx) (z : S1152x7168.Idx)
    (h0 : (z 0).val = 32 * t.val + (y 0).val) (h1 : (z 1).val = (y 1).val) :
    iblk m (ok m) c 1 t y = V m c main_v1 z := by
  unfold iblk
  refine congrArg (V m c main_v1) (funext fun a => Fin.ext ?_)
  have e := index0_1 m t
  match a with
  | ⟨0, _⟩ => show ((cfgM m (ok m)).win 1).index t (0 : Fin 2) * 32 + 1 * (y 0).val = (z 0).val; rw [e, h0]; show t.val * 32 + _ = _; omega
  | ⟨1, _⟩ => show ((cfgM m (ok m)).win 1).index t (1 : Fin 2) * 7168 + 1 * (y 1).val = (z 1).val; rw [e, h1]; show 0 * 7168 + _ = _; omega

/-- The weights' block is the whole row. -/
theorem iblk_weights (c : Dev nD) (t : Fin (cfgM m (ok m)).N) (k : Fin 7168) :
    iblk m (ok m) c 2 t (ix2 (0 : Fin 1) k) = V m c main_v2 (ix2 (0 : Fin 1) k) := by
  unfold iblk
  refine congrArg (V m c main_v2) (funext fun a => Fin.ext ?_)
  have e := index0_2 m t
  match a with
  | ⟨0, _⟩ => show ((cfgM m (ok m)).win 2).index t (0 : Fin 2) * 1 + 1 * 0 = 0; rw [e]; rfl
  | ⟨1, _⟩ => show ((cfgM m (ok m)).win 2).index t (1 : Fin 2) * 7168 + 1 * k.val = k.val; rw [e]; show 0 * 7168 + _ = _; omega

/-- Where two arrays agree with two others, so do the sums. -/
theorem sumOf_congr {s t : Shape} {x r : FVec Ideal s .bf16} {x' r' : FVec Ideal t .bf16} {i : s.Idx} {j : t.Idx}
    (hx : x i = x' j) (hr : r i = r' j) : sumOf x r i = sumOf x' r' j := by
  simp only [sumOf, truncf, addf, extf, hx, hr]

/-- The normed rows of the arrays. -/
def rowArr (X R : S1152x7168.Idx → EReal) (W : S1x7168.Idx → EReal) (r : Fin 1152) : Fin 7168 → EReal :=
  normed (fun k => sumOf (s := S1152x7168) X R (ix2 r k)) (fun k => W (ix2 0 k))
def codesArr (X R : S1152x7168.Idx → EReal) (W : S1x7168.Idx → EReal) (z : S1152x7168.Idx) : EReal := codeOf (rowArr X R W (z 0)) (z 1)
def scalesArr (X R : S1152x7168.Idx → EReal) (W : S1x7168.Idx → EReal) (z : S1152x56.Idx) : EReal := scaleOf (rowArr X R W (z 0)) (z 1)

/-- The normed row of the blocks is the arrays' there. -/
theorem row_blocks (c : Dev nD) (t : Fin (cfgM m (ok m)).N) (r : Fin 32) (z : Fin 1152) (h : z.val = 32 * t.val + r.val) :
    normed (fun k => sumOf (s := S32x7168) (iblk m (ok m) c 0 t) (iblk m (ok m) c 1 t) (ix2 r k)) (fun k => (iblk m (ok m) c 2 t : S1x7168.Idx → EReal) (ix2 0 k))
      = rowArr (V m c main_v0) (V m c main_v1) (V m c main_v2) z := by
  unfold rowArr
  refine congrArg₂ normed (funext fun k => ?_) (funext fun k => iblk_weights m c t k)
  exact sumOf_congr (iblk_rows0 m c t (ix2 r k) (ix2 z k) h rfl) (iblk_rows1 m c t (ix2 r k) (ix2 z k) h rfl)

theorem after_codes (c : Dev nD) (t : Fin (cfgM m (ok m)).N) : (dats m (ok m) 0 c).after 4 t
    = codesBlock c (ms0_0 m (ok m) t) (hs0_0 m (ok m) t) (ms0_1 m (ok m) t) (hs0_1 m (ok m) t) (iblk m (ok m) c 0 t) (iblk m (ok m) c 1 t) (iblk m (ok m) c 2 t) := by
  refine (after0_4 m (ok m) c t).trans ?_
  unfold outsAt0
  exact out_codes c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (tbl m 0)

/-- What the call leaves in this result array. -/
theorem final_codes (c : Dev nD) : (dats m (ok m) 0 c).arrAt 4 (cfgM m (ok m)).N = codesArr (V m c main_v0) (V m c main_v1) (V m c main_v2) := by
  refine (dats m (ok m) 0 c).arrAt_eq_of_covers 4 _ (covers4 m) fun t hf y => ?_
  have e := index0_4 m t
  have h0 : ((((cfgM m (ok m)).win 4).blk t).view.emb y (0 : Fin 2)).val = 32 * t.val + (y (0 : Fin 2)).val := by
    show ((cfgM m (ok m)).win 4).index t (0 : Fin 2) * 32 + 1 * (y (0 : Fin 2)).val = _
    rw [e]; show t.val * 32 + _ = _; omega
  have h1 : ((((cfgM m (ok m)).win 4).blk t).view.emb y (1 : Fin 2)).val = (y (1 : Fin 2)).val := by
    show ((cfgM m (ok m)).win 4).index t (1 : Fin 2) * 7168 + 1 * (y (1 : Fin 2)).val = _
    rw [e]; show 0 * 7168 + _ = _; omega
  refine Eq.trans (congrFun (after_codes m c t) y) ?_
  exact congrArg₂ codeOf ((row_eq c _ _ _ _ _ _ _ _).trans (row_blocks m c t (y (0 : Fin 2)) _ h0)) (Fin.ext h1.symm)

theorem after_scales (c : Dev nD) (t : Fin (cfgM m (ok m)).N) : (dats m (ok m) 0 c).after 5 t
    = scalesBlock c (ms0_0 m (ok m) t) (hs0_0 m (ok m) t) (ms0_1 m (ok m) t) (hs0_1 m (ok m) t) (iblk m (ok m) c 0 t) (iblk m (ok m) c 1 t) (iblk m (ok m) c 2 t) := by
  refine (after0_5 m (ok m) c t).trans ?_
  unfold outsAt0
  exact out_scales c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (tbl m 0)

/-- What the call leaves in this result array. -/
theorem final_scales (c : Dev nD) : (dats m (ok m) 0 c).arrAt 5 (cfgM m (ok m)).N = scalesArr (V m c main_v0) (V m c main_v1) (V m c main_v2) := by
  refine (dats m (ok m) 0 c).arrAt_eq_of_covers 5 _ (covers5 m) fun t hf y => ?_
  have e := index0_5 m t
  have h0 : ((((cfgM m (ok m)).win 5).blk t).view.emb y (0 : Fin 2)).val = 32 * t.val + (y (0 : Fin 2)).val := by
    show ((cfgM m (ok m)).win 5).index t (0 : Fin 2) * 32 + 1 * (y (0 : Fin 2)).val = _
    rw [e]; show t.val * 32 + _ = _; omega
  have h1 : ((((cfgM m (ok m)).win 5).blk t).view.emb y (1 : Fin 2)).val = (y (1 : Fin 2)).val := by
    show ((cfgM m (ok m)).win 5).index t (1 : Fin 2) * 56 + 1 * (y (1 : Fin 2)).val = _
    rw [e]; show 0 * 56 + _ = _; omega
  refine Eq.trans (congrFun (after_scales m c t) y) ?_
  exact congrArg₂ scaleOf ((row_eq c _ _ _ _ _ _ _ _).trans (row_blocks m c t (y (0 : Fin 2)) _ h0)) (Fin.ext h1.symm)

theorem found0 (c : Dev nD) : V m c main_v0 = shapeCast S1152x7168 (m ((c : Thread nD τ).loc main_arg0)) shapeCasts_S3x384x7168_S1152x7168 := by
  after_reads_simp
  rfl
theorem found1 (c : Dev nD) : V m c main_v1 = shapeCast S1152x7168 (m ((c : Thread nD τ).loc main_arg1)) shapeCasts_S3x384x7168_S1152x7168 := by
  after_reads_simp
  rfl
theorem found2 (c : Dev nD) : V m c main_v2 = shapeCast S1x7168 (m ((c : Thread nD τ).loc main_arg2)) shapeCasts_S7168_S1x7168 := by
  after_reads_simp
  rfl

/-- What the lines after the call leave in the results, from whatever they find. -/
theorem line_codes (W : Valuation τ sig (Elt Ideal)) : StableHlo.after hostOps1 W (Proc.devRef .tc main_v4)
    = shapeCast S3x384x7168 (W (Proc.devRef .tc main_v3_1)) shapeCasts_S1152x7168_S3x384x7168 := by
  after_reads_simp
  rfl
theorem line_scales (W : Valuation τ sig (Elt Ideal)) : StableHlo.after hostOps1 W (Proc.devRef .tc main_v5)
    = shapeCast S3x384x56 (W (Proc.devRef .tc main_v3_2)) shapeCasts_S1152x56_S3x384x56 := by
  after_reads_simp
  rfl

/-- The arguments' sums and weights, as rows. -/
def sums (A R : S3x384x7168.Idx → EReal) (b : Fin 3) (l : Fin 384) (k : Fin 7168) : EReal := sumOf (s := S3x384x7168) A R (ix3 b l k)

theorem rowArr_reshaped (A R : S3x384x7168.Idx → EReal) (W : S7168.Idx → EReal) (b : Fin 3) (l : Fin 384) (h : b.val * 384 + l.val < 1152) :
    rowArr (shapeCast S1152x7168 A shapeCasts_S3x384x7168_S1152x7168) (shapeCast S1152x7168 R shapeCasts_S3x384x7168_S1152x7168)
      (shapeCast S1x7168 W shapeCasts_S7168_S1x7168) ⟨b.val * 384 + l.val, h⟩ = normed (sums A R b l) (fun k => W (ix1 k)) := by
  unfold rowArr
  refine congrArg₂ normed (funext fun k => ?_) (funext fun k => ?_)
  · refine sumOf_congr ?_ ?_
    · pointwise
    · pointwise
  · pointwise

theorem result_codes (c : Dev nD) : Pipeline.afterTail pcfgs (fun _ => adm m (ok m)) (dats m (ok m)) 0 (V0 m) [hostOps1] c main_v4
    = codes (sums (m ((c : Thread nD τ).loc main_arg0)) (m ((c : Thread nD τ).loc main_arg1))) (fun k => m ((c : Thread nD τ).loc main_arg2) (ix1 k)) := by
  refine (line_codes _).trans ?_
  refine Eq.trans (congrArg (fun u => shapeCast S3x384x7168 u shapeCasts_S1152x7168_S3x384x7168) (a₂ := codesArr (V m c main_v0) (V m c main_v1) (V m c main_v2)) ?_) ?_
  · exact (Pipeline.withArrays_arr spec0 (launch0 (F := Ideal)).win.arr_inj c (V0 m c) _ 4).trans (final_codes m c)
  · rw [found0, found1, found2]
    funext z
    obtain ⟨b, l, k, rfl⟩ : ∃ b l k, z = ix3 b l k := ⟨z 0, z 1, z 2, eq_ix3 z⟩
    pointwise
    unfold codesArr codes
    exact congrArg (fun ρ => codeOf ρ k) (rowArr_reshaped _ _ _ b l _)

theorem result_scales (c : Dev nD) : Pipeline.afterTail pcfgs (fun _ => adm m (ok m)) (dats m (ok m)) 0 (V0 m) [hostOps1] c main_v5
    = Cert.Quantiser.scales (sums (m ((c : Thread nD τ).loc main_arg0)) (m ((c : Thread nD τ).loc main_arg1))) (fun k => m ((c : Thread nD τ).loc main_arg2) (ix1 k)) := by
  refine (line_scales _).trans ?_
  refine Eq.trans (congrArg (fun u => shapeCast S3x384x56 u shapeCasts_S1152x56_S3x384x56) (a₂ := scalesArr (V m c main_v0) (V m c main_v1) (V m c main_v2)) ?_) ?_
  · exact (Pipeline.withArrays_arr spec0 (launch0 (F := Ideal)).win.arr_inj c (V0 m c) _ 5).trans (final_scales m c)
  · rw [found0, found1, found2]
    funext z
    obtain ⟨b, l, k, rfl⟩ : ∃ b l k, z = ix3 b l k := ⟨z 0, z 1, z 2, eq_ix3 z⟩
    pointwise
    unfold scalesArr Cert.Quantiser.scales
    exact congrArg (fun ρ => scaleOf ρ k) (rowArr_reshaped _ _ _ b l _)

/-- Every execution ends with the results the codes and the scales of the normed sums, the arguments unchanged. -/
theorem values : θ_run defs (onTc (τ := τ) (main (F := Ideal))) ⟨m, fun _ => 0, ρ⟩ (fun r => ∀ c : Dev nD,
      r.2.mem ((c.tc : Thread nD τ).loc main_v4) = codes (sums (m ((c : Thread nD τ).loc main_arg0)) (m ((c : Thread nD τ).loc main_arg1))) (fun k => m ((c : Thread nD τ).loc main_arg2) (ix1 k))
      ∧ r.2.mem ((c.tc : Thread nD τ).loc main_v5) = Cert.Quantiser.scales (sums (m ((c : Thread nD τ).loc main_arg0)) (m ((c : Thread nD τ).loc main_arg1))) (fun k => m ((c : Thread nD τ).loc main_arg2) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v4 (by decide : main_v4 ∈ Pipeline.restRefs sig spec0)).trans (result_codes m c),
        ((h.1 c).2 main_v5 (by decide : main_v5 ∈ Pipeline.restRefs sig spec0)).trans (result_scales m c), h.2 c⟩)
    (θ_run_and (run_main m ρ (ok m)) (unchanged m ρ (ok m)))

end Cert.QuantIdeal.Body
-- ==== Proof.QuantReferenceTile.lean ====
/- What the quantiser's reference's kernel computes over the reals. -/
module

public import proofs.«01_k».proof.Proof.Gen.QuantReferenceIdeal.Frame
public import proofs.«01_k».proof.Proof.Quantiser
public import Idealize.ShloMosaic.Lib.Pipeline.ValueKit

@[expose] public section

set_option maxRecDepth 16384

noncomputable section

namespace Cert.QuantReferenceIdeal.Body

open Cert.QuantReferenceIdeal.Gen
open Idealize.ShloMosaic Idealize.ShloMosaic.TcCoe Idealize.ShloMosaic.Tactic
open Idealize.SL Idealize.SL.RA
open Idealize.ShloMosaic.Pipeline (Dat Cfg Window)
open Cert.Quantiser

/-- A row of 56 groups of 128 columns, as 7168 columns. -/
def flat (Y : S1152x56x128.Idx → EReal) (r : Fin 1152) (k : Fin 7168) : EReal := Y (ix3 r (grp k) ⟨k.val % 128, Nat.mod_lt _ (by decide)⟩)

theorem grp_col (g : Fin 56) (l : Fin 128) : grp (col g l) = g := Fin.ext (by show (128 * g.val + l.val) / 128 = g.val; omega)

theorem flat_col (Y : S1152x56x128.Idx → EReal) (r : Fin 1152) (g : Fin 56) (l : Fin 128) : flat Y r (col g l) = Y (ix3 r g l) := by
  unfold flat
  exact congrArg Y (congrArg₂ (fun a b => ix3 r a b) (grp_col g l) (Fin.ext (by show (128 * g.val + l.val) % 128 = l.val; omega)))

theorem pay_x (Y : FVec Ideal S1152x56x128 .f32) : k0_pay1 (F := Ideal) Y = Y := by
  simp only [k0_pay1]
  exact shapeCast_self (s := S1152x56x128) _ _

theorem pay_max (X : FVec Ideal S1152x56x128 .f32) (r : Fin 1152) (g : Fin 56) :
    multiReduction (F := Ideal) (φ := .f32) .maximumf [2] S1152x56 (absf X) 0xFF800000#32 reduces_S1152x56x128_S1152x56 (.inl rfl) rfl (ix2 r g) = groupMax (flat X r) g := by
  unfold groupMax
  pointwise
  simp only [flat_col]

theorem pay_expo (X : FVec Ideal S1152x56x128 .f32)  :
    k0_pay2 (F := Ideal) X = expo (s := S1152x56) invLog2 (multiReduction (F := Ideal) (φ := .f32) .maximumf [2] S1152x56 (absf (k0_pay1 X)) 0xFF800000#32 reduces_S1152x56x128_S1152x56 (.inl rfl) rfl) := by
  simp only [k0_pay2, expo]
  rfl

/-- A value times the inverse of its scale, clipped: the code. -/
theorem clip_of {s : Shape} (x i : FVec Ideal s .f32) (e : EReal) (z : s.Idx) (hb : FTy.bits .fp8e4m3 < FTy.bits .f32)
    (h : i z = exp2 (F := Ideal) (s := ⟨0, ![]⟩) (φ := .f32) (subf (broadcast _ (Scalar.ofBits .f32 0x00000000#32)) (fun _ => e)) (fun a => a.elim0)) :
    truncf (F := Ideal) .fp8e4m3 (minimumf (broadcast s (Scalar.ofBits .f32 0x43E00000#32)) (maximumf (broadcast s (Scalar.ofBits .f32 0xC3E00000#32)) (mulf x i))) hb z
      = clip (s := ⟨0, ![]⟩) (fun _ => x z) (fun _ => e) (fun a => a.elim0) := by
  simp only [clip, truncf, minimumf, maximumf, broadcast, mulf, h]

theorem spread (E : FVec Ideal S1152x56 .f32) (r : Fin 1152) (g : Fin 56) (l : Fin 128) :
    broadcastTo S1152x56x128 (shapeCast S1152x56x1 E shapeCasts_S1152x56_S1152x56x1) broadcasts_S1152x56x1_S1152x56x128 (ix3 r g l) = E (ix2 r g) := by
  pointwise

theorem expo_of {s : Shape} (A : FVec Ideal s .f32) (i : s.Idx) (x : Fin 7168 → EReal) (g : Fin 56) (h : A i = groupMax x g) : expo invLog2 A i = exponent x g := by
  unfold exponent
  exact expo_congr h

theorem scale_of {s : Shape} (E : FVec Ideal s .f32) (i : s.Idx) (x : Fin 7168 → EReal) (g : Fin 56) (h : E i = exponent x g) : exp2 (F := Ideal) E i = scaleOf x g := by
  unfold scaleOf
  simp only [exp2, h]

theorem pay_e (X : FVec Ideal S1152x56x128 .f32) (r : Fin 1152) (g : Fin 56) : k0_pay2 (F := Ideal) X (ix2 r g) = exponent (flat X r) g := by
  refine (congrFun (pay_expo X) (ix2 r g)).trans (expo_of _ _ _ _ ?_)
  rw [pay_x]
  exact pay_max X r g

theorem pay_scale (X : FVec Ideal S1152x56x128 .f32) (r : Fin 1152) (g : Fin 56) : k0_pay4 (F := Ideal) X (ix2 r g) = scaleOf (flat X r) g := by
  rw [k0_pay4]
  exact scale_of _ _ _ _ (pay_e X r g)

theorem inv_of {s : Shape} (E : FVec Ideal s .f32) (i : s.Idx) (e : EReal) (h : E i = e) :
    exp2 (F := Ideal) (subf (broadcast s (Scalar.ofBits .f32 0x00000000#32)) E) i
      = exp2 (F := Ideal) (s := ⟨0, ![]⟩) (φ := .f32) (subf (broadcast _ (Scalar.ofBits .f32 0x00000000#32)) (fun _ => e)) (fun a => a.elim0) := by
  simp only [exp2, subf, broadcast, h]

theorem pay_code_apply (X : FVec Ideal S1152x56x128 .f32) (z : S1152x56x128.Idx) (y : S1152x56.Idx) (e : EReal)
    (hs : ∀ E : FVec Ideal S1152x56 .f32, broadcastTo S1152x56x128 (shapeCast S1152x56x1 E shapeCasts_S1152x56_S1152x56x1) broadcasts_S1152x56x1_S1152x56x128 z = E y)
    (he : k0_pay2 (F := Ideal) X y = e) : k0_pay3 (F := Ideal) X z = clip (s := ⟨0, ![]⟩) (fun _ => X z) (fun _ => e) (fun a => a.elim0) := by
  rw [k0_pay3, pay_x]
  exact clip_of X _ e z _ ((hs _).trans (inv_of _ y e he))

theorem pay_code (X : FVec Ideal S1152x56x128 .f32) (r : Fin 1152) (g : Fin 56) (l : Fin 128) :
    k0_pay3 (F := Ideal) X (ix3 r g l) = codeOf (flat X r) (col g l) := by
  have he : k0_pay2 (F := Ideal) X (ix2 r g) = exponent (flat X r) (grp (col g l)) := (pay_e X r g).trans (congrArg (exponent (flat X r)) (grp_col g l).symm)
  refine (pay_code_apply X (ix3 r g l) (ix2 r g) _ (fun E => spread E r g l) he).trans ?_
  unfold codeOf
  rw [flat_col]

theorem out_codes (X : FVec Ideal S1152x56x128 .f32) : out0_1 (F := Ideal) X = k0_pay3 (F := Ideal) X := by
  unfold out0_1
  exact (View.canon_cons_unit_lit _ _ _ (by intro a; match a with | ⟨0, _⟩ => rfl | ⟨1, _⟩ => rfl | ⟨2, _⟩ => rfl)).trans
    (congrArg (k0_pay3 (F := Ideal)) (View.ld_unit_lit _ _ (by intro a; match a with | ⟨0, _⟩ => rfl | ⟨1, _⟩ => rfl | ⟨2, _⟩ => rfl)))

theorem out_scales (X : FVec Ideal S1152x56x128 .f32) : out0_2 (F := Ideal) X = k0_pay4 (F := Ideal) X := by
  unfold out0_2
  exact (View.canon_cons_unit_lit _ _ _ (by intro a; match a with | ⟨0, _⟩ => rfl | ⟨1, _⟩ => rfl)).trans
    (congrArg (k0_pay4 (F := Ideal)) (View.ld_unit_lit _ _ (by intro a; match a with | ⟨0, _⟩ => rfl | ⟨1, _⟩ => rfl | ⟨2, _⟩ => rfl)))

end Cert.QuantReferenceIdeal.Body
-- ==== Proof.QuantReferenceArray.lean ====
/- What the quantiser's reference leaves in its results over the reals. -/
module

public import proofs.«01_k».proof.Proof.QuantReferenceTile
public import Idealize.ShloMosaic.Lib.StableHlo.RunRead

@[expose] public section

set_option maxRecDepth 16384

noncomputable section

namespace Cert.QuantReferenceIdeal.Body

open Cert.QuantReferenceIdeal.Gen
open Idealize.ShloMosaic Idealize.ShloMosaic.TcCoe Idealize.ShloMosaic.Tactic
open Idealize.SL Idealize.SL.RA
open Idealize.ShloMosaic.Pipeline (Dat Cfg Window)
open Cert.Quantiser

variable (m : (ℓ : Loc nD τ sig) → Buf (Elt Ideal) ℓ) (ρ : Dev nD → PrngReg)
theorem index1 (t : Fin cfg0.N) (a : Fin 3) : (cfg0.win 1).index t a = 0 := by
  match a with
  | ⟨0, _⟩ => rfl
  | ⟨1, _⟩ => rfl
  | ⟨2, _⟩ => rfl
theorem index0 (t : Fin cfg0.N) (a : Fin 3) : (cfg0.win 0).index t a = 0 := by
  match a with
  | ⟨0, _⟩ => rfl
  | ⟨1, _⟩ => rfl
  | ⟨2, _⟩ => rfl
theorem index2 (t : Fin cfg0.N) (a : Fin 2) : (cfg0.win 2).index t a = 0 := by
  match a with
  | ⟨0, _⟩ => rfl
  | ⟨1, _⟩ => rfl

/-- The one point's blocks are the whole arrays. -/
theorem covers1 : (cfg0.win 1).Covers := by
  have n0 : (cfg0.win 1).nblk (0 : Fin 3) = 1 := by show (1152 + 1152 - 1) / 1152 = 1; norm_num
  have n1 : (cfg0.win 1).nblk (1 : Fin 3) = 1 := by show (56 + 56 - 1) / 56 = 1; norm_num
  have n2 : (cfg0.win 1).nblk (2 : Fin 3) = 1 := by show (128 + 128 - 1) / 128 = 1; norm_num
  refine ⟨fun a => ?_, fun β => ⟨⟨0, by decide⟩, flush0_1 _, fun a => ⟨?_, .inl rfl⟩⟩⟩
  · match a with
    | ⟨0, _⟩ => exact (by decide : 0 < 1152)
    | ⟨1, _⟩ => exact (by decide : 0 < 56)
    | ⟨2, _⟩ => exact (by decide : 0 < 128)
  · rw [index1]
    match a with
    | ⟨0, _⟩ => exact (Nat.lt_one_iff.mp ((β (0 : Fin 3)).isLt.trans_eq n0)).symm
    | ⟨1, _⟩ => exact (Nat.lt_one_iff.mp ((β (1 : Fin 3)).isLt.trans_eq n1)).symm
    | ⟨2, _⟩ => exact (Nat.lt_one_iff.mp ((β (2 : Fin 3)).isLt.trans_eq n2)).symm

theorem covers2 : (cfg0.win 2).Covers := by
  have n0 : (cfg0.win 2).nblk (0 : Fin 2) = 1 := by show (1152 + 1152 - 1) / 1152 = 1; norm_num
  have n1 : (cfg0.win 2).nblk (1 : Fin 2) = 1 := by show (56 + 56 - 1) / 56 = 1; norm_num
  refine ⟨fun a => ?_, fun β => ⟨⟨0, by decide⟩, flush0_2 _, fun a => ⟨?_, .inl rfl⟩⟩⟩
  · match a with
    | ⟨0, _⟩ => exact (by decide : 0 < 1152)
    | ⟨1, _⟩ => exact (by decide : 0 < 56)
  · rw [index2]
    match a with
    | ⟨0, _⟩ => exact (Nat.lt_one_iff.mp ((β (0 : Fin 2)).isLt.trans_eq n0)).symm
    | ⟨1, _⟩ => exact (Nat.lt_one_iff.mp ((β (1 : Fin 2)).isLt.trans_eq n1)).symm

theorem iblk_all (c : Dev nD) (t : Fin cfg0.N) : iblk m c 0 t = V m c main_v18 := by
  funext y
  unfold iblk
  refine congrArg (V m c main_v18) (funext fun a => Fin.ext ?_)
  have e := index0 t
  match a with
  | ⟨0, _⟩ => show (cfg0.win 0).index t (0 : Fin 3) * 1152 + 1 * (y 0).val = (y 0).val; rw [e]; omega
  | ⟨1, _⟩ => show (cfg0.win 0).index t (1 : Fin 3) * 56 + 1 * (y 1).val = (y 1).val; rw [e]; omega
  | ⟨2, _⟩ => show (cfg0.win 0).index t (2 : Fin 3) * 128 + 1 * (y 2).val = (y 2).val; rw [e]; omega

theorem emb1 (t : Fin cfg0.N) (y : S1152x56x128.Idx) : ((cfg0.win 1).blk t).view.emb y = y := by
  refine funext fun a => Fin.ext ?_
  have e := index1 t
  match a with
  | ⟨0, _⟩ => show (cfg0.win 1).index t (0 : Fin 3) * 1152 + 1 * (y 0).val = (y 0).val; rw [e]; omega
  | ⟨1, _⟩ => show (cfg0.win 1).index t (1 : Fin 3) * 56 + 1 * (y 1).val = (y 1).val; rw [e]; omega
  | ⟨2, _⟩ => show (cfg0.win 1).index t (2 : Fin 3) * 128 + 1 * (y 2).val = (y 2).val; rw [e]; omega

theorem emb2 (t : Fin cfg0.N) (y : S1152x56.Idx) : ((cfg0.win 2).blk t).view.emb y = y := by
  refine funext fun a => Fin.ext ?_
  have e := index2 t
  match a with
  | ⟨0, _⟩ => show (cfg0.win 2).index t (0 : Fin 2) * 1152 + 1 * (y 0).val = (y 0).val; rw [e]; omega
  | ⟨1, _⟩ => show (cfg0.win 2).index t (1 : Fin 2) * 56 + 1 * (y 1).val = (y 1).val; rw [e]; omega

theorem final_codes (c : Dev nD) : (dats m 0 c).arrAt 1 cfg0.N = out0_1 (F := Ideal) (V m c main_v18) := by
  refine (dats m 0 c).arrAt_eq_of_covers 1 _ covers1 fun t hf y => ?_
  refine Eq.trans (congrFun ((after0_1 m c t).trans (congrArg (out0_1 (F := Ideal)) (iblk_all m c t))) y) ?_
  exact congrArg (out0_1 (F := Ideal) (V m c main_v18)) (emb1 t y).symm

theorem final_scales (c : Dev nD) : (dats m 0 c).arrAt 2 cfg0.N = out0_2 (F := Ideal) (V m c main_v18) := by
  refine (dats m 0 c).arrAt_eq_of_covers 2 _ covers2 fun t hf y => ?_
  refine Eq.trans (congrFun ((after0_2 m c t).trans (congrArg (out0_2 (F := Ideal)) (iblk_all m c t))) y) ?_
  exact congrArg (out0_2 (F := Ideal) (V m c main_v18)) (emb2 t y).symm

/-- The reference's normed sums, as its lines compute them. -/
def normedLines (A R : FVec Ideal S3x384x7168 .bf16) (W : FVec Ideal S7168 .f32) : FVec Ideal S3x384x7168 .f32 :=
  have h : FVec Ideal S3x384x7168 .f32 := extf .f32 (truncf .bf16 (addf (extf .f32 A bitsLt_bf16_f32) (extf .f32 R bitsLt_bf16_f32)) bitsLt_bf16_f32) bitsLt_bf16_f32
  mulf (mulf h (broadcastInDim S3x384x7168 ![0, 1, 2] bcast_S3x384x1_S3x384x7168_0_1_2 (Host.rsqrt (addf
      (Host.divf (broadcastInDim S3x384x1 ![0, 1] bcast_S3x384_S3x384x1_0_1 (Host.reduceAdd (mulf h h) (constant S_ .f32 0x00000000#32) reducesTo_S3x384x7168_S3x384_d2 h_S_))
        (broadcastInDim S3x384x1 ![] bcast_S_S3x384x1 (constant S_ .f32 0x45E00000#32)))
      (broadcastInDim S3x384x1 ![] bcast_S_S3x384x1 (constant S_ .f32 0x358637BD#32))))))
    (broadcastInDim S3x384x7168 ![0, 1, 2] bcast_S1x1x7168_S3x384x7168_0_1_2 (broadcastInDim S1x1x7168 ![2] bcast_S7168_S1x1x7168_2 W))

theorem d_model : Ideal.ofBits .f32 0x45E00000#32 = ((7168 : ℝ) : EReal) := by
  simp [Ideal.ofBits, Ideal.ieee, -EReal.coe_mul]
  norm_num

theorem div_d (x : EReal) : Ideal.div x (Ideal.ofBits .f32 0x45E00000#32) = x * (((1 / 7168 : ℝ)) : EReal) := by
  rw [d_model]
  unfold Ideal.div
  rw [if_neg (by exact_mod_cast (by norm_num : (7168 : ℝ) ≠ 0)), ← EReal.coe_inv, one_div]

theorem normedLines_apply (A R : FVec Ideal S3x384x7168 .bf16) (W : FVec Ideal S7168 .f32) (b : Fin 3) (l : Fin 384) (k : Fin 7168) :
    normedLines A R W (ix3 b l k) = normed (fun k => (A (ix3 b l k) + R (ix3 b l k) : EReal)) (fun k => W (ix1 k)) k := by
  unfold normedLines normed invRms
  pointwise
  rw [div_d]

theorem found (c : Dev nD) : V m c main_v18 = shapeCast S1152x56x128
    (normedLines (m ((c : Thread nD τ).loc main_arg0)) (m ((c : Thread nD τ).loc main_arg1)) (m ((c : Thread nD τ).loc main_arg2))) shapeCasts_S3x384x7168_S1152x56x128 := by
  after_reads_simp
  rfl

theorem line_codes (W : Valuation τ sig (Elt Ideal)) : StableHlo.after hostOps1 W (Proc.devRef .tc main_v20)
    = shapeCast S3x384x7168 (W (Proc.devRef .tc main_v19_0)) shapeCasts_S1152x56x128_S3x384x7168 := by
  after_reads_simp
  rfl
theorem line_scales (W : Valuation τ sig (Elt Ideal)) : StableHlo.after hostOps1 W (Proc.devRef .tc main_v21)
    = shapeCast S3x384x56 (W (Proc.devRef .tc main_v19_1)) shapeCasts_S1152x56_S3x384x56 := by
  after_reads_simp
  rfl

/-- The arguments' sums, as rows. -/
def sums (A R : S3x384x7168.Idx → EReal) (b : Fin 3) (l : Fin 384) (k : Fin 7168) : EReal := A (ix3 b l k) + R (ix3 b l k)

/-- The rows the call finds are the normed rows. -/
theorem flat_lines (A R : FVec Ideal S3x384x7168 .bf16) (W : FVec Ideal S7168 .f32) (b : Fin 3) (l : Fin 384) (h : b.val * 384 + l.val < 1152) :
    flat (shapeCast S1152x56x128 (normedLines A R W) shapeCasts_S3x384x7168_S1152x56x128) ⟨b.val * 384 + l.val, h⟩ = normed (sums A R b l) (fun k => W (ix1 k)) := by
  funext k
  refine Eq.trans ?_ (normedLines_apply A R W b l k)
  unfold flat
  refine shapeCast_apply _ _ _ (ix3 b l k) ?_
  refine (Shape.rowMajor_val_three (d := ![3, 384, 7168]) _).trans (Eq.trans ?_ (Shape.rowMajor_val_three (d := ![1152, 56, 128]) _).symm)
  show (b.val * 384 + l.val) * 7168 + k.val = ((b.val * 384 + l.val) * 56 + k.val / 128) * 128 + k.val % 128
  omega

theorem result_codes (c : Dev nD) : Pipeline.afterTail₀ cfgs (dats m) 0 (V0 m) [hostOps1] c main_v20
    = codes (sums (m ((c : Thread nD τ).loc main_arg0)) (m ((c : Thread nD τ).loc main_arg1))) (fun k => m ((c : Thread nD τ).loc main_arg2) (ix1 k)) := by
  refine (line_codes _).trans ?_
  refine Eq.trans (congrArg (fun u => shapeCast S3x384x7168 u shapeCasts_S1152x56x128_S3x384x7168) (a₂ := k0_pay3 (F := Ideal) (V m c main_v18)) ?_) ?_
  · exact (Pipeline.withArrays_arr spec0 launch0.win.arr_inj c (V0 m c) _ 1).trans ((final_codes m c).trans (out_codes _))
  · rw [found]
    funext z
    obtain ⟨b, l, k, rfl⟩ : ∃ b l k, z = ix3 b l k := ⟨z 0, z 1, z 2, eq_ix3 z⟩
    refine (shapeCast_apply _ _ _ (ix3 (⟨b.val * 384 + l.val, by omega⟩ : Fin 1152) (grp k) (⟨k.val % 128, Nat.mod_lt _ (by decide)⟩ : Fin 128)) ?_).trans ?_
    · refine (Shape.rowMajor_val_three (d := ![1152, 56, 128]) _).trans (Eq.trans ?_ (Shape.rowMajor_val_three (d := ![3, 384, 7168]) _).symm)
      show ((b.val * 384 + l.val) * 56 + k.val / 128) * 128 + k.val % 128 = (b.val * 384 + l.val) * 7168 + k.val
      omega
    · rw [pay_code]
      unfold codes
      rw [flat_lines]
      exact congrArg (codeOf _) (Fin.ext (by show 128 * (k.val / 128) + k.val % 128 = k.val; omega))

theorem result_scales (c : Dev nD) : Pipeline.afterTail₀ cfgs (dats m) 0 (V0 m) [hostOps1] c main_v21
    = Cert.Quantiser.scales (sums (m ((c : Thread nD τ).loc main_arg0)) (m ((c : Thread nD τ).loc main_arg1))) (fun k => m ((c : Thread nD τ).loc main_arg2) (ix1 k)) := by
  refine (line_scales _).trans ?_
  refine Eq.trans (congrArg (fun u => shapeCast S3x384x56 u shapeCasts_S1152x56_S3x384x56) (a₂ := k0_pay4 (F := Ideal) (V m c main_v18)) ?_) ?_
  · exact (Pipeline.withArrays_arr spec0 launch0.win.arr_inj c (V0 m c) _ 2).trans ((final_scales m c).trans (out_scales _))
  · rw [found]
    funext z
    obtain ⟨b, l, k, rfl⟩ : ∃ b l k, z = ix3 b l k := ⟨z 0, z 1, z 2, eq_ix3 z⟩
    pointwise
    rw [pay_scale]
    exact congrArg (fun ρ => scaleOf ρ k) (flat_lines _ _ _ b l _)

/-- Every execution ends with the results the codes and the scales of the normed sums, the arguments unchanged. -/
theorem values : θ_run defs (onTc (τ := τ) (main (F := Ideal))) ⟨m, fun _ => 0, ρ⟩ (fun r => ∀ c : Dev nD,
      r.2.mem ((c.tc : Thread nD τ).loc main_v20) = codes (sums (m ((c : Thread nD τ).loc main_arg0)) (m ((c : Thread nD τ).loc main_arg1))) (fun k => m ((c : Thread nD τ).loc main_arg2) (ix1 k))
      ∧ r.2.mem ((c.tc : Thread nD τ).loc main_v21) = Cert.Quantiser.scales (sums (m ((c : Thread nD τ).loc main_arg0)) (m ((c : Thread nD τ).loc main_arg1))) (fun k => m ((c : Thread nD τ).loc main_arg2) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v20 (by decide : main_v20 ∈ Pipeline.restRefs sig spec0)).trans (result_codes m c),
        ((h.1 c).2 main_v21 (by decide : main_v21 ∈ Pipeline.restRefs sig spec0)).trans (result_scales m c), h.2 c⟩)
    (θ_run_and (run_main m ρ) (unchanged m ρ))

end Cert.QuantReferenceIdeal.Body
-- ==== Proof.QuantClaims.lean ====
/- The claims about the quantiser: the call with its reference's logarithm, and its reference, run with their
   arguments unchanged and every counter at zero, and over the reals they end with equal codes and scales. -/
module

public import proofs.«01_k».proof.Defs
public import proofs.«01_k».proof.Proof.Gen.Quant.Frame
public import proofs.«01_k».proof.Proof.QuantArray
public import proofs.«01_k».proof.Proof.QuantReferenceArray

@[expose] public section

noncomputable section

open Idealize.ShloMosaic

/-- The quantising call runs, whatever its arguments: no index map reads the prefetched table. -/
theorem Cert.Proof.quiescent_Quant : Cert.quiescent_Quant (hQuant := Cert.Quant.Gen.facts) :=
  fun m g _ => Cert.Quant.Gen.frame m g trivial

theorem Cert.Proof.quiescent_QuantIdeal : Cert.quiescent_QuantIdeal (hQuantIdeal := Cert.QuantIdeal.Gen.facts) :=
  fun m g _ => Cert.QuantIdeal.Gen.frame m g trivial

theorem Cert.Proof.quiescent_QuantReferenceIdeal : Cert.quiescent_QuantReferenceIdeal (hQuantReferenceIdeal := Cert.QuantReferenceIdeal.Gen.facts) :=
  fun m g _ => Cert.QuantReferenceIdeal.Gen.frame m g

/-- The two constants named are the reciprocals of the width and of the logarithm of two. -/
theorem Cert.Proof.preserves_Quant : Cert.preserves_Quant_QuantIdeal :=
  ⟨IdealRules.named_const.statement Cert.QuantIdeal.κ "inv_d" .f32 0x39124925#32 ((1 / 7168 : ℝ) : EReal) rfl,
    IdealRules.named_const.statement Cert.QuantIdeal.κ "inv_log_2" .f32 0x3FB8AA3B#32 (((Real.log 2)⁻¹ : ℝ) : EReal) rfl⟩

/-- From equal arguments both end with the codes and the scales of the normed sums of the first two. -/
theorem Cert.Proof.algebraic_Quant : Cert.algebraic_QuantIdeal_QuantReferenceIdeal
    (hQuantIdeal := Cert.QuantIdeal.Gen.facts) (hQuantReferenceIdeal := Cert.QuantReferenceIdeal.Gen.facts) := by
  intro m g m' g' _ hargs
  refine ⟨_, _, Cert.QuantIdeal.Body.values m g, ?_⟩
  refine (θ_run Cert.QuantReferenceIdeal.defs _ _).mono (fun r h c => ?_) (Cert.QuantReferenceIdeal.Body.values m' g')
  have hsums : ∀ A R, Cert.QuantReferenceIdeal.Body.sums A R = Cert.QuantIdeal.Body.sums A R := fun _ _ => rfl
  obtain ⟨hc, hs, hrest⟩ := h c
  rw [(hargs c).1, (hargs c).2.1, (hargs c).2.2.1, hsums] at hc hs
  exact ⟨hc, hs, hrest⟩
-- ==== Proof.lean ====
/- The claims: each program runs with its arguments unchanged and every counter at zero, the kernel's
   idealization keeps its meaning, over the reals the kernel's results are the reference's, the other call's
   sum is its reference's bit for bit, and over the reals its codes and scales are its reference's. -/
module

public import proofs.«01_k».proof.Defs
public import proofs.«01_k».proof.Proof.KernelFrame
public import proofs.«01_k».proof.Proof.Gen.KernelIdeal.Frame
public import proofs.«01_k».proof.Proof.Gen.KernelIdeal.Loops
public import proofs.«01_k».proof.Proof.Gen.ReferenceIdeal.Frame
public import proofs.«01_k».proof.Proof.Arrays
public import proofs.«01_k».proof.Proof.Host
public import proofs.«01_k».proof.Proof.SumClaims
public import proofs.«01_k».proof.Proof.QuantClaims
public import Idealize.ShloMosaic.Lib.Bf16Pair

@[expose] public section

open Idealize.ShloMosaic

/-- The idealization's one rule keeps the meaning of what it rewrote: two bf16 rows packed in 32-bit words. -/
theorem Cert.Proof.preserves : Cert.preserves_Kernel_KernelIdeal :=
  ⟨IdealRules.bf16_pair.packStatement _, IdealRules.bf16_pair.statement _ _⟩

/-- From equal arguments the two programs end with equal queries, keys and values: each is the projection, with
    the rotary embedding, of its argument arrays. -/
theorem Cert.Proof.algebraic : Cert.algebraic_KernelIdeal_ReferenceIdeal
    (hKernelIdeal := Cert.KernelIdeal.Gen.facts) (hReferenceIdeal := Cert.ReferenceIdeal.Gen.facts) := by
  intro m g m' g' _ hargs
  have h0 (c) : Cert.ReferenceIdeal.Host.acts m' c = Cert.KernelIdeal.Body.acts m c := (hargs c).1
  have h1 (c) : Cert.ReferenceIdeal.Host.wts m' c = Cert.KernelIdeal.Body.wts m c := (hargs c).2.1
  have h2 (c) : Cert.ReferenceIdeal.Host.scales m' c = Cert.KernelIdeal.Body.scales m c := (hargs c).2.2.1
  have h3 (c) : Cert.ReferenceIdeal.Host.cosines m' c = Cert.KernelIdeal.Body.cosines m c := (hargs c).2.2.2.1
  have h4 (c) : Cert.ReferenceIdeal.Host.sines m' c = Cert.KernelIdeal.Body.sines m c := (hargs c).2.2.2.2
  refine ⟨fun c => Cert.KernelIdeal.Body.queriesOf m c, fun c => Cert.KernelIdeal.Body.keysOf m c,
    fun c => Cert.KernelIdeal.Body.valuesOf m c, Cert.KernelIdeal.Body.values m g, ?_⟩
  refine (θ_run Cert.ReferenceIdeal.defs _ _).mono (fun r h c => ?_) (Cert.ReferenceIdeal.Host.values m' g')
  obtain ⟨hq, hk, hv, hrest⟩ := h c
  rw [h0, h1, h2, h3, h4] at hq hk
  rw [h0, h1, h2] at hv
  exact ⟨hq, hk, hv, hrest⟩

theorem Cert.Proof.claim : Cert.Claim :=
  ⟨Cert.Kernel.Gen.facts, Cert.KernelIdeal.Gen.facts, Cert.ReferenceIdeal.Gen.facts, Cert.Sum.Gen.facts, Cert.SumReference.Gen.facts,
    Cert.Quant.Gen.facts, Cert.QuantIdeal.Gen.facts, Cert.QuantReferenceIdeal.Gen.facts,
    fun m ρ _ => Cert.Kernel.Body.frame m ρ, fun m ρ _ => Cert.KernelIdeal.Body.frame m ρ,
    fun m ρ _ => Cert.ReferenceIdeal.Gen.frame m ρ, Cert.Proof.quiescent_Sum, Cert.Proof.quiescent_SumReference,
    Cert.Proof.quiescent_Quant, Cert.Proof.quiescent_QuantIdeal, Cert.Proof.quiescent_QuantReferenceIdeal,
    Cert.Proof.preserves, Cert.Proof.algebraic, Cert.Proof.bitexact_Sum, Cert.Proof.preserves_Quant, Cert.Proof.algebraic_Quant⟩
